-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v114)) (v3 : (c : Dev Cert.KernelIdeal.nD) → Buf (Elt Ideal) ((c.tc : Thread Cert.KernelIdeal.nD Cert.KernelIdeal.τ).loc Cert.KernelIdeal.main_v113_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v114) = v2 c
          ∧ r.2.mem ((c.tc : Thread Cert.KernelIdeal.nD Cert.KernelIdeal.τ).loc Cert.KernelIdeal.main_v113_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v206) = v2 c
          ∧ r.2.mem ((c.tc : Thread Cert.ReferenceIdeal.nD Cert.ReferenceIdeal.τ).loc Cert.ReferenceIdeal.main_values_20) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x256x64x64 : Shape := ⟨4, ![1, 256, 64, 64]⟩
abbrev S12288x4 : Shape := ⟨2, ![12288, 4]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩

class Facts : Prop where
  bcast_S_S1x256x64x64 : S_.BroadcastsInDim S1x256x64x64 (![] : Fin 0 → Fin S1x256x64x64.rank)
  reducesTo_S1x256x64x64_S_d0_1_2_3 : S1x256x64x64.ReducesTo [0, 1, 2, 3] S_
  h_S_ : 0 < S_.numel
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S256 : S_.BroadcastsInDim S256 (![] : Fin 0 → Fin S256.rank)
  reducesTo_S256_S_d0 : S256.ReducesTo [0] S_
  bcast_S_S3x256x1x1 : S_.BroadcastsInDim S3x256x1x1 (![] : Fin 0 → Fin S3x256x1x1.rank)
  reducesTo_S3x256x1x1_S_d0_1_2_3 : S3x256x1x1.ReducesTo [0, 1, 2, 3] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S3x256x1x1 1) : IVec S_ 1 :=
  let main_c_5 : IVec S_ 1 := constantI S_ 1 1#1
  let main_v17 : IVec S_ 1 := (fun x v => Host.reduce IntOp.andi x v reducesTo_S3x256x1x1_S_d0_1_2_3 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S1x256x64x64 .f32) (main_arg1 : FVec F S12288x4 .f32) (main_arg2 : FVec F S256x256x3x3 .f32) (main_arg3 : FVec F S256 .f32) (main_arg4 : FVec F S3x256x1x1 .f32) (main_arg5 : FVec F S3 .f32) (main_arg6 : FVec F S12x256x1x1 .f32) (main_arg7 : FVec F S12 .f32) : IVec S_ 1 :=
  let main_v0 : FVec F S1x256x64x64 .f32 := Host.absf main_arg0
  let main_cst : FVec F S_ .f32 := constant S_ .f32 0x7F800000#32
  let main_v1 : FVec F S1x256x64x64 .f32 := broadcastInDim S1x256x64x64 ![] bcast_S_S1x256x64x64 main_cst
  let main_v2 : IVec S1x256x64x64 1 := cmpf .olt main_v0 main_v1
  let main_c : IVec S_ 1 := constantI S_ 1 1#1
  let main_v3 : IVec S_ 1 := (fun x v => Host.reduce IntOp.andi x v reducesTo_S1x256x64x64_S_d0_1_2_3 h_S_) main_v2 main_c
  let main_v4 : FVec F S256x256x3x3 .f32 := Host.absf main_arg2
  let main_cst_0 : FVec F S_ .f32 := constant S_ .f32 0x7F800000#32
  let main_v5 : FVec F S256x256x3x3 .f32 := broadcastInDim S256x256x3x3 ![] bcast_S_S256x256x3x3 main_cst_0
  let main_v6 : IVec S256x256x3x3 1 := cmpf .olt main_v4 main_v5
  let main_c_1 : IVec S_ 1 := constantI S_ 1 1#1
  let main_v7 : IVec S_ 1 := (fun x v => Host.reduce IntOp.andi x v reducesTo_S256x256x3x3_S_d0_1_2_3 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x1x1 .f32 := Host.absf main_arg4
  let main_cst_4 : FVec F S_ .f32 := constant S_ .f32 0x7F800000#32
  let main_v15 : FVec F S3x256x1x1 .f32 := broadcastInDim S3x256x1x1 ![] bcast_S_S3x256x1x1 main_cst_4
  let main_v16 : IVec S3x256x1x1 1 := cmpf .olt main_v14 main_v15
  fn_part1 (F := F) main_arg5 main_v13 main_v16
-- ==== Kernel.lean ====
abbrev S1x256x64x64 : Shape := ⟨4, ![1, 256, 64, 64]⟩
abbrev S12288x4 : Shape := ⟨2, ![12288, 4]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S256x64x64 : Shape := ⟨3, ![256, 64, 64]⟩
abbrev S256x4096 : Shape := ⟨2, ![256, 4096]⟩
abbrev S4096x256 : Shape := ⟨2, ![4096, 256]⟩
abbrev S3x3x256x256 : Shape := ⟨4, ![3, 3, 256, 256]⟩
abbrev S2304x256 : Shape := ⟨2, ![2304, 256]⟩
abbrev S_ : Shape := ⟨0, ![]⟩
abbrev S256x16 : Shape := ⟨2, ![256, 16]⟩
abbrev S3x256 : Shape := ⟨2, ![3, 256]⟩
abbrev S256x3 : Shape := ⟨2, ![256, 3]⟩
abbrev S1 : Shape := ⟨1, ![1]⟩
abbrev S12x256 : Shape := ⟨2, ![12, 256]⟩
abbrev S256x12 : Shape := ⟨2, ![256, 12]⟩
abbrev S1x16 : Shape := ⟨2, ![1, 16]⟩
abbrev S2 : Shape := ⟨1, ![2]⟩
abbrev S1x256 : Shape := ⟨2, ![1, 256]⟩
abbrev S4096x16 : Shape := ⟨2, ![4096, 16]⟩
abbrev S4096x1 : Shape := ⟨2, ![4096, 1]⟩
abbrev S65x256 : Shape := ⟨2, ![65, 256]⟩
abbrev S4031x256 : Shape := ⟨2, ![4031, 256]⟩
abbrev S256x256 : Shape := ⟨2, ![256, 256]⟩
abbrev S64x256 : Shape := ⟨2, ![64, 256]⟩
abbrev S4032x256 : Shape := ⟨2, ![4032, 256]⟩
abbrev S63x256 : Shape := ⟨2, ![63, 256]⟩
abbrev S4033x256 : Shape := ⟨2, ![4033, 256]⟩
abbrev S4095x256 : Shape := ⟨2, ![4095, 256]⟩
abbrev S4096x3 : Shape := ⟨2, ![4096, 3]⟩
abbrev S3x4096 : Shape := ⟨2, ![3, 4096]⟩
abbrev S1x3x64x64 : Shape := ⟨4, ![1, 3, 64, 64]⟩
abbrev S4096x12 : Shape := ⟨2, ![4096, 12]⟩
abbrev S12x4096 : Shape := ⟨2, ![12, 4096]⟩
abbrev S1x12x64x64 : Shape := ⟨4, ![1, 12, 64, 64]⟩
abbrev S12288 : Shape := ⟨1, ![12288]⟩
abbrev S1000 : Shape := ⟨1, ![1000]⟩
abbrev S1000x1 : Shape := ⟨2, ![1000, 1]⟩
abbrev S1000x4 : Shape := ⟨2, ![1000, 4]⟩
abbrev S24x4 : Shape := ⟨2, ![24, 4]⟩
abbrev S1024x4 : Shape := ⟨2, ![1024, 4]⟩
abbrev S24 : Shape := ⟨1, ![24]⟩
abbrev S1024 : Shape := ⟨1, ![1024]⟩
abbrev S4x1024 : Shape := ⟨2, ![4, 1024]⟩
abbrev S1024x32 : Shape := ⟨2, ![1024, 32]⟩
abbrev S1024x1 : Shape := ⟨2, ![1024, 1]⟩
abbrev S1x1024 : Shape := ⟨2, ![1, 1024]⟩
abbrev S1024x1024 : Shape := ⟨2, ![1024, 1024]⟩
abbrev S1x32 : Shape := ⟨2, ![1, 32]⟩
abbrev S32768 : Shape := ⟨1, ![32768]⟩
abbrev S4096 : Shape := ⟨1, ![4096]⟩
abbrev S4000 : Shape := ⟨1, ![4000]⟩
abbrev S16 : Shape := ⟨1, ![16]⟩

abbrev nBuf : Table → Nat
  | .hbm => 159
  | .local .tc .vmem => 9
  | .local .scVector .vmem => 5
  | _ => 0

abbrev hbmTy0_0 (i : Nat) : BufTy := match i % 128 with
  | 0 => ⟨S1x256x64x64, .f32⟩
  | 1 => ⟨S12288x4, .f32⟩
  | 2 => ⟨S256x256x3x3, .f32⟩
  | 3 => ⟨S256, .f32⟩
  | 4 => ⟨S3x256x1x1, .f32⟩
  | 5 => ⟨S3, .f32⟩
  | 6 => ⟨S12x256x1x1, .f32⟩
  | 7 => ⟨S12, .f32⟩
  | 8 => ⟨S256x64x64, .f32⟩
  | 9 => ⟨S256x4096, .f32⟩
  | 10 => ⟨S4096x256, .f32⟩
  | 11 => ⟨S3x3x256x256, .f32⟩
  | 12 => ⟨S2304x256, .f32⟩
  | 13 => ⟨S_, .f32⟩
  | 14 => ⟨S256x16, .f32⟩
  | 15 => ⟨S3x256, .f32⟩
  | 16 => ⟨S256x3, .f32⟩
  | 17 => ⟨S_, .i32⟩
  | 18 => ⟨S1, .i32⟩
  | 19 => ⟨S256x16, .f32⟩
  | 20 => ⟨S12x256, .f32⟩
  | 21 => ⟨S256x12, .f32⟩
  | 22 => ⟨S_, .i32⟩
  | 23 => ⟨S1, .i32⟩
  | 24 => ⟨S256x16, .f32⟩
  | 25 => ⟨S_, .f32⟩
  | 26 => ⟨S1x16, .f32⟩
  | 27 => ⟨S_, .i32⟩
  | 28 => ⟨S1, .i32⟩
  | 29 => ⟨S_, .i32⟩
  | 30 => ⟨S1, .i32⟩
  | 31 => ⟨S2, .i32⟩
  | 32 => ⟨S1x16, .f32⟩
  | 33 => ⟨S_, .i32⟩
  | 34 => ⟨S1, .i32⟩
  | 35 => ⟨S_, .i32⟩
  | 36 => ⟨S1, .i32⟩
  | 37 => ⟨S2, .i32⟩
  | 38 => ⟨S1x16, .f32⟩
  | 39 => ⟨S1x256, .f32⟩
  | 40 => ⟨S4096x16, .f32⟩
  | 41 => ⟨S4096x3, .f32⟩
  | 42 => ⟨S3x4096, .f32⟩
  | 43 => ⟨S1x3x64x64, .f32⟩
  | 44 => ⟨S4096x12, .f32⟩
  | 45 => ⟨S12x4096, .f32⟩
  | 46 => ⟨S1x12x64x64, .f32⟩
  | 47 => ⟨S4096x3, .f32⟩
  | 48 => ⟨S12288, .f32⟩
  | 49 => ⟨S4096x12, .f32⟩
  | 50 => ⟨S12288x4, .f32⟩
  | 51 => ⟨S1000, .f32⟩
  | 52 => ⟨S1000, .i32⟩
  | 53 => ⟨S_, .i32⟩
  | 54 => ⟨S1000, .i32⟩
  | 55 => ⟨S1000, .i1⟩
  | 56 => ⟨S_, .i32⟩
  | 57 => ⟨S1000, .i32⟩
  | 58 => ⟨S1000, .i32⟩
  | 59 => ⟨S1000, .i32⟩
  | 60 => ⟨S1000x1, .i32⟩
  | 61 => ⟨S1000x4, .f32⟩
  | 62 => ⟨S_, .i32⟩
  | 63 => ⟨S1000, .i32⟩
  | 64 => ⟨S1000, .i1⟩
  | 65 => ⟨S_, .i32⟩
  | 66 => ⟨S1000, .i32⟩
  | 67 => ⟨S1000, .i32⟩
  | 68 => ⟨S1000, .i32⟩
  | 69 => ⟨S1000x1, .i32⟩
  | 70 => ⟨S1000x4, .f32⟩
  | 71 => ⟨S1000x1, .f32⟩
  | 72 => ⟨S1000, .f32⟩
  | 73 => ⟨S1000x1, .f32⟩
  | 74 => ⟨S1000, .f32⟩
  | 75 => ⟨S1000, .f32⟩
  | 76 => ⟨S1000x1, .f32⟩
  | 77 => ⟨S1000, .f32⟩
  | 78 => ⟨S1000x1, .f32⟩
  | 79 => ⟨S1000, .f32⟩
  | 80 => ⟨S1000, .f32⟩
  | 81 => ⟨S1000x1, .f32⟩
  | 82 => ⟨S1000, .f32⟩
  | 83 => ⟨S_, .f32⟩
  | 84 => ⟨S1000, .f32⟩
  | 85 => ⟨S1000, .f32⟩
  | 86 => ⟨S1000, .f32⟩
  | 87 => ⟨S1000x1, .f32⟩
  | 88 => ⟨S1000, .f32⟩
  | 89 => ⟨S_, .f32⟩
  | 90 => ⟨S1000, .f32⟩
  | 91 => ⟨S1000, .f32⟩
  | 92 => ⟨S1000, .f32⟩
  | 93 => ⟨S1000x1, .f32⟩
  | 94 => ⟨S1000, .f32⟩
  | 95 => ⟨S1000x1, .f32⟩
  | 96 => ⟨S1000, .f32⟩
  | 97 => ⟨S1000x1, .f32⟩
  | 98 => ⟨S1000, .f32⟩
  | 99 => ⟨S1000x1, .f32⟩
  | 100 => ⟨S1000, .f32⟩
  | 101 => ⟨S_, .f32⟩
  | 102 => ⟨S_, .f32⟩
  | 103 => ⟨S1000, .f32⟩
  | 104 => ⟨S1000, .f32⟩
  | 105 => ⟨S_, .f32⟩
  | 106 => ⟨S_, .f32⟩
  | 107 => ⟨S1000, .f32⟩
  | 108 => ⟨S1000, .f32⟩
  | 109 => ⟨S1000, .f32⟩
  | 110 => ⟨S1000, .f32⟩
  | 111 => ⟨S1000, .f32⟩
  | 112 => ⟨S1000, .f32⟩
  | 113 => ⟨S1000, .f32⟩
  | 114 => ⟨S1000, .f32⟩
  | 115 => ⟨S1000, .f32⟩
  | 116 => ⟨S1000, .f32⟩
  | 117 => ⟨S_, .f32⟩
  | 118 => ⟨S1000, .f32⟩
  | 119 => ⟨S1000, .f32⟩
  | 120 => ⟨S1000, .f32⟩
  | 121 => ⟨S_, .f32⟩
  | 122 => ⟨S1000, .f32⟩
  | 123 => ⟨S1000, .f32⟩
  | 124 => ⟨S1000, .f32⟩
  | 125 => ⟨S_, .f32⟩
  | 126 => ⟨S1000, .f32⟩
  | 127 => ⟨S1000, .f32⟩
  | _ => ⟨S1x256x64x64, .f32⟩

abbrev hbmTy0_1 (i : Nat) : BufTy := match i % 128 with
  | 0 => ⟨S1000, .f32⟩
  | 1 => ⟨S_, .f32⟩
  | 2 => ⟨S1000, .f32⟩
  | 3 => ⟨S1000, .f32⟩
  | 4 => ⟨S1000, .f32⟩
  | 5 => ⟨S1000x1, .f32⟩
  | 6 => ⟨S1000x1, .f32⟩
  | 7 => ⟨S1000x1, .f32⟩
  | 8 => ⟨S1000x1, .f32⟩
  | 9 => ⟨S1000x4, .f32⟩
  | 10 => ⟨S_, .f32⟩
  | 11 => ⟨S_, .f32⟩
  | 12 => ⟨S_, .f32⟩
  | 13 => ⟨S1000x4, .f32⟩
  | 14 => ⟨S1000x4, .f32⟩
  | 15 => ⟨S_, .f32⟩
  | 16 => ⟨S1000x4, .f32⟩
  | 17 => ⟨S1000x4, .f32⟩
  | 18 => ⟨S_, .f32⟩
  | 19 => ⟨S24x4, .f32⟩
  | 20 => ⟨S1024x4, .f32⟩
  | 21 => ⟨S_, .f32⟩
  | 22 => ⟨S24, .f32⟩
  | 23 => ⟨S1024, .f32⟩
  | 24 => ⟨S4x1024, .f32⟩
  | 25 => ⟨S1024x32, .i32⟩
  | 26 => ⟨S32768, .i32⟩
  | 27 => ⟨S4096, .f32⟩
  | 28 => ⟨S4000, .f32⟩
  | 29 => ⟨S1000, .f32⟩
  | 30 => ⟨S1000x4, .f32⟩
  | _ => ⟨S1x256x64x64, .f32⟩

abbrev hbmTy (i : Nat) : BufTy := match i / 128 with
  | 0 => hbmTy0_0 i
  | 1 => hbmTy0_1 i
  | _ => ⟨S1x256x64x64, .f32⟩

abbrev bufTy : (tb : Table) → Fin (nBuf tb) → BufTy
  | .hbm, ⟨i, _⟩ => hbmTy i
  | .local .tc .vmem, ⟨0, _⟩ => ⟨S4096x256, .f32⟩
  | .local .tc .vmem, ⟨1, _⟩ => ⟨S2304x256, .f32⟩
  | .local .tc .vmem, ⟨2, _⟩ => ⟨S1x256, .f32⟩
  | .local .tc .vmem, ⟨3, _⟩ => ⟨S256x16, .f32⟩
  | .local .tc .vmem, ⟨4, _⟩ => ⟨S1x16, .f32⟩
  | .local .tc .vmem, ⟨5, _⟩ => ⟨S4096x16, .f32⟩
  | .local .tc .vmem, ⟨6, _⟩ => ⟨S1024x4, .f32⟩
  | .local .tc .vmem, ⟨7, _⟩ => ⟨S4x1024, .f32⟩
  | .local .tc .vmem, ⟨8, _⟩ => ⟨S1024x32, .i32⟩
  | .local .scVector .vmem, ⟨0, _⟩ => ⟨S32768, .i32⟩
  | .local .scVector .vmem, ⟨1, _⟩ => ⟨S1024, .f32⟩
  | .local .scVector .vmem, ⟨2, _⟩ => ⟨S4096, .f32⟩
  | .local .scVector .vmem, ⟨3, _⟩ => ⟨S4000, .f32⟩
  | .local .scVector .vmem, ⟨4, _⟩ => ⟨S1000, .f32⟩
  | _, _ => ⟨S1x256x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_values : Ref sig .tc := ⟨.hbm, 51, rfl⟩
abbrev main_indices : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_call0_v0 : Ref sig .tc := ⟨.hbm, 102, rfl⟩
abbrev main_call0_v1 : Ref sig .tc := ⟨.hbm, 103, rfl⟩
abbrev main_v77 : Ref sig .tc := ⟨.hbm, 104, rfl⟩
abbrev main_cst_13 : Ref sig .tc := ⟨.hbm, 105, rfl⟩
abbrev main_call1_v0 : Ref sig .tc := ⟨.hbm, 106, rfl⟩
abbrev main_call1_v1 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_14 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_15 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_16 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_17 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_18 : Ref sig .tc := ⟨.hbm, 138, rfl⟩
abbrev main_cst_19 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_v104 : Ref sig .tc := ⟨.hbm, 145, rfl⟩
abbrev main_cst_20 : Ref sig .tc := ⟨.hbm, 146, rfl⟩
abbrev main_v105 : Ref sig .tc := ⟨.hbm, 147, rfl⟩
abbrev main_v106 : Ref sig .tc := ⟨.hbm, 148, rfl⟩
abbrev main_cst_21 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113_0 : Ref sig .tc := ⟨.hbm, 156, rfl⟩
abbrev main_v113_1 : Ref sig .tc := ⟨.hbm, 157, rfl⟩
abbrev main_v114 : Ref sig .tc := ⟨.hbm, 158, rfl⟩
abbrev main_v111_scv : Ref sig .scVector := ⟨.hbm, 154, rfl⟩
abbrev main_v108_scv : Ref sig .scVector := ⟨.hbm, 151, rfl⟩
abbrev main_v112_scv : Ref sig .scVector := ⟨.hbm, 155, rfl⟩
abbrev main_v113_0_scv : Ref sig .scVector := ⟨.hbm, 156, rfl⟩
abbrev main_v113_1_scv : Ref sig .scVector := ⟨.hbm, 157, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S1024x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x32 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![2, 16], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k2_t1_loop : Scf.Loop 32 :=
  let c0_i32_3 : BitVec 32 := 0#32
  let c1000_i32 : BitVec 32 := 1000#32
  let v7 : BitVec 32 := Scalar.addi c0_i32_3 c1000_i32
  let c1_i32 : BitVec 32 := 1#32
  ⟨c0_i32_3, v7, c1_i32⟩
def k2_off1 (k2_t1 : Fin k2_t1_loop.trips) : Fin 1 → Nat :=
  let c0_i32_3 : BitVec 32 := 0#32
  let c1_i32 : BitVec 32 := 1#32
  let arg12 : BitVec 32 := Scf.iv c0_i32_3 c1_i32 k2_t1
  let c32_i32_32 : BitVec 32 := 32#32
  let v61 : BitVec 32 := Scalar.muli arg12 c32_i32_32
  let v62 : Index := Scalar.indexCast v61
  ![v62.toNat]
def k2_off2 (k2_t1 : Fin k2_t1_loop.trips) : Fin 1 → Nat :=
  let c0_i32_3 : BitVec 32 := 0#32
  let c1_i32 : BitVec 32 := 1#32
  let arg12 : BitVec 32 := Scf.iv c0_i32_3 c1_i32 k2_t1
  let c32_i32_33 : BitVec 32 := 32#32
  let v64 : BitVec 32 := Scalar.muli arg12 c32_i32_33
  let c16_i32_34 : BitVec 32 := 16#32
  let v65 : BitVec 32 := Scalar.addi v64 c16_i32_34
  let v66 : Index := Scalar.indexCast v65
  ![v66.toNat]
@[reducible] def k2_t2_loop : Scf.Loop 32 :=
  let c0_i32_6 : BitVec 32 := 0#32
  let c64_i32 : BitVec 32 := 64#32
  let v9 : BitVec 32 := Scalar.addi c0_i32_6 c64_i32
  let c1_i32_7 : BitVec 32 := 1#32
  ⟨c0_i32_6, v9, c1_i32_7⟩
@[reducible] def k2_t3_loop : Scf.Loop 32 :=
  let c0_i32_10 : BitVec 32 := 0#32
  let c64_i32_11 : BitVec 32 := 64#32
  let v11 : BitVec 32 := Scalar.addi c0_i32_10 c64_i32_11
  let c1_i32_12 : BitVec 32 := 1#32
  ⟨c0_i32_10, v11, c1_i32_12⟩
def k2_off3 (k2_t3 : Fin k2_t3_loop.trips) : Fin 1 → Nat :=
  let c0_i32_10 : BitVec 32 := 0#32
  let c1_i32_12 : BitVec 32 := 1#32
  let arg12 : BitVec 32 := Scf.iv c0_i32_10 c1_i32_12 k2_t3
  let c16_i32_41 : BitVec 32 := 16#32
  let v90 : BitVec 32 := Scalar.muli arg12 c16_i32_41
  let v91 : Index := Scalar.indexCast v90
  ![v91.toNat]

def k2_chk1 (i : grid2.Coords) (v89 : IVec S16 32) : Prop :=
  (∀ (k2_h1 : k2_cond1 i = 1#1), ∀ a x, ((![v89] : Fin 1 → IVec S16 32) a x).toNat < S1000.size a)
theorem k2_idx1_inb : ∀ (i : grid2.Coords) (v89 : IVec S16 32) (k2_hw1 : k2_chk1 i v89), ∀ (k2_h1 : k2_cond1 i = 1#1), ∀ a x, ((![v89] : Fin 1 → IVec S16 32) a x).toNat < S1000.size a := fun i v89 k2_hw1 k2_h1 => k2_hw1 k2_h1
def k2_off4 (k2_t3 : Fin k2_t3_loop.trips) : Fin 1 → Nat :=
  let c0_i32_43 : BitVec 32 := 0#32
  let c0_i32_10 : BitVec 32 := 0#32
  let c1_i32_12 : BitVec 32 := 1#32
  let arg12 : BitVec 32 := Scf.iv c0_i32_10 c1_i32_12 k2_t3
  let c16_i32_42 : BitVec 32 := 16#32
  let v95 : BitVec 32 := Scalar.muli arg12 c16_i32_42
  let v96 : BitVec 32 := Scalar.addi c0_i32_43 v95
  let v97 : Index := Scalar.indexCast v96
  ![v97.toNat]

def k2_chk2 (i : grid2.Coords) (v102 : IVec S16 32) : Prop :=
  (∀ (k2_h1 : k2_cond1 i = 1#1), ∀ a x, ((![v102] : Fin 1 → IVec S16 32) a x).toNat < S4000.size a)
theorem k2_idx2_inb : ∀ (i : grid2.Coords) (v102 : IVec S16 32) (k2_hw2 : k2_chk2 i v102), ∀ (k2_h1 : k2_cond1 i = 1#1), ∀ a x, ((![v102] : Fin 1 → IVec S16 32) a x).toNat < S4000.size a := fun i v102 k2_hw2 k2_h1 => k2_hw2 k2_h1
def k2_off5 (k2_t3 : Fin k2_t3_loop.trips) : Fin 1 → Nat :=
  let c1024_i32 : BitVec 32 := 1024#32
  let c0_i32_10 : BitVec 32 := 0#32
  let c1_i32_12 : BitVec 32 := 1#32
  let arg12 : BitVec 32 := Scf.iv c0_i32_10 c1_i32_12 k2_t3
  let c16_i32_45 : BitVec 32 := 16#32
  let v103 : BitVec 32 := Scalar.muli arg12 c16_i32_45
  let v104 : BitVec 32 := Scalar.addi c1024_i32 v103
  let v105 : Index := Scalar.indexCast v104
  ![v105.toNat]

def k2_chk3 (i : grid2.Coords) (v110 : IVec S16 32) : Prop :=
  (∀ (k2_h1 : k2_cond1 i = 1#1), ∀ a x, ((![v110] : Fin 1 → IVec S16 32) a x).toNat < S4000.size a)
theorem k2_idx3_inb : ∀ (i : grid2.Coords) (v110 : IVec S16 32) (k2_hw3 : k2_chk3 i v110), ∀ (k2_h1 : k2_cond1 i = 1#1), ∀ a x, ((![v110] : Fin 1 → IVec S16 32) a x).toNat < S4000.size a := fun i v110 k2_hw3 k2_h1 => k2_hw3 k2_h1
def k2_off6 (k2_t3 : Fin k2_t3_loop.trips) : Fin 1 → Nat :=
  let c2048_i32 : BitVec 32 := 2048#32
  let c0_i32_10 : BitVec 32 := 0#32
  let c1_i32_12 : BitVec 32 := 1#32
  let arg12 : BitVec 32 := Scf.iv c0_i32_10 c1_i32_12 k2_t3
  let c16_i32_48 : BitVec 32 := 16#32
  let v111 : BitVec 32 := Scalar.muli arg12 c16_i32_48
  let v112 : BitVec 32 := Scalar.addi c2048_i32 v111
  let v113 : Index := Scalar.indexCast v112
  ![v113.toNat]

def k2_chk4 (i : grid2.Coords) (v118 : IVec S16 32) : Prop :=
  (∀ (k2_h1 : k2_cond1 i = 1#1), ∀ a x, ((![v118] : Fin 1 → IVec S16 32) a x).toNat < S4000.size a)
theorem k2_idx4_inb : ∀ (i : grid2.Coords) (v118 : IVec S16 32) (k2_hw4 : k2_chk4 i v118), ∀ (k2_h1 : k2_cond1 i = 1#1), ∀ a x, ((![v118] : Fin 1 → IVec S16 32) a x).toNat < S4000.size a := fun i v118 k2_hw4 k2_h1 => k2_hw4 k2_h1
def k2_off7 (k2_t3 : Fin k2_t3_loop.trips) : Fin 1 → Nat :=
  let c3072_i32 : BitVec 32 := 3072#32
  let c0_i32_10 : BitVec 32 := 0#32
  let c1_i32_12 : BitVec 32 := 1#32
  let arg12 : BitVec 32 := Scf.iv c0_i32_10 c1_i32_12 k2_t3
  let c16_i32_51 : BitVec 32 := 16#32
  let v119 : BitVec 32 := Scalar.muli arg12 c16_i32_51
  let v120 : BitVec 32 := Scalar.addi c3072_i32 v119
  let v121 : Index := Scalar.indexCast v120
  ![v121.toNat]

def k2_chk5 (i : grid2.Coords) (v126 : IVec S16 32) : Prop :=
  (∀ (k2_h1 : k2_cond1 i = 1#1), ∀ a x, ((![v126] : Fin 1 → IVec S16 32) a x).toNat < S4000.size a)
theorem k2_idx5_inb : ∀ (i : grid2.Coords) (v126 : IVec S16 32) (k2_hw5 : k2_chk5 i v126), ∀ (k2_h1 : k2_cond1 i = 1#1), ∀ a x, ((![v126] : Fin 1 → IVec S16 32) a x).toNat < S4000.size a := fun i v126 k2_hw5 k2_h1 => k2_hw5 k2_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x256x64x64 : Shape := ⟨4, ![1, 256, 64, 64]⟩
abbrev S12288x4 : Shape := ⟨2, ![12288, 4]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S256x64x64 : Shape := ⟨3, ![256, 64, 64]⟩
abbrev S_ : Shape := ⟨0, ![]⟩
abbrev S256x66x66 : Shape := ⟨3, ![256, 66, 66]⟩
abbrev S256x256x1x1 : Shape := ⟨4, ![256, 256, 1, 1]⟩
abbrev S256x256 : Shape := ⟨2, ![256, 256]⟩
abbrev S256x1x1 : Shape := ⟨3, ![256, 1, 1]⟩
abbrev S3x256 : Shape := ⟨2, ![3, 256]⟩
abbrev S3x64x64 : Shape := ⟨3, ![3, 64, 64]⟩
abbrev S3x1x1 : Shape := ⟨3, ![3, 1, 1]⟩
abbrev S1x3x64x64 : Shape := ⟨4, ![1, 3, 64, 64]⟩
abbrev S12x256 : Shape := ⟨2, ![12, 256]⟩
abbrev S12x64x64 : Shape := ⟨3, ![12, 64, 64]⟩
abbrev S12x1x1 : Shape := ⟨3, ![12, 1, 1]⟩
abbrev S1x12x64x64 : Shape := ⟨4, ![1, 12, 64, 64]⟩
abbrev S64x64x3 : Shape := ⟨3, ![64, 64, 3]⟩
abbrev S12288 : Shape := ⟨1, ![12288]⟩
abbrev S3x4x64x64 : Shape := ⟨4, ![3, 4, 64, 64]⟩
abbrev S64x64x3x4 : Shape := ⟨4, ![64, 64, 3, 4]⟩
abbrev S1000 : Shape := ⟨1, ![1000]⟩
abbrev S1000x1 : Shape := ⟨2, ![1000, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩

abbrev nBuf : Space → Nat
  | .hbm => 304
  | .vmem => 0
  | .smem => 0
  | _ => 0

abbrev hbmTy0_0 (i : Nat) : BufTy := match i % 128 with
  | 0 => ⟨S1x256x64x64, .f32⟩
  | 1 => ⟨S12288x4, .f32⟩
  | 2 => ⟨S256x256x3x3, .f32⟩
  | 3 => ⟨S256, .f32⟩
  | 4 => ⟨S3x256x1x1, .f32⟩
  | 5 => ⟨S3, .f32⟩
  | 6 => ⟨S12x256x1x1, .f32⟩
  | 7 => ⟨S12, .f32⟩
  | 8 => ⟨S256x64x64, .f32⟩
  | 9 => ⟨S_, .i32⟩
  | 10 => ⟨S_, .f32⟩
  | 11 => ⟨S256x66x66, .f32⟩
  | 12 => ⟨S_, .f32⟩
  | 13 => ⟨S256x64x64, .f32⟩
  | 14 => ⟨S256x256x1x1, .f32⟩
  | 15 => ⟨S256x256, .f32⟩
  | 16 => ⟨S256x64x64, .f32⟩
  | 17 => ⟨S256x64x64, .f32⟩
  | 18 => ⟨S256x64x64, .f32⟩
  | 19 => ⟨S256x256x1x1, .f32⟩
  | 20 => ⟨S256x256, .f32⟩
  | 21 => ⟨S256x64x64, .f32⟩
  | 22 => ⟨S256x64x64, .f32⟩
  | 23 => ⟨S256x64x64, .f32⟩
  | 24 => ⟨S256x256x1x1, .f32⟩
  | 25 => ⟨S256x256, .f32⟩
  | 26 => ⟨S256x64x64, .f32⟩
  | 27 => ⟨S256x64x64, .f32⟩
  | 28 => ⟨S256x64x64, .f32⟩
  | 29 => ⟨S256x256x1x1, .f32⟩
  | 30 => ⟨S256x256, .f32⟩
  | 31 => ⟨S256x64x64, .f32⟩
  | 32 => ⟨S256x64x64, .f32⟩
  | 33 => ⟨S256x64x64, .f32⟩
  | 34 => ⟨S256x256x1x1, .f32⟩
  | 35 => ⟨S256x256, .f32⟩
  | 36 => ⟨S256x64x64, .f32⟩
  | 37 => ⟨S256x64x64, .f32⟩
  | 38 => ⟨S256x64x64, .f32⟩
  | 39 => ⟨S256x256x1x1, .f32⟩
  | 40 => ⟨S256x256, .f32⟩
  | 41 => ⟨S256x64x64, .f32⟩
  | 42 => ⟨S256x64x64, .f32⟩
  | 43 => ⟨S256x64x64, .f32⟩
  | 44 => ⟨S256x256x1x1, .f32⟩
  | 45 => ⟨S256x256, .f32⟩
  | 46 => ⟨S256x64x64, .f32⟩
  | 47 => ⟨S256x64x64, .f32⟩
  | 48 => ⟨S256x64x64, .f32⟩
  | 49 => ⟨S256x256x1x1, .f32⟩
  | 50 => ⟨S256x256, .f32⟩
  | 51 => ⟨S256x64x64, .f32⟩
  | 52 => ⟨S256x64x64, .f32⟩
  | 53 => ⟨S256x64x64, .f32⟩
  | 54 => ⟨S256x256x1x1, .f32⟩
  | 55 => ⟨S256x256, .f32⟩
  | 56 => ⟨S256x64x64, .f32⟩
  | 57 => ⟨S256x64x64, .f32⟩
  | 58 => ⟨S256x64x64, .f32⟩
  | 59 => ⟨S256x1x1, .f32⟩
  | 60 => ⟨S256x64x64, .f32⟩
  | 61 => ⟨S256x64x64, .f32⟩
  | 62 => ⟨S1x256x64x64, .f32⟩
  | 63 => ⟨S_, .f32⟩
  | 64 => ⟨S1x256x64x64, .f32⟩
  | 65 => ⟨S1x256x64x64, .f32⟩
  | 66 => ⟨S3x256, .f32⟩
  | 67 => ⟨S256x64x64, .f32⟩
  | 68 => ⟨S3x64x64, .f32⟩
  | 69 => ⟨S3x1x1, .f32⟩
  | 70 => ⟨S3x64x64, .f32⟩
  | 71 => ⟨S3x64x64, .f32⟩
  | 72 => ⟨S1x3x64x64, .f32⟩
  | 73 => ⟨S12x256, .f32⟩
  | 74 => ⟨S256x64x64, .f32⟩
  | 75 => ⟨S12x64x64, .f32⟩
  | 76 => ⟨S12x1x1, .f32⟩
  | 77 => ⟨S12x64x64, .f32⟩
  | 78 => ⟨S12x64x64, .f32⟩
  | 79 => ⟨S1x12x64x64, .f32⟩
  | 80 => ⟨S3x64x64, .f32⟩
  | 81 => ⟨S64x64x3, .f32⟩
  | 82 => ⟨S12288, .f32⟩
  | 83 => ⟨S12x64x64, .f32⟩
  | 84 => ⟨S3x4x64x64, .f32⟩
  | 85 => ⟨S64x64x3x4, .f32⟩
  | 86 => ⟨S12288x4, .f32⟩
  | 87 => ⟨S1000, .f32⟩
  | 88 => ⟨S1000, .i32⟩
  | 89 => ⟨S_, .i32⟩
  | 90 => ⟨S1000, .i32⟩
  | 91 => ⟨S1000, .i1⟩
  | 92 => ⟨S_, .i32⟩
  | 93 => ⟨S1000, .i32⟩
  | 94 => ⟨S1000, .i32⟩
  | 95 => ⟨S1000, .i32⟩
  | 96 => ⟨S1000x1, .i32⟩
  | 97 => ⟨S1000x4, .f32⟩
  | 98 => ⟨S_, .i32⟩
  | 99 => ⟨S1000, .i32⟩
  | 100 => ⟨S1000, .i1⟩
  | 101 => ⟨S_, .i32⟩
  | 102 => ⟨S1000, .i32⟩
  | 103 => ⟨S1000, .i32⟩
  | 104 => ⟨S1000, .i32⟩
  | 105 => ⟨S1000x1, .i32⟩
  | 106 => ⟨S1000x4, .f32⟩
  | 107 => ⟨S1000x1, .f32⟩
  | 108 => ⟨S1000, .f32⟩
  | 109 => ⟨S1000x1, .f32⟩
  | 110 => ⟨S1000, .f32⟩
  | 111 => ⟨S1000, .f32⟩
  | 112 => ⟨S1000x1, .f32⟩
  | 113 => ⟨S1000, .f32⟩
  | 114 => ⟨S1000x1, .f32⟩
  | 115 => ⟨S1000, .f32⟩
  | 116 => ⟨S1000, .f32⟩
  | 117 => ⟨S1000x1, .f32⟩
  | 118 => ⟨S1000, .f32⟩
  | 119 => ⟨S_, .f32⟩
  | 120 => ⟨S1000, .f32⟩
  | 121 => ⟨S1000, .f32⟩
  | 122 => ⟨S1000, .f32⟩
  | 123 => ⟨S1000x1, .f32⟩
  | 124 => ⟨S1000, .f32⟩
  | 125 => ⟨S_, .f32⟩
  | 126 => ⟨S1000, .f32⟩
  | 127 => ⟨S1000, .f32⟩
  | _ => ⟨S1x256x64x64, .f32⟩

abbrev hbmTy0_1 (i : Nat) : BufTy := match i % 128 with
  | 0 => ⟨S1000, .f32⟩
  | 1 => ⟨S1000x1, .f32⟩
  | 2 => ⟨S1000, .f32⟩
  | 3 => ⟨S1000x1, .f32⟩
  | 4 => ⟨S1000, .f32⟩
  | 5 => ⟨S1000x1, .f32⟩
  | 6 => ⟨S1000, .f32⟩
  | 7 => ⟨S1000x1, .f32⟩
  | 8 => ⟨S1000, .f32⟩
  | 9 => ⟨S_, .f32⟩
  | 10 => ⟨S_, .f32⟩
  | 11 => ⟨S1000, .f32⟩
  | 12 => ⟨S1000, .f32⟩
  | 13 => ⟨S_, .f32⟩
  | 14 => ⟨S_, .f32⟩
  | 15 => ⟨S1000, .f32⟩
  | 16 => ⟨S1000, .f32⟩
  | 17 => ⟨S1000, .f32⟩
  | 18 => ⟨S1000, .f32⟩
  | 19 => ⟨S1000, .f32⟩
  | 20 => ⟨S1000, .f32⟩
  | 21 => ⟨S1000, .f32⟩
  | 22 => ⟨S1000, .f32⟩
  | 23 => ⟨S1000, .f32⟩
  | 24 => ⟨S1000, .f32⟩
  | 25 => ⟨S_, .f32⟩
  | 26 => ⟨S1000, .f32⟩
  | 27 => ⟨S1000, .f32⟩
  | 28 => ⟨S1000, .f32⟩
  | 29 => ⟨S_, .f32⟩
  | 30 => ⟨S1000, .f32⟩
  | 31 => ⟨S1000, .f32⟩
  | 32 => ⟨S1000, .f32⟩
  | 33 => ⟨S_, .f32⟩
  | 34 => ⟨S1000, .f32⟩
  | 35 => ⟨S1000, .f32⟩
  | 36 => ⟨S1000, .f32⟩
  | 37 => ⟨S_, .f32⟩
  | 38 => ⟨S1000, .f32⟩
  | 39 => ⟨S1000, .f32⟩
  | 40 => ⟨S1000, .f32⟩
  | 41 => ⟨S1000x1, .f32⟩
  | 42 => ⟨S1000x1, .f32⟩
  | 43 => ⟨S1000x1, .f32⟩
  | 44 => ⟨S1000x1, .f32⟩
  | 45 => ⟨S1000x4, .f32⟩
  | 46 => ⟨S_, .f32⟩
  | 47 => ⟨S_, .f32⟩
  | 48 => ⟨S_, .f32⟩
  | 49 => ⟨S1000x4, .f32⟩
  | 50 => ⟨S1000x4, .f32⟩
  | 51 => ⟨S_, .f32⟩
  | 52 => ⟨S1000x4, .f32⟩
  | 53 => ⟨S1000x4, .f32⟩
  | 54 => ⟨S1000x1, .f32⟩
  | 55 => ⟨S1000, .f32⟩
  | 56 => ⟨S1000x1, .f32⟩
  | 57 => ⟨S1000, .f32⟩
  | 58 => ⟨S1000, .f32⟩
  | 59 => ⟨S1000x1, .f32⟩
  | 60 => ⟨S1000, .f32⟩
  | 61 => ⟨S1000x1, .f32⟩
  | 62 => ⟨S1000, .f32⟩
  | 63 => ⟨S1000, .f32⟩
  | 64 => ⟨S1000, .f32⟩
  | 65 => ⟨S1000x1, .f32⟩
  | 66 => ⟨S1000, .f32⟩
  | 67 => ⟨S1000x1, .f32⟩
  | 68 => ⟨S1000, .f32⟩
  | 69 => ⟨S1000, .f32⟩
  | 70 => ⟨S1000x1, .f32⟩
  | 71 => ⟨S1000, .f32⟩
  | 72 => ⟨S1000x1, .f32⟩
  | 73 => ⟨S1000, .f32⟩
  | 74 => ⟨S1000, .f32⟩
  | 75 => ⟨S1000, .f32⟩
  | 76 => ⟨S1000x2, .f32⟩
  | 77 => ⟨S1000x1x2, .f32⟩
  | 78 => ⟨S1000x2, .f32⟩
  | 79 => ⟨S1x1000x2, .f32⟩
  | 80 => ⟨S1000x1000x2, .f32⟩
  | 81 => ⟨S1000x1000x2, .f32⟩
  | 82 => ⟨S1000x1000x2, .f32⟩
  | 83 => ⟨S1000x2, .f32⟩
  | 84 => ⟨S1000x1x2, .f32⟩
  | 85 => ⟨S1000x2, .f32⟩
  | 86 => ⟨S1x1000x2, .f32⟩
  | 87 => ⟨S1000x1000x2, .f32⟩
  | 88 => ⟨S1000x1000x2, .f32⟩
  | 89 => ⟨S1000x1000x2, .f32⟩
  | 90 => ⟨S1000x1000x2, .f32⟩
  | 91 => ⟨S_, .f32⟩
  | 92 => ⟨S_, .f32⟩
  | 93 => ⟨S1000x1000x2, .f32⟩
  | 94 => ⟨S1000x1000x2, .f32⟩
  | 95 => ⟨S1000x1000x1, .f32⟩
  | 96 => ⟨S1000x1000, .f32⟩
  | 97 => ⟨S1000x1000x1, .f32⟩
  | 98 => ⟨S1000x1000, .f32⟩
  | 99 => ⟨S1000x1000, .f32⟩
  | 100 => ⟨S1000x1, .f32⟩
  | 101 => ⟨S1x1000, .f32⟩
  | 102 => ⟨S1000x1000, .f32⟩
  | 103 => ⟨S1000x1000, .f32⟩
  | 104 => ⟨S1000x1000, .f32⟩
  | 105 => ⟨S1000x1000, .f32⟩
  | 106 => ⟨S_, .f32⟩
  | 107 => ⟨S1000x1000, .f32⟩
  | 108 => ⟨S1000x1000, .f32⟩
  | 109 => ⟨S1000x1000, .f32⟩
  | 110 => ⟨S1000, .i32⟩
  | 111 => ⟨S_, .i1⟩
  | 112 => ⟨S1000, .i1⟩
  | 113 => ⟨S_, .i32⟩
  | 114 => ⟨S_, .i32⟩
  | 115 => ⟨S1000x1000, .f32⟩
  | 116 => ⟨S1000, .i32⟩
  | 117 => ⟨S_, .i32⟩
  | 118 => ⟨S_, .i32⟩
  | 119 => ⟨S1000, .i1⟩
  | 120 => ⟨S_, .i32⟩
  | 121 => ⟨S_, .i1⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S1x256x64x64, .f32⟩

abbrev hbmTy0_2 (i : Nat) : BufTy := match i % 128 with
  | 0 => ⟨S_, .i32⟩
  | 1 => ⟨S_, .i32⟩
  | 2 => ⟨S1, .i1⟩
  | 3 => ⟨S_, .i1⟩
  | 4 => ⟨S_, .i1⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S1x1000, .f32⟩
  | 20 => ⟨S1000, .f32⟩
  | 21 => ⟨S_, .f32⟩
  | 22 => ⟨S1000, .f32⟩
  | 23 => ⟨S1000, .i1⟩
  | 24 => ⟨S_, .i32⟩
  | 25 => ⟨S1000, .i32⟩
  | 26 => ⟨S1000, .i1⟩
  | 27 => ⟨S1000, .i1⟩
  | 28 => ⟨S1000, .i1⟩
  | 29 => ⟨S1000, .i1⟩
  | 30 => ⟨S1000, .i1⟩
  | 31 => ⟨S_, .i32⟩
  | 32 => ⟨S_, .i32⟩
  | 33 => ⟨S_, .f32⟩
  | 34 => ⟨S_, .f32⟩
  | 35 => ⟨S1000, .f32⟩
  | 36 => ⟨S1000, .f32⟩
  | 37 => ⟨S1000, .f32⟩
  | 38 => ⟨S1000, .i32⟩
  | 39 => ⟨S_, .i32⟩
  | 40 => ⟨S1000, .i32⟩
  | 41 => ⟨S1000, .i1⟩
  | 42 => ⟨S_, .i32⟩
  | 43 => ⟨S1000, .i32⟩
  | 44 => ⟨S1000, .i32⟩
  | 45 => ⟨S1000, .i32⟩
  | 46 => ⟨S1000x1, .i32⟩
  | 47 => ⟨S1000x4, .f32⟩
  | _ => ⟨S1x256x64x64, .f32⟩

abbrev hbmTy (i : Nat) : BufTy := match i / 128 with
  | 0 => hbmTy0_0 i
  | 1 => hbmTy0_1 i
  | 2 => hbmTy0_2 i
  | _ => ⟨S1x256x64x64, .f32⟩

abbrev bufTy : (tb : Table) → Fin (tcTables nBuf tb) → BufTy
  | .hbm, ⟨i, _⟩ => hbmTy i
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call1_cst : Ref sig .tc := ⟨.hbm, 63, rfl⟩
abbrev main_call1_v0 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_values : Ref sig .tc := ⟨.hbm, 87, rfl⟩
abbrev main_indices : Ref sig .tc := ⟨.hbm, 88, rfl⟩
abbrev main_c_0 : Ref sig .tc := ⟨.hbm, 89, rfl⟩
abbrev main_v74 : Ref sig .tc := ⟨.hbm, 90, rfl⟩
abbrev main_v75 : Ref sig .tc := ⟨.hbm, 91, rfl⟩
abbrev main_c_1 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_2 : Ref sig .tc := ⟨.hbm, 98, rfl⟩
abbrev main_v81 : Ref sig .tc := ⟨.hbm, 99, rfl⟩
abbrev main_v82 : Ref sig .tc := ⟨.hbm, 100, rfl⟩
abbrev main_c_3 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_4 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_5 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_6 : Ref sig .tc := ⟨.hbm, 137, rfl⟩
abbrev main_call2_v0 : Ref sig .tc := ⟨.hbm, 138, rfl⟩
abbrev main_call2_v1 : Ref sig .tc := ⟨.hbm, 139, rfl⟩
abbrev main_v116 : Ref sig .tc := ⟨.hbm, 140, rfl⟩
abbrev main_cst_7 : Ref sig .tc := ⟨.hbm, 141, rfl⟩
abbrev main_call3_v0 : Ref sig .tc := ⟨.hbm, 142, rfl⟩
abbrev main_call3_v1 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_8 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_9 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_10 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_11 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_12 : Ref sig .tc := ⟨.hbm, 174, rfl⟩
abbrev main_cst_13 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_cst_14 : Ref sig .tc := ⟨.hbm, 219, rfl⟩
abbrev main_call5_v0 : Ref sig .tc := ⟨.hbm, 220, rfl⟩
abbrev main_call5_v1 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_cst_15 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_c_16 : Ref sig .tc := ⟨.hbm, 239, rfl⟩
abbrev main_v197 : Ref sig .tc := ⟨.hbm, 240, rfl⟩
abbrev main_c_17 : Ref sig .tc := ⟨.hbm, 241, rfl⟩
abbrev main_c_18 : Ref sig .tc := ⟨.hbm, 242, rfl⟩
abbrev main_v198_0 : Ref sig .tc := ⟨.hbm, 243, rfl⟩
abbrev main_v198_1 : Ref sig .tc := ⟨.hbm, 244, rfl⟩
abbrev main_v198_2 : Ref sig .tc := ⟨.hbm, 245, rfl⟩
abbrev main_v198_3 : Ref sig .tc := ⟨.hbm, 246, rfl⟩
abbrev main_v198_4 : Ref sig .tc := ⟨.hbm, 247, rfl⟩
abbrev main_while0c_c_28 : Ref sig .tc := ⟨.hbm, 248, rfl⟩
abbrev main_while0c_v207 : Ref sig .tc := ⟨.hbm, 249, rfl⟩
abbrev main_while0b_c_28 : Ref sig .tc := ⟨.hbm, 250, rfl⟩
abbrev main_while0b_v207 : Ref sig .tc := ⟨.hbm, 251, rfl⟩
abbrev main_while0b_c_29 : Ref sig .tc := ⟨.hbm, 252, rfl⟩
abbrev main_while0b_v208 : Ref sig .tc := ⟨.hbm, 253, rfl⟩
abbrev main_while0b_v209 : Ref sig .tc := ⟨.hbm, 254, rfl⟩
abbrev main_while0b_c_30 : Ref sig .tc := ⟨.hbm, 255, rfl⟩
abbrev main_while0b_v210 : Ref sig .tc := ⟨.hbm, 256, rfl⟩
abbrev main_while0b_v211 : Ref sig .tc := ⟨.hbm, 257, rfl⟩
abbrev main_while0b_v212 : Ref sig .tc := ⟨.hbm, 258, rfl⟩
abbrev main_while0b_v213 : Ref sig .tc := ⟨.hbm, 259, rfl⟩
abbrev main_while0b_v214 : Ref sig .tc := ⟨.hbm, 260, rfl⟩
abbrev main_while0b_v215 : Ref sig .tc := ⟨.hbm, 261, rfl⟩
abbrev main_while0b_c_31 : Ref sig .tc := ⟨.hbm, 262, rfl⟩
abbrev main_while0b_v216 : Ref sig .tc := ⟨.hbm, 263, rfl⟩
abbrev main_while0b_c_32 : Ref sig .tc := ⟨.hbm, 264, rfl⟩
abbrev main_while0b_v217 : Ref sig .tc := ⟨.hbm, 265, rfl⟩
abbrev main_while0b_v218 : Ref sig .tc := ⟨.hbm, 266, rfl⟩
abbrev main_while0b_c_33 : Ref sig .tc := ⟨.hbm, 267, rfl⟩
abbrev main_while0b_c_34 : Ref sig .tc := ⟨.hbm, 268, rfl⟩
abbrev main_while0b_v219 : Ref sig .tc := ⟨.hbm, 269, rfl⟩
abbrev main_while0b_c_35 : Ref sig .tc := ⟨.hbm, 270, rfl⟩
abbrev main_while0b_c_36 : Ref sig .tc := ⟨.hbm, 271, rfl⟩
abbrev main_while0b_v220 : Ref sig .tc := ⟨.hbm, 272, rfl⟩
abbrev main_while0b_c_37 : Ref sig .tc := ⟨.hbm, 273, rfl⟩
abbrev main_while0b_v221 : Ref sig .tc := ⟨.hbm, 274, rfl⟩
abbrev main_while0b_v222 : Ref sig .tc := ⟨.hbm, 275, rfl⟩
abbrev main_while0b_v223 : Ref sig .tc := ⟨.hbm, 276, rfl⟩
abbrev main_while0b_cst_38 : Ref sig .tc := ⟨.hbm, 277, rfl⟩
abbrev main_while0b_v224 : Ref sig .tc := ⟨.hbm, 278, rfl⟩
abbrev main_while0b_v225 : Ref sig .tc := ⟨.hbm, 279, rfl⟩
abbrev main_while0b_v226 : Ref sig .tc := ⟨.hbm, 280, rfl⟩
abbrev main_while0b_v227 : Ref sig .tc := ⟨.hbm, 281, rfl⟩
abbrev main_while0b_v228 : Ref sig .tc := ⟨.hbm, 282, rfl⟩
abbrev main_while0b_v229 : Ref sig .tc := ⟨.hbm, 283, rfl⟩
abbrev main_while0b_v230 : Ref sig .tc := ⟨.hbm, 284, rfl⟩
abbrev main_while0b_v231 : Ref sig .tc := ⟨.hbm, 285, rfl⟩
abbrev main_while0b_v232 : Ref sig .tc := ⟨.hbm, 286, rfl⟩
abbrev main_while0b_c_39 : Ref sig .tc := ⟨.hbm, 287, rfl⟩
abbrev main_while0b_v233 : Ref sig .tc := ⟨.hbm, 288, rfl⟩
abbrev main_cst_19 : Ref sig .tc := ⟨.hbm, 289, rfl⟩
abbrev main_call6_v0 : Ref sig .tc := ⟨.hbm, 290, rfl⟩
abbrev main_call6_v1 : Ref sig .tc := ⟨.hbm, 291, rfl⟩
abbrev main_v199 : Ref sig .tc := ⟨.hbm, 292, rfl⟩
abbrev main_values_20 : Ref sig .tc := ⟨.hbm, 293, rfl⟩
abbrev main_indices_21 : Ref sig .tc := ⟨.hbm, 294, rfl⟩
abbrev main_c_22 : Ref sig .tc := ⟨.hbm, 295, rfl⟩
abbrev main_v200 : Ref sig .tc := ⟨.hbm, 296, rfl⟩
abbrev main_v201 : Ref sig .tc := ⟨.hbm, 297, rfl⟩
abbrev main_c_23 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩

abbrev nD : Nat := 1
abbrev τ : Topo := Topo.v7x

variable {F : FTy → Type} [FloatOps F]

abbrev main_while0_count : Scf.Loop 32 := ⟨0#32, 1000#32, 1#32⟩
-- ==== Proof.Common.lean ====
/-
  The program as the launch theorem sees it, and the resource algebra: the handshakes' rounds, the two pipelines' rounds
  and the transfers' counters.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-- The SparseCore call's arrays: the mask's words, the scores, the boxes' coordinates, the two results. -/
abbrev wordsLoc (d : Dev nD) : Loc nD τ sig := (SparseCore.T d).loc main_v111
abbrev scoresLoc (d : Dev nD) : Loc nD τ sig := (SparseCore.T d).loc main_v108
abbrev boxesLoc (d : Dev nD) : Loc nD τ sig := (SparseCore.T d).loc main_v112
abbrev outBLoc (d : Dev nD) : Loc nD τ sig := (SparseCore.T d).loc main_v113_0
abbrev outSLoc (d : Dev nD) : Loc nD τ sig := (SparseCore.T d).loc main_v113_1

end Cert.Proof

end
-- ==== Proof.Nms.Words.lean ====
/-
  The words of the suppression kernel's vector-subcore body, read as numbers: the running sum `tpu.scan <sum>` as a
  finite sum, the word picked out of the 32 carried ones by a one-hot sum, the shifted bit of that word, and the
  floor quotient and remainder of the loop's counter.
-/
module

public import proofs.«01_k».proof.Defs
public import Idealize.ShloMosaic.Lib.ValueIdxCore
public import Idealize.ShloMosaic.Lib.WordArith.Masks
public import proofs.«01_k».proof.Proof.Gen.KernelIdeal
public import proofs.«01_k».proof.Proof.Gen.KernelIdeal.Skeleton

@[expose] public section

noncomputable section

namespace Cert.Proof.Nms

open Cert.KernelIdeal Cert.KernelIdeal.Gen
open Idealize.ShloMosaic Idealize.ShloMosaic.ValueIdx

/-! ## The running sum -/

theorem foldl_addi {ι : Type} (f : ι → BitVec 32) (l : List ι) (r : BitVec 32) :
    l.foldl (fun r k => IntOp.addi r (f k)) r = r + (l.map f).sum := by
  induction l generalizing r with
  | nil => simp
  | cons a l ih => rw [List.foldl_cons, ih, List.map_cons, List.sum_cons, ← add_assoc]; rfl

theorem sum_head (f : Fin 16 → BitVec 32) (x : Fin 16) :
    (∑ k : Fin 16, if k ≤ x then f k else 0) = f 0 + ∑ k : Fin 16, if 0 < k.val ∧ k.val ≤ x.val then f k else 0 := by
  rw [Fin.sum_univ_succ, Fin.sum_univ_succ (n := 15) (fun k : Fin 16 => if 0 < k.val ∧ k.val ≤ x.val then f k else 0)]
  simp [Fin.le_def]

/-- Lane `x` of the running sum is the sum of the lanes up to `x`. -/
theorem scan_sum (v : IVec S16 32) (x : Fin 16) :
    scan .sum v (ix1 x) = ∑ k : Fin 16, if k ≤ x then v (ix1 k) else 0 := by
  have h0 : scan .sum v (ix1 x)
      = ((List.finRange 16).filter fun k => decide (0 < k.val ∧ k.val ≤ x.val)).foldl
          (fun r k => IntOp.addi r (v (ix1 k))) (v (ix1 0)) := by
    unfold scan
    have e0 : (Shape.ofLane (d := ![16]) ⟨0, (show Fin (![16] 0) from x).pos⟩) = ix1 (0 : Fin 16) := eq_ix1 _
    show List.foldl _ (v (Shape.ofLane (d := ![16]) ⟨0, _⟩)) _ = _
    rw [e0]
    congr 1
    funext r k
    exact congrArg (fun z => IntOp.addi r (v z)) (eq_ix1 _)
  rw [h0, foldl_addi (fun k => v (ix1 k)), ← List.sum_toFinset _ ((List.nodup_finRange 16).filter _)]
  have hs : ((List.finRange 16).filter fun k => decide (0 < k.val ∧ k.val ≤ x.val)).toFinset
      = Finset.univ.filter fun k : Fin 16 => 0 < k.val ∧ k.val ≤ x.val := by
    ext k; simp
  rw [hs, Finset.sum_filter]
  exact (sum_head (fun k => v (ix1 k)) x).symm

theorem extract_last {α : Type} (x : S16.Idx → α) (h) : extractAt ![15] x h = x (ix1 (15 : Fin 16)) := by
  unfold extractAt; congr 1; exact eq_ix1 _

/-- The last lane of the running sum of a vector with one lane kept. -/
theorem pick (v : IVec S16 32) (w : BitVec 32) (h) :
    extractAt ![15] (scan .sum (select (cmpi .eq (iota .scVector S16 32 [0] iota_S16_d0_w32_scVector) (broadcast S16 w)) v
        (broadcast S16 0#32))) h
      = if h : w.toNat < 16 then v (ix1 ⟨w.toNat, h⟩) else 0#32 := by
  rw [extract_last, scan_sum]
  have hk : ∀ k : Fin 16, (if k ≤ (15 : Fin 16) then
      select (cmpi .eq (iota .scVector S16 32 [0] iota_S16_d0_w32_scVector) (broadcast S16 w)) v (broadcast S16 0#32) (ix1 k) else 0)
      = if k.val = w.toNat then v (ix1 k) else 0#32 := by
    intro k
    rw [if_pos (show k ≤ (15 : Fin 16) by have := k.isLt; show k.val ≤ 15; omega)]
    show Scalar.select (BitVec.ofBool (BitVec.ofNat 32 (0 * 16 + k.val) == w)) (v (ix1 k)) 0#32 = _
    have hk := k.isLt
    unfold Scalar.select
    by_cases e : k.val = w.toNat
    · have : BitVec.ofNat 32 (0 * 16 + k.val) = w := by rw [zero_mul, zero_add, e]; simp
      rw [if_pos e, this]; simp
    · have : ¬ BitVec.ofNat 32 (0 * 16 + k.val) = w := fun h => e (by rw [← h]; simp; omega)
      rw [if_neg e, if_neg (by rw [beq_eq_false_iff_ne.mpr this]; decide)]
  rw [Finset.sum_congr rfl fun k _ => hk k]
  by_cases hw : w.toNat < 16
  · rw [dif_pos hw, Finset.sum_eq_single (⟨w.toNat, hw⟩ : Fin 16)]
    · simp
    · intro b _ hb; rw [if_neg fun h => hb (Fin.ext h)]; rfl
    · intro h; exact absurd (Finset.mem_univ _) h
  · rw [dif_neg hw]
    refine Finset.sum_eq_zero fun k _ => ?_
    have := k.isLt
    rw [if_neg (by omega)]; rfl

/-! ## The 32 carried words and their bits -/

/-- Word `w` of the 32 carried in two vectors of 16. -/
def word (a b : IVec S16 32) (w : ℕ) : BitVec 32 :=
  if h : w < 16 then a (ix1 ⟨w, h⟩) else if h : w - 16 < 16 then b (ix1 ⟨w - 16, h⟩) else 0#32

/-- Bit `j` of the 1024 the 32 words hold. -/
def bit (a b : IVec S16 32) (j : ℕ) : Bool := (word a b (j / 32)).getLsbD (j % 32)

/-- The floor quotient by `m` as the body computes it. -/
def fdiv (m a : BitVec 32) : BitVec 32 :=
  let v13 : BitVec 32 := Scalar.divsi a m
  let v18 : BitVec 32 := Scalar.subi (Scalar.extui (Scalar.cmpi .sgt a 0#32)) (Scalar.extui (Scalar.cmpi .slt a 0#32))
  let v23 : BitVec 32 := Scalar.subi (Scalar.extui (Scalar.cmpi .sgt m 0#32)) (Scalar.extui (Scalar.cmpi .slt m 0#32))
  let v27 : BitVec 1 := Scalar.andi (Scalar.cmpi .ne v18 v23) (Scalar.cmpi .ne (Scalar.remsi a m) 0#32)
  Scalar.select v27 (Scalar.subi v13 1#32) v13

/-- The floor remainder by `m` as the body computes it. -/
def fmod (m a : BitVec 32) : BitVec 32 :=
  let v48 : BitVec 32 := Scalar.select (Scalar.cmpi .eq m 0#32) 1#32 m
  let v49 : BitVec 32 := Scalar.remsi a v48
  let v54 : BitVec 1 := Scalar.andi (Scalar.xori (Scalar.cmpi .slt v49 0#32) (Scalar.cmpi .slt v48 0#32)) (Scalar.cmpi .ne v49 0#32)
  Scalar.select v54 (Scalar.addi v49 v48) v49

theorem fdiv_32 : ∀ k : Fin 1000, fdiv 32#32 (Scf.iv 0#32 1#32 k) = BitVec.ofNat 32 (k.val / 32) := by decide +kernel
theorem fmod_32 : ∀ k : Fin 1000, fmod 32#32 (Scf.iv 0#32 1#32 k) = BitVec.ofNat 32 (k.val % 32) := by decide +kernel
theorem fdiv_2 : ∀ k : Fin 64, fdiv 2#32 (Scf.iv 0#32 1#32 k) = BitVec.ofNat 32 (k.val / 2) := by decide +kernel
theorem fmod_2 : ∀ k : Fin 64, fmod 2#32 (Scf.iv 0#32 1#32 k) = BitVec.ofNat 32 (k.val % 2) := by decide +kernel

/-- The two one-hot sums together pick word `w`. -/
theorem pick_word (a b : IVec S16 32) (w : ℕ) (hw : w < 32) (h h') :
    Scalar.addi
      (extractAt ![15] (scan .sum (select (cmpi .eq (iota .scVector S16 32 [0] iota_S16_d0_w32_scVector)
        (broadcast S16 (BitVec.ofNat 32 w))) a (broadcast S16 0#32))) h)
      (extractAt ![15] (scan .sum (select (cmpi .eq (iota .scVector S16 32 [0] iota_S16_d0_w32_scVector)
        (broadcast S16 (Scalar.subi (BitVec.ofNat 32 w) 16#32))) b (broadcast S16 0#32))) h')
      = word a b w := by
  rw [pick, pick]
  have h1 : (BitVec.ofNat 32 w).toNat = w := by simp; omega
  have h2 : (Scalar.subi (BitVec.ofNat 32 w) 16#32).toNat = if w < 16 then 2 ^ 32 - 16 + w else w - 16 := by
    show (BitVec.ofNat 32 w - 16#32).toNat = _
    rw [BitVec.toNat_sub, h1]
    simp only [BitVec.toNat_ofNat]
    split <;> omega
  unfold word
  by_cases hlt : w < 16
  · rw [dif_pos (by rw [h1]; exact hlt), dif_neg (by rw [h2, if_pos hlt]; omega), dif_pos hlt]
    show _ + 0#32 = _
    rw [BitVec.add_zero]
    simp only [h1]
  · rw [dif_neg (by rw [h1]; exact hlt), dif_pos (by rw [h2, if_neg hlt]; omega), dif_neg hlt, dif_pos (by omega)]
    show 0#32 + _ = _
    rw [BitVec.zero_add]
    simp only [h2, if_neg hlt]

theorem word_t1 (k : Fin k2_t1_loop.trips) (a b : IVec S16 32) (h h') :
    Scalar.addi (extractAt ![15] (k2_pay6 0#32 1#32 k a) h) (extractAt ![15] (k2_pay7 0#32 1#32 k b) h') = word a b (k.val / 32) := by
  have hk : k.val < 1000 := lt_of_lt_of_le k.isLt k2_t1_abs.2.1
  have e := fdiv_32 ⟨k.val, hk⟩
  rw [← pick_word a b (k.val / 32) (by omega) h h', ← e]
  rfl
theorem word_t2 (k : Fin k2_t2_loop.trips) (a b : IVec S16 32) (h h') :
    Scalar.addi (extractAt ![15] (k2_pay8 a 0#32 1#32 k) h) (extractAt ![15] (k2_pay9 b 0#32 1#32 k) h') = word a b (k.val / 2) := by
  have hk : k.val < 64 := lt_of_lt_of_le k.isLt k2_t2_abs.2.1
  have e := fdiv_2 ⟨k.val, hk⟩
  rw [← pick_word a b (k.val / 2) (by omega) h h', ← e]
  rfl
theorem word_t3 (k : Fin k2_t3_loop.trips) (a b : IVec S16 32) (h h') :
    Scalar.addi (extractAt ![15] (k2_pay10 a 0#32 1#32 k) h) (extractAt ![15] (k2_pay11 b 0#32 1#32 k) h') = word a b (k.val / 2) := by
  have hk : k.val < 64 := lt_of_lt_of_le k.isLt k2_t3_abs.2.1
  have e := fdiv_2 ⟨k.val, hk⟩
  rw [← pick_word a b (k.val / 2) (by omega) h h', ← e]
  rfl

/-- A right shift by `s < 32` followed by the mask of one bit. -/
theorem shr_and_one (u : ArithUnit) (w : BitVec 32) (s : ℕ) (hs : s < 32) :
    IntOp.andi (IntOp.shrsi u w (BitVec.ofNat 32 s)) 1#32 = BitVec.ofNat 32 (w.getLsbD s).toNat := by
  have h1 : (BitVec.ofNat 32 s).toNat = s := by simp; omega
  unfold IntOp.shrsi IntOp.andi
  rw [if_pos (by rw [h1]; exact hs)]
  apply BitVec.eq_of_getLsbD_eq
  intro i hi
  rw [BitVec.getLsbD_and, BitVec.getLsbD_sshiftRight', h1]
  by_cases h0 : i = 0
  · subst h0
    cases hb : w.getLsbD s <;> simp [hs, hb]
  · cases hb : w.getLsbD s <;> simp [h0] <;> intros <;> omega

end Cert.Proof.Nms

end
-- ==== Proof.Nms.Steps.lean ====
/-
  One trip of each of the three loops of the suppression kernel's body, as numbers.

  Loop 1 carries 1024 suppression bits and processes candidate `k`: `sup M k j` says that candidate `j` is suppressed
  after the first `k` candidates, `M` being the words of the mask. Loop 2 counts the survivors, loop 3 computes for each
  candidate its place in the output: survivors first in order, then the suppressed ones in order (`rank`).
-/
module

public import proofs.«01_k».proof.Proof.Nms.Words

@[expose] public section

noncomputable section

namespace Cert.Proof.Nms

open Cert.KernelIdeal Cert.KernelIdeal.Gen
open Idealize.ShloMosaic Idealize.ShloMosaic.ValueIdx

variable {F : FTy → Type} [FloatOps F]

/-! ## Loop 1: the suppression bits -/

/-- Bit `j` of row `i` of the mask's words. -/
def mbit (M : ℕ → BitVec 32) (i j : ℕ) : Bool := (M (32 * i + j / 32)).getLsbD (j % 32)

/-- Candidate `j` is suppressed after the first `k` candidates: each candidate that is not suppressed when its turn
    comes suppresses those its row of the mask names. -/
def sup (M : ℕ → BitVec 32) : ℕ → ℕ → Bool
  | 0, _ => false
  | k + 1, j => sup M k j || (!sup M k k && mbit M k j)

/-- The carried words hold the suppression bits after `k` candidates. -/
def Holds (M : ℕ → BitVec 32) (k : ℕ) (a b : IVec S16 32) : Prop := ∀ j < 1024, bit a b j = sup M k j

/-- The row's words are taken as they are if the candidate lives, and dropped if it is suppressed. -/
def keepIf (dead : Bool) (w : BitVec 32) : BitVec 32 := if dead then 0#32 else w

theorem keep_flag (w r : BitVec 32) (s : ℕ) (hs : s < 32) :
    IntOp.andi r (Scalar.select (Scalar.cmpi .eq (Scalar.andi (Scalar.shrsi w (BitVec.ofNat 32 s)) 1#32) 0#32) 4294967295#32 0#32)
      = keepIf (w.getLsbD s) r := by
  have h : Scalar.andi (Scalar.shrsi w (BitVec.ofNat 32 s)) 1#32 = BitVec.ofNat 32 (w.getLsbD s).toNat := shr_and_one .scalar w s hs
  rw [h]
  unfold keepIf
  cases w.getLsbD s
  · show r &&& 4294967295#32 = r
    exact BitVec.and_allOnes
  · show r &&& 0#32 = 0#32
    exact BitVec.and_zero

theorem pay2_at (k : Fin k2_t1_loop.trips) (a : IVec S16 32) (w : BitVec 32) (r : Vec F S16 .i32) (x : S16.Idx) :
    k2_pay2 a w (Scalar.select (Scalar.cmpi .eq 32#32 0#32) 1#32 32#32)
      (Scalar.remsi (Scf.iv 0#32 1#32 k) (Scalar.select (Scalar.cmpi .eq 32#32 0#32) 1#32 32#32))
      (Scalar.cmpi .ne (Scalar.remsi (Scf.iv 0#32 1#32 k) (Scalar.select (Scalar.cmpi .eq 32#32 0#32) 1#32 32#32)) 0#32)
      (Scalar.xori (Scalar.cmpi .slt (Scalar.remsi (Scf.iv 0#32 1#32 k) (Scalar.select (Scalar.cmpi .eq 32#32 0#32) 1#32 32#32)) 0#32)
        (Scalar.cmpi .slt (Scalar.select (Scalar.cmpi .eq 32#32 0#32) 1#32 32#32) 0#32)) r x
      = a x ||| keepIf (w.getLsbD (k.val % 32)) (r x) := by
  have hk : k.val < 1000 := lt_of_lt_of_le k.isLt k2_t1_abs.2.1
  rw [← keep_flag w (r x) (k.val % 32) (by omega), ← fmod_32 ⟨k.val, hk⟩]
  rfl
theorem pay3_at (k : Fin k2_t1_loop.trips) (a : IVec S16 32) (w : BitVec 32) (r : Vec F S16 .i32) (x : S16.Idx) :
    k2_pay3 a w (Scalar.select (Scalar.cmpi .eq 32#32 0#32) 1#32 32#32)
      (Scalar.remsi (Scf.iv 0#32 1#32 k) (Scalar.select (Scalar.cmpi .eq 32#32 0#32) 1#32 32#32))
      (Scalar.cmpi .ne (Scalar.remsi (Scf.iv 0#32 1#32 k) (Scalar.select (Scalar.cmpi .eq 32#32 0#32) 1#32 32#32)) 0#32)
      (Scalar.xori (Scalar.cmpi .slt (Scalar.remsi (Scf.iv 0#32 1#32 k) (Scalar.select (Scalar.cmpi .eq 32#32 0#32) 1#32 32#32)) 0#32)
        (Scalar.cmpi .slt (Scalar.select (Scalar.cmpi .eq 32#32 0#32) 1#32 32#32) 0#32)) r x
      = a x ||| keepIf (w.getLsbD (k.val % 32)) (r x) := by
  have hk : k.val < 1000 := lt_of_lt_of_le k.isLt k2_t1_abs.2.1
  rw [← keep_flag w (r x) (k.val % 32) (by omega), ← fmod_32 ⟨k.val, hk⟩]
  rfl

/-- A trip of loop 1. -/
theorem holds_step (M : ℕ → BitVec 32) (k : Fin k2_t1_loop.trips) (a b a' b' : IVec S16 32)
    (r₁ r₂ : S16.Idx → BitVec 32) (h₁ : ∀ x : Fin 16, r₁ (ix1 x) = M (32 * k.val + x.val)) (h₂ : ∀ x : Fin 16, r₂ (ix1 x) = M (32 * k.val + 16 + x.val))
    (ha : ∀ x, a' x = a x ||| keepIf ((word a b (k.val / 32)).getLsbD (k.val % 32)) (r₁ x))
    (hb : ∀ x, b' x = b x ||| keepIf ((word a b (k.val / 32)).getLsbD (k.val % 32)) (r₂ x))
    (H : Holds M k.val a b) : Holds M (k.val + 1) a' b' := by
  have hk : k.val < 1000 := lt_of_lt_of_le k.isLt k2_t1_abs.2.1
  intro j hj
  have hd : (word a b (k.val / 32)).getLsbD (k.val % 32) = sup M k.val k.val := H k.val (by omega)
  have hw : word a' b' (j / 32) = word a b (j / 32) ||| keepIf (sup M k.val k.val) (M (32 * k.val + j / 32)) := by
    unfold word
    by_cases h : j / 32 < 16
    · rw [dif_pos h, dif_pos h, ha, hd, h₁]
    · have h' : j / 32 - 16 < 16 := by omega
      rw [dif_neg h, dif_neg h, dif_pos h', dif_pos h', hb, hd, h₂]
      congr 3
      show 32 * k.val + 16 + (j / 32 - 16) = _
      omega
  have hB := H j hj
  unfold bit at hB ⊢
  rw [hw, BitVec.getLsbD_or, hB]
  show _ = (sup M k.val j || (!sup M k.val k.val && mbit M k.val j))
  unfold keepIf mbit
  cases sup M k.val k.val <;> simp

theorem holds_zero (M : ℕ → BitVec 32) : Holds M 0 k2_pay1 k2_pay1 := by
  intro j hj
  unfold bit word
  show (if h : j / 32 < 16 then 0#32 else if h : j / 32 - 16 < 16 then 0#32 else 0#32).getLsbD _ = false
  split
  · simp
  · split <;> simp

/-! ## Counting -/

theorem sum_ofNat (q : ℕ → Prop) [DecidablePred q] (n : ℕ) :
    (∑ k ∈ Finset.range n, BitVec.ofNat 32 (if q k then 1 else 0)) = BitVec.ofNat 32 (Nat.count q n) := by
  induction n with
  | zero => simp
  | succ n ih => rw [Finset.sum_range_succ, ih, Nat.count_succ, BitVec.ofNat_add]

/-- The running sum of a vector of bits counts them. -/
theorem scan_count (p : ℕ → Prop) [DecidablePred p] (c : ℕ) (v : IVec S16 32)
    (hv : ∀ k : Fin 16, v (ix1 k) = BitVec.ofNat 32 (if p (c + k.val) then 1 else 0)) (x : Fin 16) :
    BitVec.ofNat 32 (Nat.count p c) + scan .sum v (ix1 x) = BitVec.ofNat 32 (Nat.count p (c + x.val + 1)) := by
  have h1 : (∑ k : Fin 16, if k ≤ x then v (ix1 k) else 0)
      = ∑ k ∈ Finset.range 16, if k ≤ x.val then BitVec.ofNat 32 (if p (c + k) then 1 else 0) else 0 := by
    rw [← Fin.sum_univ_eq_sum_range (fun k => if k ≤ x.val then BitVec.ofNat 32 (if p (c + k) then 1 else 0) else 0) 16]
    exact Finset.sum_congr rfl fun k _ => by rw [hv k]; rfl
  have h2 : (∑ k ∈ Finset.range 16, if k ≤ x.val then BitVec.ofNat 32 (if p (c + k) then 1 else 0) else 0)
      = ∑ k ∈ Finset.range (x.val + 1), BitVec.ofNat 32 (if p (c + k) then 1 else 0) := by
    rw [← Finset.sum_filter]
    refine Finset.sum_congr ?_ fun _ _ => rfl
    ext k
    have := x.isLt
    simp only [Finset.mem_filter, Finset.mem_range]
    omega
  have h3 : scan .sum v (ix1 x) = BitVec.ofNat 32 (Nat.count (fun k => p (c + k)) (x.val + 1)) :=
    (scan_sum v x).trans (h1.trans (h2.trans (sum_ofNat (fun k => p (c + k)) (x.val + 1))))
  rw [Nat.add_assoc, Nat.count_add, BitVec.ofNat_add, h3]

/-- Candidate `j` is one of the thousand and lives; is one of the thousand and is suppressed. -/
def Alive (B : ℕ → Bool) (j : ℕ) : Prop := j < 1000 ∧ B j = false
def Dead (B : ℕ → Bool) (j : ℕ) : Prop := j < 1000 ∧ B j = true
instance (B : ℕ → Bool) : DecidablePred (Alive B) := fun _ => by unfold Alive; infer_instance
instance (B : ℕ → Bool) : DecidablePred (Dead B) := fun _ => by unfold Dead; infer_instance

/-- How many of the first `n` live; are suppressed. -/
def cntA (B : ℕ → Bool) (n : ℕ) : ℕ := Nat.count (Alive B) n
def cntD (B : ℕ → Bool) (n : ℕ) : ℕ := Nat.count (Dead B) n

theorem cntA_succ (B : ℕ → Bool) (n : ℕ) : cntA B (n + 1) = cntA B n + if Alive B n then 1 else 0 := Nat.count_succ _ _
theorem cntD_succ (B : ℕ → Bool) (n : ℕ) : cntD B (n + 1) = cntD B n + if Dead B n then 1 else 0 := Nat.count_succ _ _
theorem cntA_mono (B : ℕ → Bool) {m n : ℕ} (h : m ≤ n) : cntA B m ≤ cntA B n := Nat.count_monotone _ h
theorem cntD_mono (B : ℕ → Bool) {m n : ℕ} (h : m ≤ n) : cntD B m ≤ cntD B n := Nat.count_monotone _ h
theorem cntA_add_cntD (B : ℕ → Bool) (n : ℕ) : cntA B n + cntD B n = min n 1000 := by
  induction n with
  | zero => simp [cntA, cntD]
  | succ n ih =>
    rw [cntA_succ, cntD_succ]
    unfold Alive Dead
    by_cases h : n < 1000
    · rcases Bool.eq_false_or_eq_true (B n) with hb | hb <;> simp [h, hb] <;> omega
    · simp [h]; omega
theorem cntA_ge (B : ℕ → Bool) {n : ℕ} (h : 1000 ≤ n) : cntA B n = cntA B 1000 := by
  have h1 := cntA_mono B h
  have h2 := cntD_mono B h
  have h3 := cntA_add_cntD B n
  have h4 := cntA_add_cntD B 1000
  omega

/-- Candidate `j`'s place in the output: the survivors first in order, then the suppressed ones in order. -/
def rank (B : ℕ → Bool) (j : ℕ) : ℕ := if Alive B j then cntA B j else cntA B 1000 + cntD B j

theorem rank_lt (B : ℕ → Bool) {j : ℕ} (hj : j < 1000) : rank B j < 1000 := by
  unfold rank
  have h4 := cntA_add_cntD B 1000
  split
  · rename_i h
    have h1 := cntA_mono B (show j + 1 ≤ 1000 by omega)
    rw [cntA_succ, if_pos h] at h1; omega
  · rename_i h
    have hd : Dead B j := ⟨hj, by by_contra hb; exact h ⟨hj, by simpa using hb⟩⟩
    have h1 := cntD_mono B (show j + 1 ≤ 1000 by omega)
    rw [cntD_succ, if_pos hd] at h1; omega

theorem rank_inj (B : ℕ → Bool) {i j : ℕ} (hi : i < 1000) (hj : j < 1000) (h : rank B i = rank B j) : i = j := by
  wlog hij : i < j generalizing i j with H
  · by_contra hne; exact hne (H hj hi h.symm (by omega)).symm
  exfalso
  unfold rank at h
  have hA : cntA B (i + 1) ≤ cntA B j := cntA_mono B hij
  have hD : cntD B (i + 1) ≤ cntD B j := cntD_mono B hij
  have hA' : cntA B (j + 1) ≤ cntA B 1000 := cntA_mono B hj
  have hA'' : cntA B (i + 1) ≤ cntA B 1000 := cntA_mono B hi
  rw [cntA_succ] at hA hA' hA''
  rw [cntD_succ] at hD
  have di : ¬ Alive B i → Dead B i := fun h => ⟨hi, by by_contra hb; exact h ⟨hi, by simpa using hb⟩⟩
  by_cases ai : Alive B i <;> by_cases aj : Alive B j <;> simp only [ai, aj, if_true, if_false] at h hA hA' hA''
  · omega
  · omega
  · omega
  · rw [if_pos (di ai)] at hD; omega

/-- The places as a permutation of the thousand. -/
def rankE (B : ℕ → Bool) : Equiv.Perm (Fin 1000) :=
  Equiv.ofBijective (fun j => ⟨rank B j.val, rank_lt B j.isLt⟩)
    (Finite.injective_iff_bijective.mp fun i j h => Fin.ext (rank_inj B i.isLt j.isLt (congrArg Fin.val h)))
theorem rankE_val (B : ℕ → Bool) (j : Fin 1000) : (rankE B j).val = rank B j.val := rfl

/-! ## Loops 2 and 3: the masks of a group of sixteen -/

/-- The lane numbers. -/
abbrev lanes : IVec S16 32 := iota .scVector S16 32 [0] iota_S16_d0_w32_scVector
/-- What the body computes of the group's counter `g`: the remainder by 2 and its two tests. -/
abbrev two : BitVec 32 := Scalar.select (Scalar.cmpi .eq 2#32 0#32) 1#32 2#32
abbrev rem2 (i : BitVec 32) : BitVec 32 := Scalar.remsi i two
abbrev ne2 (i : BitVec 32) : BitVec 1 := Scalar.cmpi .ne (rem2 i) 0#32
abbrev sg2 (i : BitVec 32) : BitVec 1 := Scalar.xori (Scalar.cmpi .slt (rem2 i) 0#32) (Scalar.cmpi .slt two 0#32)

theorem muli_16 : ∀ k : Fin 64, Scalar.muli (Scf.iv 0#32 1#32 k) 16#32 = BitVec.ofNat 32 (16 * k.val) := by decide +kernel
theorem muli_16' : ∀ k : Fin 2, Scalar.muli (BitVec.ofNat 32 k.val) 16#32 = BitVec.ofNat 32 (16 * k.val) := by decide +kernel

theorem pay12_at (g : ℕ) (hg : g < 64) (a b : IVec S16 32) (x : Fin 16) :
    k2_pay12 lanes (word a b (g / 2)) two (rem2 (Scf.iv 0#32 1#32 g)) (ne2 (Scf.iv 0#32 1#32 g)) (sg2 (Scf.iv 0#32 1#32 g)) (ix1 x)
      = BitVec.ofNat 32 (bit a b (16 * g + x.val)).toNat := by
  have hx := x.isLt
  have e : (16 * g + x.val) / 32 = g / 2 := by omega
  have e' : (16 * g + x.val) % 32 = 16 * (g % 2) + x.val := by omega
  unfold bit
  rw [e, e', ← shr_and_one .vector (word a b (g / 2)) (16 * (g % 2) + x.val) (by omega), BitVec.ofNat_add,
    ← muli_16' ⟨g % 2, by omega⟩, ← fmod_2 ⟨g, hg⟩]
  show IntOp.andi (IntOp.shrsi .vector _ (Scalar.muli _ 16#32 + BitVec.ofNat 32 (0 * 16 + x.val))) 1#32 = _
  rw [zero_mul, zero_add]
  rfl

theorem pay13_at (g : ℕ) (hg : g < 64) (x : Fin 16) :
    k2_pay13 lanes (Scf.iv 0#32 1#32 g) (ix1 x) = if 16 * g + x.val < 1000 then 1#1 else 0#1 := by
  have hx := x.isLt
  show BitVec.ofBool (BitVec.slt (Scalar.muli (Scf.iv 0#32 1#32 g) 16#32 + BitVec.ofNat 32 (0 * 16 + x.val)) 1000#32) = _
  rw [muli_16 ⟨g, hg⟩, zero_mul, zero_add, ← BitVec.ofNat_add]
  have h1 : (BitVec.ofNat 32 (16 * g + x.val)).toInt = ((16 * g + x.val : ℕ) : ℤ) := by
    rw [BitVec.toInt_eq_toNat_of_lt (by rw [BitVec.toNat_ofNat]; omega), BitVec.toNat_ofNat]; omega
  have : BitVec.slt (BitVec.ofNat 32 (16 * g + x.val)) 1000#32 = decide (16 * g + x.val < 1000) := by
    unfold BitVec.slt
    rw [h1, show (1000#32 : BitVec 32).toInt = 1000 by decide]
    exact decide_eq_decide.mpr (by omega)
  rw [this]
  by_cases h : 16 * g + x.val < 1000
  · rw [if_pos h, decide_eq_true h]; rfl
  · rw [if_neg h, decide_eq_false h]; rfl

/-- `v72`, `v74` of a group, as bits. -/
theorem pay14_at (g : ℕ) (hg : g < 64) (a b : IVec S16 32) (x : Fin 16) :
    k2_pay14 lanes (Scf.iv 0#32 1#32 g) (word a b (g / 2)) two (rem2 (Scf.iv 0#32 1#32 g)) (ne2 (Scf.iv 0#32 1#32 g)) (sg2 (Scf.iv 0#32 1#32 g)) (ix1 x)
      = BitVec.ofNat 32 (if Alive (bit a b) (16 * g + x.val) then 1 else 0) := by
  show Scalar.select (k2_pay13 lanes (Scf.iv 0#32 1#32 g) (ix1 x)) (IntOp.subi 1#32 (k2_pay12 _ _ _ _ _ _ (ix1 x))) 0#32 = _
  rw [pay13_at g hg, pay12_at g hg]
  unfold Alive
  by_cases h : 16 * g + x.val < 1000
  · rcases Bool.eq_false_or_eq_true (bit a b (16 * g + x.val)) with hb | hb <;> simp [h, hb] <;> rfl
  · simp [h]; rfl
theorem pay15_at (g : ℕ) (hg : g < 64) (a b : IVec S16 32) (x : Fin 16) :
    k2_pay15 lanes (Scf.iv 0#32 1#32 g) (word a b (g / 2)) two (rem2 (Scf.iv 0#32 1#32 g)) (ne2 (Scf.iv 0#32 1#32 g)) (sg2 (Scf.iv 0#32 1#32 g)) (ix1 x)
      = BitVec.ofNat 32 (if Dead (bit a b) (16 * g + x.val) then 1 else 0) := by
  show Scalar.select (k2_pay13 lanes (Scf.iv 0#32 1#32 g) (ix1 x)) (k2_pay12 _ _ _ _ _ _ (ix1 x)) 0#32 = _
  rw [pay13_at g hg, pay12_at g hg]
  unfold Dead
  by_cases h : 16 * g + x.val < 1000
  · rcases Bool.eq_false_or_eq_true (bit a b (16 * g + x.val)) with hb | hb <;> simp [h, hb] <;> rfl
  · simp [h]; rfl
theorem pay16_at (g : ℕ) (hg : g < 64) (a b : IVec S16 32) (x : Fin 16) :
    k2_pay16 lanes (Scf.iv 0#32 1#32 g) (word a b (g / 2)) two (rem2 (Scf.iv 0#32 1#32 g)) (ne2 (Scf.iv 0#32 1#32 g)) (sg2 (Scf.iv 0#32 1#32 g)) (ix1 x)
      = if Alive (bit a b) (16 * g + x.val) then 1#1 else 0#1 := by
  show IntOp.cmpi .eq (k2_pay14 _ _ _ _ _ _ _ (ix1 x)) 1#32 = _
  rw [pay14_at g hg]
  split <;> rfl

theorem extract_count (p : ℕ → Prop) [DecidablePred p] (g : ℕ) (v : IVec S16 32) (h)
    (hv : ∀ k : Fin 16, v (ix1 k) = BitVec.ofNat 32 (if p (16 * g + k.val) then 1 else 0)) :
    Scalar.addi (BitVec.ofNat 32 (Nat.count p (16 * g))) (extractAt ![15] (scan .sum v) h)
      = BitVec.ofNat 32 (Nat.count p (16 * (g + 1))) := by
  rw [extract_last]
  exact scan_count p (16 * g) v hv 15

/-- A trip of loop 2. -/
theorem t2_step (g : ℕ) (hg : g < 64) (a b : IVec S16 32) (h) :
    Scalar.addi (BitVec.ofNat 32 (cntA (bit a b) (16 * g)))
      (extractAt ![15] (k2_pay4 (Scf.iv 0#32 1#32 g) (word a b (g / 2)) two (rem2 (Scf.iv 0#32 1#32 g)) (ne2 (Scf.iv 0#32 1#32 g)) (sg2 (Scf.iv 0#32 1#32 g))) h)
      = BitVec.ofNat 32 (cntA (bit a b) (16 * (g + 1))) :=
  extract_count (Alive (bit a b)) g _ h fun k => pay14_at g hg a b k

/-- A trip of loop 3: the two counters. -/
theorem t3_alive (g : ℕ) (hg : g < 64) (a b : IVec S16 32) (h) :
    Scalar.addi (BitVec.ofNat 32 (cntA (bit a b) (16 * g)))
      (extractAt ![15] (k2_pay23 (k2_pay14 lanes (Scf.iv 0#32 1#32 g) (word a b (g / 2)) two (rem2 (Scf.iv 0#32 1#32 g)) (ne2 (Scf.iv 0#32 1#32 g)) (sg2 (Scf.iv 0#32 1#32 g)))) h)
      = BitVec.ofNat 32 (cntA (bit a b) (16 * (g + 1))) :=
  extract_count (Alive (bit a b)) g _ h fun k => pay14_at g hg a b k
theorem t3_dead (g : ℕ) (hg : g < 64) (a b : IVec S16 32) (n : ℕ) (h) :
    Scalar.addi (BitVec.ofNat 32 (n + cntD (bit a b) (16 * g)))
      (extractAt ![15] (k2_pay5 (k2_pay15 lanes (Scf.iv 0#32 1#32 g) (word a b (g / 2)) two (rem2 (Scf.iv 0#32 1#32 g)) (ne2 (Scf.iv 0#32 1#32 g)) (sg2 (Scf.iv 0#32 1#32 g)))) h)
      = BitVec.ofNat 32 (n + cntD (bit a b) (16 * (g + 1))) := by
  rw [BitVec.ofNat_add, BitVec.ofNat_add]
  have e := extract_count (Dead (bit a b)) g _ h fun k => pay15_at g hg a b k
  refine Eq.trans ?_ (congrArg (BitVec.ofNat 32 n + ·) e)
  exact BitVec.add_assoc _ _ _

/-- The group's places: `v89`. -/
theorem pay17_at (g : ℕ) (hg : g < 64) (a b : IVec S16 32) (x : Fin 16) :
    (k2_pay17 lanes (BitVec.ofNat 32 (cntA (bit a b) (16 * g))) (BitVec.ofNat 32 (cntA (bit a b) 1024 + cntD (bit a b) (16 * g)))
      (Scf.iv 0#32 1#32 g) (word a b (g / 2)) two (rem2 (Scf.iv 0#32 1#32 g)) (ne2 (Scf.iv 0#32 1#32 g)) (sg2 (Scf.iv 0#32 1#32 g)) (ix1 x)).toNat
      = if 16 * g + x.val < 1000 then rank (bit a b) (16 * g + x.val) else 999 := by
  have hx := x.isLt
  show (Scalar.select (k2_pay16 _ _ _ _ _ _ _ (ix1 x))
    (IntOp.subi (IntOp.addi (BitVec.ofNat 32 (cntA (bit a b) (16 * g))) (scan .sum (k2_pay14 lanes (Scf.iv 0#32 1#32 g) (word a b (g / 2)) two
      (rem2 (Scf.iv 0#32 1#32 g)) (ne2 (Scf.iv 0#32 1#32 g)) (sg2 (Scf.iv 0#32 1#32 g))) (ix1 x))) 1#32)
    (IntOp.subi (IntOp.addi (BitVec.ofNat 32 (cntA (bit a b) 1024 + cntD (bit a b) (16 * g))) (scan .sum (k2_pay15 lanes (Scf.iv 0#32 1#32 g) (word a b (g / 2)) two
      (rem2 (Scf.iv 0#32 1#32 g)) (ne2 (Scf.iv 0#32 1#32 g)) (sg2 (Scf.iv 0#32 1#32 g))) (ix1 x))) 1#32)).toNat = _
  have eA := scan_count (Alive (bit a b)) (16 * g) _ (fun k => pay14_at g hg a b k) x
  have eD := scan_count (Dead (bit a b)) (16 * g) _ (fun k => pay15_at g hg a b k) x
  have eD' : BitVec.ofNat 32 (cntA (bit a b) 1024 + cntD (bit a b) (16 * g)) + scan .sum (k2_pay15 lanes (Scf.iv 0#32 1#32 g) (word a b (g / 2)) two
      (rem2 (Scf.iv 0#32 1#32 g)) (ne2 (Scf.iv 0#32 1#32 g)) (sg2 (Scf.iv 0#32 1#32 g))) (ix1 x)
      = BitVec.ofNat 32 (cntA (bit a b) 1024 + cntD (bit a b) (16 * g + x.val + 1)) := by
    rw [BitVec.ofNat_add, BitVec.add_assoc, BitVec.ofNat_add]
    exact congrArg (BitVec.ofNat 32 (cntA (bit a b) 1024) + ·) eD
  rw [pay16_at g hg]
  change (Scalar.select _ ((BitVec.ofNat 32 (Nat.count (Alive (bit a b)) (16 * g)) + _) - 1#32) ((BitVec.ofNat 32 _ + _) - 1#32)).toNat = _
  rw [eA, eD']
  change (Scalar.select _ (BitVec.ofNat 32 (cntA (bit a b) (16 * g + x.val + 1)) - 1#32) _).toNat = _
  generalize hj : 16 * g + x.val = j
  have hj' : j < 1024 := by omega
  have s1 := cntA_succ (bit a b) j
  have s2 := cntD_succ (bit a b) j
  have s3 := cntA_ge (bit a b) (n := 1024) (by omega)
  have s4 := cntA_add_cntD (bit a b) (j + 1)
  have s5 := cntA_add_cntD (bit a b) j
  have s6 := cntA_add_cntD (bit a b) 1000
  rw [s3]
  have sub1 : ∀ n : ℕ, n + 1 < 2 ^ 32 → (BitVec.ofNat 32 (n + 1) - 1#32).toNat = n := by
    intro n hn
    rw [BitVec.toNat_sub]; simp only [BitVec.toNat_ofNat]; omega
  unfold rank
  by_cases hlt : j < 1000
  · rw [if_pos hlt]
    by_cases hA : Alive (bit a b) j
    · rw [if_pos hA] at s1 ⊢; rw [if_pos hA, s1]
      exact sub1 _ (by omega)
    · have hD : Dead (bit a b) j := ⟨hlt, by by_contra hb; exact hA ⟨hlt, by simpa using hb⟩⟩
      rw [if_neg hA] at s1 ⊢; rw [if_pos hD] at s2; rw [if_neg hA, s2]
      have := cntD_mono (bit a b) (show j + 1 ≤ 1000 by omega)
      exact sub1 (cntA (bit a b) 1000 + cntD (bit a b) j) (by omega)
  · have hA : ¬ Alive (bit a b) j := fun h => hlt h.1
    rw [if_neg hlt, if_neg hA]
    have h7 := cntA_ge (bit a b) (n := j + 1) (by omega)
    have h8 : cntA (bit a b) 1000 + cntD (bit a b) (j + 1) = 999 + 1 := by omega
    show (BitVec.ofNat 32 (cntA (bit a b) 1000 + cntD (bit a b) (j + 1)) - 1#32).toNat = 999
    rw [h8]; exact sub1 999 (by omega)

end Cert.Proof.Nms

end
-- ==== Proof.Nms.Scatter.lean ====
/-
  The two scatters of loop 3: what the score buffer and the box buffer hold after `k` groups of sixteen candidates, and
  what they hold at the end.
-/
module

public import proofs.«01_k».proof.Proof.Nms.Steps

@[expose] public section

noncomputable section

namespace Cert.Proof.Nms

open Cert.KernelIdeal Cert.KernelIdeal.Gen
open Idealize.ShloMosaic Idealize.ShloMosaic.ValueIdx

variable {F : FTy → Type} [FloatOps F]

/-! ## A masked scatter of sixteen lanes, read at one place -/

theorem fold_miss {α β κ : Type} (l : List κ) (m : κ → Prop) [DecidablePred m] (P : κ → α → Prop) [∀ k y, Decidable (P k y)]
    (w : κ → β) (y : α) (h : ∀ k ∈ l, m k → ¬ P k y) (f : α → β) :
    l.foldl (fun g k => if m k then fun j => if P k j then w k else g j else g) f y = f y := by
  induction l generalizing f with
  | nil => rfl
  | cons k l ih =>
    rw [List.foldl_cons, ih fun k' hk' => h k' (List.mem_cons_of_mem _ hk')]
    by_cases hm : m k
    · rw [if_pos hm]; exact if_neg (h k List.mem_cons_self hm)
    · rw [if_neg hm]

theorem fold_hit {α β κ : Type} (l : List κ) (m : κ → Prop) [DecidablePred m] (P : κ → α → Prop) [∀ k y, Decidable (P k y)]
    (w : κ → β) (y : α) (k₀ : κ) (h₀ : k₀ ∈ l) (hm₀ : m k₀) (hP₀ : P k₀ y) (h : ∀ k ∈ l, m k → P k y → k = k₀) (f : α → β) :
    l.foldl (fun g k => if m k then fun j => if P k j then w k else g j else g) f y = w k₀ := by
  classical
  induction l generalizing f with
  | nil => exact absurd h₀ List.not_mem_nil
  | cons k l ih =>
    rw [List.foldl_cons]
    by_cases hl : k₀ ∈ l
    · exact ih hl (fun k' hk' => h k' (List.mem_cons_of_mem _ hk')) _
    · have hk : k₀ = k := (List.mem_cons.mp h₀).resolve_right hl
      subst hk
      rw [fold_miss l m P w y (fun k' hk' hm' hP' => hl (h k' (List.mem_cons_of_mem _ hk') hm' hP' ▸ hk')), if_pos hm₀]
      exact if_pos hP₀

/-- The lane `x` as the scatter spells it. -/
theorem ofLane_eq (x : Fin 16) : (Shape.ofLane (d := S16.size) x : S16.Idx) = ix1 x := eq_ix1 (n := 16) (Shape.ofLane (d := S16.size) x)

theorem scatter_miss {n : ℕ} {e : EltTy} (f : Vec F ⟨1, ![n]⟩ e) (idxs : IVec S16 32) (v : Vec F S16 e) (mask : IVec S16 1)
    (h : ∀ a x, ((![idxs] : Fin 1 → IVec S16 32) a x).toNat < (⟨1, ![n]⟩ : Shape).size a) (y : Fin n)
    (hy : ∀ x : Fin 16, mask (ix1 x) = 1 → (idxs (ix1 x)).toNat ≠ y.val) :
    storeIdx (F := F) (s := ⟨1, ![n]⟩) (d := S16.size) f ![idxs] v mask false h (ix1 y) = f (ix1 y) := by
  unfold storeIdx
  simp only [Bool.false_eq_true, if_false]
  refine fold_miss (List.finRange (S16.size 0)) (fun k => mask (Shape.ofLane (d := S16.size) k) = 1)
    (fun k j => ∀ a, (j a).val = (idxAt (s := ⟨1, ![n]⟩) ![idxs] h (Shape.ofLane (d := S16.size) k) a).val)
    (fun k => v (Shape.ofLane (d := S16.size) k)) (ix1 y) (fun k _ hm hP => ?_) f
  rw [ofLane_eq k] at hm
  have := hP 0
  rw [ofLane_eq k] at this
  exact hy k hm this.symm

theorem scatter_hit {n : ℕ} {e : EltTy} (f : Vec F ⟨1, ![n]⟩ e) (idxs : IVec S16 32) (v : Vec F S16 e) (mask : IVec S16 1)
    (h : ∀ a x, ((![idxs] : Fin 1 → IVec S16 32) a x).toNat < (⟨1, ![n]⟩ : Shape).size a) (y : Fin n) (x : Fin 16)
    (hm : mask (ix1 x) = 1) (hx : (idxs (ix1 x)).toNat = y.val)
    (hu : ∀ x' : Fin 16, mask (ix1 x') = 1 → (idxs (ix1 x')).toNat = y.val → x' = x) :
    storeIdx (F := F) (s := ⟨1, ![n]⟩) (d := S16.size) f ![idxs] v mask false h (ix1 y) = v (ix1 x) := by
  rw [← ofLane_eq x]
  unfold storeIdx
  simp only [Bool.false_eq_true, if_false]
  refine fold_hit (List.finRange (S16.size 0)) (fun k => mask (Shape.ofLane (d := S16.size) k) = 1)
    (fun k j => ∀ a, (j a).val = (idxAt (s := ⟨1, ![n]⟩) ![idxs] h (Shape.ofLane (d := S16.size) k) a).val)
    (fun k => v (Shape.ofLane (d := S16.size) k)) (ix1 y) x (List.mem_finRange x) ?_ ?_ ?_ f
  · rw [ofLane_eq x]; exact hm
  · intro a
    rw [ofLane_eq x]
    fin_cases a
    exact hx.symm
  · intro k _ hm' hP'
    rw [ofLane_eq k] at hm'
    have := hP' 0
    rw [ofLane_eq k] at this
    exact hu k hm' this.symm

/-! ## The two buffers -/

/-- The score the body scatters of candidate `j`. -/
def scoreOf (B : ℕ → Bool) (sc : Vec F S1024 .f32) (j : Fin 1000) : F .f32 :=
  if Alive B j.val then sc (ix1 ⟨j.val, by have := j.isLt; omega⟩) else Scalar.ofBits .f32 0xFF800000#32
/-- Coordinate `cc` of box `j`. -/
def coordOf (bx : Vec F S4096 .f32) (j : Fin 1000) (cc : Fin 4) : F .f32 :=
  bx (ix1 ⟨1024 * cc.val + j.val, by have := j.isLt; have := cc.isLt; omega⟩)
/-- The place of coordinate `cc` of the box at place `r`. -/
def spot (r : Fin 1000) (cc : Fin 4) : Fin 4000 := ⟨4 * r.val + cc.val, by have := r.isLt; have := cc.isLt; omega⟩

/-- The scores of the first `k` groups are in place. -/
def InS (B : ℕ → Bool) (sc : Vec F S1024 .f32) (k : ℕ) (o : Vec F S1000 .f32) : Prop :=
  ∀ j : Fin 1000, j.val < 16 * k → o (ix1 (rankE B j)) = scoreOf B sc j
/-- Coordinate `cc` of the boxes of the first `k` groups is in place. -/
def InB (B : ℕ → Bool) (bx : Vec F S4096 .f32) (cc : Fin 4) (k : ℕ) (o : Vec F S4000 .f32) : Prop :=
  ∀ j : Fin 1000, j.val < 16 * k → o (ix1 (spot (rankE B j) cc)) = coordOf bx j cc

/-- What the two output buffers hold at the end. -/
def outS (B : ℕ → Bool) (sc : Vec F S1024 .f32) : Vec F S1000 .f32 := fun i => scoreOf B sc ((rankE B).symm (i 0))
def outB (B : ℕ → Bool) (bx : Vec F S4096 .f32) : Vec F S4000 .f32 := fun i =>
  coordOf bx ((rankE B).symm ⟨(i 0).val / 4, by have h : (i 0).val < 4000 := (i 0).isLt; omega⟩) ⟨(i 0).val % 4, by omega⟩

theorem inS_done (B : ℕ → Bool) (sc : Vec F S1024 .f32) (o : Vec F S1000 .f32) (h : InS B sc 64 o) : o = outS B sc := by
  funext i
  have hh := h ((rankE B).symm (i 0)) (by have := ((rankE B).symm (i 0)).isLt; omega)
  have hr : rankE B ((rankE B).symm (i 0)) = i 0 := (rankE B).apply_symm_apply _
  rw [hr] at hh
  exact (congrArg o (eq_ix1 (n := 1000) i)).trans hh
theorem inB_done (B : ℕ → Bool) (bx : Vec F S4096 .f32) (o : Vec F S4000 .f32) (h : ∀ cc, InB B bx cc 64 o) : o = outB B bx := by
  funext i
  have h4 : (i 0).val < 4000 := (i 0).isLt
  have hh := h ⟨(i 0).val % 4, by omega⟩ ((rankE B).symm ⟨(i 0).val / 4, by omega⟩)
    (by have := ((rankE B).symm ⟨(i 0).val / 4, by omega⟩).isLt; omega)
  rw [Equiv.apply_symm_apply] at hh
  refine Eq.trans (congrArg o ?_) hh
  refine (eq_ix1 (n := 4000) i).trans (congrArg ix1 (Fin.ext ?_))
  show (i 0).val = 4 * ((i 0).val / 4) + (i 0).val % 4
  omega

theorem inS_zero (B : ℕ → Bool) (sc : Vec F S1024 .f32) (o : Vec F S1000 .f32) : InS B sc 0 o := fun _ h => absurd h (by omega)
theorem inB_zero (B : ℕ → Bool) (bx : Vec F S4096 .f32) (cc : Fin 4) (o : Vec F S4000 .f32) : InB B bx cc 0 o := fun _ h => absurd h (by omega)

/-- The group's places, given the candidates' suppression bits. -/
def Places (B : ℕ → Bool) (g : ℕ) (p : IVec S16 32) : Prop :=
  ∀ x : Fin 16, (p (ix1 x)).toNat = if 16 * g + x.val < 1000 then rank B (16 * g + x.val) else 999
/-- The group's mask of the real candidates. -/
def Real (g : ℕ) (m : IVec S16 1) : Prop := ∀ x : Fin 16, m (ix1 x) = if 16 * g + x.val < 1000 then 1#1 else 0#1

theorem Real.lt {g : ℕ} {m : IVec S16 1} (h : Real g m) {x : Fin 16} (hx : m (ix1 x) = 1) : 16 * g + x.val < 1000 := by
  by_contra hn
  rw [h x, if_neg hn] at hx
  exact absurd hx (by decide)

theorem Places.lt {B : ℕ → Bool} {g : ℕ} {p : IVec S16 32} (h : Places B g p) (x : S16.Idx) : (p x).toNat < 1000 := by
  have hx := h (x 0)
  have ex : (ix1 (x 0) : S16.Idx) = x := (eq_ix1 (n := 16) x).symm
  have : (p x).toNat = if 16 * g + (x 0).val < 1000 then rank B (16 * g + (x 0).val) else 999 := (congrArg (fun z => (p z).toNat) ex.symm).trans hx
  rw [this]
  split
  · rename_i hx; exact rank_lt B hx
  · decide

theorem inS_step (B : ℕ → Bool) (sc : Vec F S1024 .f32) (g : ℕ) (o : Vec F S1000 .f32) (p : IVec S16 32) (hp : Places B g p)
    (m : IVec S16 1) (hm : Real g m) (v : Vec F S16 .f32)
    (hv : ∀ (x : Fin 16) (hx : 16 * g + x.val < 1000), v (ix1 x) = scoreOf B sc ⟨16 * g + x.val, hx⟩)
    (h : ∀ a x, ((![p] : Fin 1 → IVec S16 32) a x).toNat < S1000.size a) (H : InS B sc g o) :
    InS B sc (g + 1) (storeIdx (F := F) (s := S1000) (d := S16.size) o ![p] v m false h) := by
  intro j hj
  by_cases hold : j.val < 16 * g
  · refine (scatter_miss o p v m h (rankE B j) fun x hx e => ?_).trans (H j hold)
    have hx' := hm.lt hx
    rw [hp x, if_pos hx', rankE_val] at e
    have := rank_inj B hx' j.isLt e
    omega
  · have hx : j.val - 16 * g < 16 := by omega
    have hej : 16 * g + (j.val - 16 * g) = j.val := by omega
    have hjl : 16 * g + (j.val - 16 * g) < 1000 := by have := j.isLt; omega
    refine (scatter_hit o p v m h (rankE B j) ⟨j.val - 16 * g, hx⟩ ?_ ?_ fun x' hx' e => ?_).trans ?_
    · rw [hm, if_pos hjl]; rfl
    · rw [hp, if_pos hjl, rankE_val]
      show rank B (16 * g + (j.val - 16 * g)) = _
      rw [hej]
    · have hx'' := hm.lt hx'
      rw [hp x', if_pos hx'', rankE_val] at e
      have := rank_inj B hx'' j.isLt e
      apply Fin.ext
      show x'.val = j.val - 16 * g
      omega
    · rw [hv ⟨j.val - 16 * g, hx⟩ hjl]
      exact congrArg (scoreOf B sc) (Fin.ext hej)

/-- A group's index vector of coordinate `cc`. -/
def Spots (p q : IVec S16 32) (cc : Fin 4) : Prop := ∀ x, (q x).toNat = 4 * (p x).toNat + cc.val

theorem inB_step (B : ℕ → Bool) (bx : Vec F S4096 .f32) (cc : Fin 4) (g : ℕ) (o : Vec F S4000 .f32) (p : IVec S16 32) (hp : Places B g p)
    (q : IVec S16 32) (hq : Spots p q cc) (m : IVec S16 1) (hm : Real g m) (v : Vec F S16 .f32)
    (hv : ∀ (x : Fin 16) (hx : 16 * g + x.val < 1000), v (ix1 x) = coordOf bx ⟨16 * g + x.val, hx⟩ cc)
    (h : ∀ a x, ((![q] : Fin 1 → IVec S16 32) a x).toNat < S4000.size a) (H : InB B bx cc g o) :
    InB B bx cc (g + 1) (storeIdx (F := F) (s := S4000) (d := S16.size) o ![q] v m false h) := by
  intro j hj
  by_cases hold : j.val < 16 * g
  · refine (scatter_miss o q v m h (spot (rankE B j) cc) fun x hx e => ?_).trans (H j hold)
    have hx' := hm.lt hx
    rw [hq, hp x, if_pos hx'] at e
    have := rank_inj B hx' j.isLt (show _ = (rankE B j).val by
      have e' : 4 * rank B (16 * g + x.val) + cc.val = 4 * (rankE B j).val + cc.val := e
      omega)
    omega
  · have hx : j.val - 16 * g < 16 := by omega
    have hej : 16 * g + (j.val - 16 * g) = j.val := by omega
    have hjl : 16 * g + (j.val - 16 * g) < 1000 := by have := j.isLt; omega
    refine (scatter_hit o q v m h (spot (rankE B j) cc) ⟨j.val - 16 * g, hx⟩ ?_ ?_ fun x' hx' e => ?_).trans ?_
    · rw [hm, if_pos hjl]; rfl
    · rw [hq, hp, if_pos hjl]
      show 4 * rank B (16 * g + (j.val - 16 * g)) + cc.val = 4 * rank B j.val + cc.val
      rw [hej]
    · have hx'' := hm.lt hx'
      rw [hq, hp x', if_pos hx''] at e
      have := rank_inj B hx'' j.isLt (show _ = (rankE B j).val by
        have e' : 4 * rank B (16 * g + x'.val) + cc.val = 4 * (rankE B j).val + cc.val := e
        omega)
      apply Fin.ext
      show x'.val = j.val - 16 * g
      omega
    · rw [hv ⟨j.val - 16 * g, hx⟩ hjl]
      exact congrArg (fun z => coordOf bx z cc) (Fin.ext hej)

/-- Scattering one coordinate keeps another's. -/
theorem inB_other (B : ℕ → Bool) (bx : Vec F S4096 .f32) (cc cc' : Fin 4) (hc : cc ≠ cc') (k : ℕ) (o : Vec F S4000 .f32) (p q : IVec S16 32)
    (hq : Spots p q cc) (m : IVec S16 1) (v : Vec F S16 .f32)
    (h : ∀ a x, ((![q] : Fin 1 → IVec S16 32) a x).toNat < S4000.size a) (H : InB B bx cc' k o) :
    InB B bx cc' k (storeIdx (F := F) (s := S4000) (d := S16.size) o ![q] v m false h) := by
  intro j hj
  refine (scatter_miss o q v m h (spot (rankE B j) cc') fun x _ e => ?_).trans (H j hj)
  rw [hq] at e
  have e' : 4 * (p (ix1 x)).toNat + cc.val = 4 * (rankE B j).val + cc'.val := e
  have h1 := cc.isLt
  have h2 := cc'.isLt
  exact hc (Fin.ext (by omega))

/-- The four index vectors. -/
theorem spots_of (p : IVec S16 32) (hp : ∀ x, (p x).toNat < 1000) (c : ℕ) (hc : c < 4) (x : S16.Idx) :
    (IntOp.addi (IntOp.muli (p x) 4#32) (BitVec.ofNat 32 c)).toNat = 4 * (p x).toNat + c := by
  have := hp x
  show (p x * 4#32 + BitVec.ofNat 32 c).toNat = _
  rw [BitVec.toNat_add, BitVec.toNat_mul, BitVec.toNat_ofNat, BitVec.toNat_ofNat]
  omega
theorem spots19 (p : IVec S16 32) (hp : ∀ x, (p x).toNat < 1000) : Spots p (k2_pay19 p) 0 := fun x => spots_of p hp 0 (by omega) x
theorem spots20 (p : IVec S16 32) (hp : ∀ x, (p x).toNat < 1000) : Spots p (k2_pay20 p) 1 := fun x => spots_of p hp 1 (by omega) x
theorem spots21 (p : IVec S16 32) (hp : ∀ x, (p x).toNat < 1000) : Spots p (k2_pay21 p) 2 := fun x => spots_of p hp 2 (by omega) x
theorem spots22 (p : IVec S16 32) (hp : ∀ x, (p x).toNat < 1000) : Spots p (k2_pay22 p) 3 := fun x => spots_of p hp 3 (by omega) x

theorem lt_of_spots {p q : IVec S16 32} {cc : Fin 4} (hp : ∀ x, (p x).toNat < 1000) (hq : Spots p q cc) (a : Fin 1) (x : S16.Idx) :
    ((![q] : Fin 1 → IVec S16 32) a x).toNat < S4000.size a := by
  fin_cases a
  show (q x).toNat < 4000
  have h1 := hq x
  have h2 := hp x
  have h3 := cc.isLt
  omega
theorem lt_of_places {p : IVec S16 32} (hp : ∀ x, (p x).toNat < 1000) (a : Fin 1) (x : S16.Idx) :
    ((![p] : Fin 1 → IVec S16 32) a x).toNat < S1000.size a := by
  fin_cases a
  exact hp x

/-- Two suppression maps that agree on the thousand give the same output. -/
theorem alive_congr {B B' : ℕ → Bool} (h : ∀ j < 1000, B j = B' j) : Alive B = Alive B' := by
  funext j; unfold Alive
  exact propext ⟨fun ⟨a, b⟩ => ⟨a, (h j a) ▸ b⟩, fun ⟨a, b⟩ => ⟨a, (h j a).trans b⟩⟩
theorem dead_congr {B B' : ℕ → Bool} (h : ∀ j < 1000, B j = B' j) : Dead B = Dead B' := by
  funext j; unfold Dead
  exact propext ⟨fun ⟨a, b⟩ => ⟨a, (h j a) ▸ b⟩, fun ⟨a, b⟩ => ⟨a, (h j a).trans b⟩⟩
theorem rank_congr {B B' : ℕ → Bool} (h : ∀ j < 1000, B j = B' j) (j : ℕ) : rank B j = rank B' j := by
  unfold rank cntA cntD
  simp only [alive_congr h, dead_congr h]
theorem rankE_congr {B B' : ℕ → Bool} (h : ∀ j < 1000, B j = B' j) : rankE B = rankE B' :=
  Equiv.ext fun j => Fin.ext (rank_congr h j.val)
theorem outS_congr {B B' : ℕ → Bool} (h : ∀ j < 1000, B j = B' j) (sc : Vec F S1024 .f32) : outS B sc = outS B' sc := by
  funext i
  unfold outS scoreOf
  simp only [rankE_congr h, alive_congr h]
theorem outB_congr {B B' : ℕ → Bool} (h : ∀ j < 1000, B j = B' j) (bx : Vec F S4096 .f32) : outB B bx = outB B' bx := by
  funext i
  unfold outB
  simp only [rankE_congr h]

end Cert.Proof.Nms

end
-- ==== Proof.Nms.Trips.lean ====
/-
  The trips of the suppression kernel's three loops on one vector subcore, at a symbolic pair (SparseCore, subcore).
-/
module

public import proofs.«01_k».proof.Proof.Common
public import proofs.«01_k».proof.Proof.Nms.Scatter

@[expose] public section

noncomputable section

namespace Cert.Proof.Nms

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "wV" => (Memref.whole Cert.KernelIdeal.main_v111_scv : Memref Cert.KernelIdeal.sig Kind.scVector Space.hbm Cert.KernelIdeal.S32768 EltTy.i32)
local notation "sV" => (Memref.whole Cert.KernelIdeal.main_v108_scv : Memref Cert.KernelIdeal.sig Kind.scVector Space.hbm Cert.KernelIdeal.S1024 EltTy.f32)
local notation "bV" => (Memref.whole Cert.KernelIdeal.main_v112_scv : Memref Cert.KernelIdeal.sig Kind.scVector Space.hbm Cert.KernelIdeal.S4096 EltTy.f32)
local notation "oB" => (Memref.whole Cert.KernelIdeal.main_v113_0_scv : Memref Cert.KernelIdeal.sig Kind.scVector Space.hbm Cert.KernelIdeal.S4000 EltTy.f32)
local notation "oS" => (Memref.whole Cert.KernelIdeal.main_v113_1_scv : Memref Cert.KernelIdeal.sig Kind.scVector Space.hbm Cert.KernelIdeal.S1000 EltTy.f32)
local notation "x0" => (Memref.whole Cert.KernelIdeal.cc2_scratch0 : Memref Cert.KernelIdeal.sig Kind.scVector Space.vmem Cert.KernelIdeal.S32768 EltTy.i32)
local notation "x1" => (Memref.whole Cert.KernelIdeal.cc2_scratch1 : Memref Cert.KernelIdeal.sig Kind.scVector Space.vmem Cert.KernelIdeal.S1024 EltTy.f32)
local notation "x2" => (Memref.whole Cert.KernelIdeal.cc2_scratch2 : Memref Cert.KernelIdeal.sig Kind.scVector Space.vmem Cert.KernelIdeal.S4096 EltTy.f32)
local notation "x3" => (Memref.whole Cert.KernelIdeal.cc2_scratch3 : Memref Cert.KernelIdeal.sig Kind.scVector Space.vmem Cert.KernelIdeal.S4000 EltTy.f32)
local notation "x4" => (Memref.whole Cert.KernelIdeal.cc2_scratch4 : Memref Cert.KernelIdeal.sig Kind.scVector Space.vmem Cert.KernelIdeal.S1000 EltTy.f32)

/-- The mask's words by number. -/
def wordsAt (w : Vec F S32768 .i32) (n : ℕ) : BitVec 32 := if h : n < 32768 then w (ix1 ⟨n, h⟩) else 0#32
/-- The suppression the words describe. -/
def dead (w : Vec F S32768 .i32) : ℕ → Bool := sup (wordsAt w) 1000

/-- What the call brings: the words, the scores, the boxes, and the two results' buffers. -/
abbrev brings (d : Dev nD) (w : Vec F S32768 .i32) (s : Vec F S1024 .f32) (b : Vec F S4096 .f32) : sProp 𝕄 :=
  iprop((wordsLoc d ↦{fullShare} w) ∗ (scoresLoc d ↦{fullShare} s) ∗ (boxesLoc d ↦{fullShare} b)
    ∗ (∃ f : Buf (Elt F) (outBLoc d), outBLoc d ↦{fullShare} f) ∗ (∃ f : Buf (Elt F) (outSLoc d), outSLoc d ↦{fullShare} f))
/-- What it leaves back. -/
abbrev leaves (d : Dev nD) (w : Vec F S32768 .i32) (s : Vec F S1024 .f32) (b : Vec F S4096 .f32) : sProp 𝕄 :=
  iprop((wordsLoc d ↦{fullShare} w) ∗ (scoresLoc d ↦{fullShare} s) ∗ (boxesLoc d ↦{fullShare} b)
    ∗ (outBLoc d ↦{fullShare} (outB (dead w) b : Vec F S4000 .f32)) ∗ (outSLoc d ↦{fullShare} (outS (dead w) s : Vec F S1000 .f32)))

section Tile

variable (d : Dev nD) (L : grid2.Coords)

abbrev cV (L : grid2.Coords) : Fin τ.nSC := (L 0).castLE hcore2
abbrev jV (L : grid2.Coords) : Fin τ.nSub := (L 1).castLE hsub2
/-- The subcore's thread. -/
abbrev thr (d : Dev nD) (L : grid2.Coords) : Thread nD τ := V d (cV L) (jV L)

abbrev cell0 (d : Dev nD) (c : Fin τ.nSC) (i : Fin τ.nSub) : GSem nD τ sig := (V d c i, .dma cc2_scoped0.sem)
abbrev cell1 (d : Dev nD) (c : Fin τ.nSC) (i : Fin τ.nSub) : GSem nD τ sig := (V d c i, .dma cc2_scoped1.sem)
abbrev cell2 (d : Dev nD) (c : Fin τ.nSC) (i : Fin τ.nSub) : GSem nD τ sig := (V d c i, .dma cc2_scoped2.sem)
abbrev cell3 (d : Dev nD) (c : Fin τ.nSC) (i : Fin τ.nSub) : GSem nD τ sig := (V d c i, .dma cc2_scoped3.sem)
abbrev cell4 (d : Dev nD) (c : Fin τ.nSC) (i : Fin τ.nSub) : GSem nD τ sig := (V d c i, .dma cc2_scoped4.sem)

omit [FloatOps F] in
/-- The subcore's scoped semaphores: the five the body names, and the rest. -/
theorem ownSems0_V :
    ∃ R : sProp 𝕄, (ownSems0 (V d (cV L) (jV L)) : sProp 𝕄)
      = iprop(semVal (cell0 d (cV L) (jV L)) 0 ∗ semVal (cell1 d (cV L) (jV L)) 0 ∗ semVal (cell2 d (cV L) (jV L)) 0
          ∗ semVal (cell3 d (cV L) (jV L)) 0 ∗ semVal (cell4 d (cV L) (jV L)) 0 ∗ R) := by
  have mem : ∀ s : SemLoc sig, s.isScoped .scVector = true → ((V d (cV L) (jV L), s) : GSem nD τ sig) ∈ ownCells (V d (cV L) (jV L)) :=
    fun s hs => mem_ownCells.mpr ⟨rfl, hs⟩
  have ne : ∀ s s' : SemLoc sig, s ≠ s' → ((V d (cV L) (jV L), s) : GSem nD τ sig) ≠ (V d (cV L) (jV L), s') :=
    fun s s' h e => h (congrArg Prod.snd e)
  refine ⟨bigSep ((((((ownCells (V d (cV L) (jV L))).erase (cell0 d (cV L) (jV L))).erase (cell1 d (cV L) (jV L))).erase (cell2 d (cV L) (jV L))).erase
    (cell3 d (cV L) (jV L))).erase (cell4 d (cV L) (jV L))) fun g => semVal g 0, ?_⟩
  unfold SparseCore.Cfg.ownSems0
  rw [SparseCore.bigSep_erase' (mem (.dma cc2_scoped0.sem) (by decide)),
    SparseCore.bigSep_erase' (Finset.mem_erase.mpr ⟨ne _ _ (by decide), mem (.dma cc2_scoped1.sem) (by decide)⟩),
    SparseCore.bigSep_erase' (Finset.mem_erase.mpr ⟨ne _ _ (by decide), Finset.mem_erase.mpr ⟨ne _ _ (by decide), mem (.dma cc2_scoped2.sem) (by decide)⟩⟩),
    SparseCore.bigSep_erase' (Finset.mem_erase.mpr ⟨ne _ _ (by decide), Finset.mem_erase.mpr ⟨ne _ _ (by decide), Finset.mem_erase.mpr ⟨ne _ _ (by decide),
      mem (.dma cc2_scoped3.sem) (by decide)⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), mem (.dma cc2_scoped4.sem) (by decide)⟩⟩⟩⟩)]

omit [FloatOps F] in
/-- The subcore's own buffers: the five scratches, and the rest. -/
theorem ownBufs_V :
    ∃ R : sProp 𝕄, (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f) ∗ (∃ f, (V d (cV L) (jV L)).loc cc2_scratch3 ↦{fullShare} f)
          ∗ (∃ f, (V d (cV L) (jV L)).loc cc2_scratch4 ↦{fullShare} f) ∗ R) := by
  have mem : ∀ r : Ref sig .scVector, r.space = .vmem → ((Proc.scVector (cV L) (jV L)).devRef r) ∈ ownRefs (τ := τ) (.scVector (cV L) (jV L)) := by
    intro r hr
    obtain ⟨s, i, h⟩ := r
    subst hr
    exact SparseCore.Cfg.mem_ownRefs_of_owner (p := Proc.scVector (cV L) (jV L)) rfl
  have ne : ∀ r r' : Ref sig .scVector, r ≠ r' → ((Proc.scVector (cV L) (jV L)).devRef r : DevRef τ sig) ≠ (Proc.scVector (cV L) (jV L)).devRef r' :=
    fun r r' h e => h (Proc.devRef_injective _ e)
  refine ⟨bigSep ((((((ownRefs (τ := τ) (.scVector (cV L) (jV L))).erase ((Proc.scVector (cV L) (jV L)).devRef cc2_scratch0)).erase
      ((Proc.scVector (cV L) (jV L)).devRef cc2_scratch1)).erase ((Proc.scVector (cV L) (jV L)).devRef cc2_scratch2)).erase
      ((Proc.scVector (cV L) (jV L)).devRef cc2_scratch3)).erase ((Proc.scVector (cV L) (jV L)).devRef cc2_scratch4))
      fun b => iprop(∃ f, ((d, b) : Loc nD τ sig) ↦{fullShare} f), ?_⟩
  unfold SparseCore.Cfg.ownBufs
  refine (SparseCore.bigSep_erase' (mem cc2_scratch0 rfl)).trans ?_
  rw [SparseCore.bigSep_erase' (Finset.mem_erase.mpr ⟨ne _ _ (by decide), mem cc2_scratch1 rfl⟩),
    SparseCore.bigSep_erase' (Finset.mem_erase.mpr ⟨ne _ _ (by decide), Finset.mem_erase.mpr ⟨ne _ _ (by decide), mem cc2_scratch2 rfl⟩⟩),
    SparseCore.bigSep_erase' (Finset.mem_erase.mpr ⟨ne _ _ (by decide), Finset.mem_erase.mpr ⟨ne _ _ (by decide), Finset.mem_erase.mpr ⟨ne _ _ (by decide), mem cc2_scratch3 rfl⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), mem cc2_scratch4 rfl⟩⟩⟩⟩)]

/-! ### The loads, by element -/

theorem read_words (f : Vec F S32768 .i32) (off : Fin 1 → ℕ) (h : ∀ a, off a + S16.size a ≤ S32768.size a) (x : Fin 16) :
    (x0).view.readAt (Elt F) (Rect.unit (s := S32768) off S16.size h).toLoadRect f (ix1 x)
      = f (ix1 ⟨off 0 + x.val, by have h0 : off 0 + 16 ≤ 32768 := h 0; have := x.isLt; omega⟩) := by
  refine congrArg f (funext fun a => Fin.ext ?_)
  fin_cases a
  show off 0 + 1 * x.val = off 0 + x.val
  omega
theorem read_scores (f : Vec F S1024 .f32) (off : Fin 1 → ℕ) (h : ∀ a, off a + S16.size a ≤ S1024.size a) (x : Fin 16) :
    (x1).view.readAt (Elt F) (Rect.unit (s := S1024) off S16.size h).toLoadRect f (ix1 x)
      = f (ix1 ⟨off 0 + x.val, by have h0 : off 0 + 16 ≤ 1024 := h 0; have := x.isLt; omega⟩) := by
  refine congrArg f (funext fun a => Fin.ext ?_)
  fin_cases a
  show off 0 + 1 * x.val = off 0 + x.val
  omega
theorem read_boxes (f : Vec F S4096 .f32) (off : Fin 1 → ℕ) (h : ∀ a, off a + S16.size a ≤ S4096.size a) (x : Fin 16) :
    (x2).view.readAt (Elt F) (Rect.unit (s := S4096) off S16.size h).toLoadRect f (ix1 x)
      = f (ix1 ⟨off 0 + x.val, by have h0 : off 0 + 16 ≤ 4096 := h 0; have := x.isLt; omega⟩) := by
  refine congrArg f (funext fun a => Fin.ext ?_)
  fin_cases a
  show off 0 + 1 * x.val = off 0 + x.val
  omega

theorem wordsAt_lt (w : Vec F S32768 .i32) {n : ℕ} (h : n < 32768) : wordsAt w n = w (ix1 ⟨n, h⟩) := dif_pos h

/-! ### The scatters, as single steps -/

/-- A scatter into the boxes' buffer. -/
theorem scatter_box {α : Type} (f : Vec F S4000 .f32) (q : IVec S16 32) (v : Vec F S16 .f32) (m : IVec S16 1) (h) (hs)
    (k : PUnit → Prog (TpuEff nD τ sig (Elt F) Λ₀ (.scVector (cV L) (jV L))) α) (Q : α → sProp 𝕄) :
    ((x3).view.loc (V d (cV L) (jV L)) ↦{fullShare} f : sProp 𝕄)
      ⊢ iprop((((x3).view.loc (V d (cV L) (jV L)) ↦{fullShare} (storeIdx (F := F) (s := S4000) (d := S16.size) f ![q] v m false h : Vec F S4000 .f32))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx x3 ![q] v m false h hs >>= k) Q) := by
  have e (g : Vec F S4000 .f32) : (((x3).access (.whole S4000)).loc (V d (cV L) (jV L)) ↦[((x3).access (.whole S4000)).set]{fullShare} g : sProp 𝕄)
      = ((x3).view.loc (V d (cV L) (jV L)) ↦{fullShare} g) := by
    rw [show ((x3).access (.whole S4000)).set = Finset.univ from Memref.set_access_whole (cc2_scratch3 : Ref sig .scVector)]
  have e' : ((x3).access (.whole S4000)).write (Elt F) f (storeIdx (F := F) (s := S4000) (d := S16.size) (((x3).access (.whole S4000)).read (Elt F) f) ![q] v m false h) Finset.univ
      = storeIdx (F := F) (s := S4000) (d := S16.size) f ![q] v m false h := by
    rw [show ((x3).access (.whole S4000)).read (Elt F) f = f from Memref.read_access_whole (Elt F) (cc2_scratch3 : Ref sig .scVector) f]
    exact Memref.write_access_whole_univ (Elt F) (cc2_scratch3 : Ref sig .scVector) f _
  iintro H Hk
  ihave H := (Entails.of_eq (e f).symm) $$ H
  iapply (SparseCore.wp_vectorStoreIdx 𝒱₀ (V d (cV L) (jV L)) none Set.univ (base := x3)) $$ H
  iintro H
  iapply Hk
  ihave H := (Entails.of_eq ((congrArg (fun g => ((((x3).access (.whole S4000)).loc (V d (cV L) (jV L)) ↦[((x3).access (.whole S4000)).set]{fullShare} g : sProp 𝕄))) e').trans (e _))) $$ H
  iexact H

/-- A scatter into the scores' buffer. -/
theorem scatter_score {α : Type} (f : Vec F S1000 .f32) (q : IVec S16 32) (v : Vec F S16 .f32) (m : IVec S16 1) (h) (hs)
    (k : PUnit → Prog (TpuEff nD τ sig (Elt F) Λ₀ (.scVector (cV L) (jV L))) α) (Q : α → sProp 𝕄) :
    ((x4).view.loc (V d (cV L) (jV L)) ↦{fullShare} f : sProp 𝕄)
      ⊢ iprop((((x4).view.loc (V d (cV L) (jV L)) ↦{fullShare} (storeIdx (F := F) (s := S1000) (d := S16.size) f ![q] v m false h : Vec F S1000 .f32))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx x4 ![q] v m false h hs >>= k) Q) := by
  have e (g : Vec F S1000 .f32) : (((x4).access (.whole S1000)).loc (V d (cV L) (jV L)) ↦[((x4).access (.whole S1000)).set]{fullShare} g : sProp 𝕄)
      = ((x4).view.loc (V d (cV L) (jV L)) ↦{fullShare} g) := by
    rw [show ((x4).access (.whole S1000)).set = Finset.univ from Memref.set_access_whole (cc2_scratch4 : Ref sig .scVector)]
  have e' : ((x4).access (.whole S1000)).write (Elt F) f (storeIdx (F := F) (s := S1000) (d := S16.size) (((x4).access (.whole S1000)).read (Elt F) f) ![q] v m false h) Finset.univ
      = storeIdx (F := F) (s := S1000) (d := S16.size) f ![q] v m false h := by
    rw [show ((x4).access (.whole S1000)).read (Elt F) f = f from Memref.read_access_whole (Elt F) (cc2_scratch4 : Ref sig .scVector) f]
    exact Memref.write_access_whole_univ (Elt F) (cc2_scratch4 : Ref sig .scVector) f _
  iintro H Hk
  ihave H := (Entails.of_eq (e f).symm) $$ H
  iapply (SparseCore.wp_vectorStoreIdx 𝒱₀ (V d (cV L) (jV L)) none Set.univ (base := x4)) $$ H
  iintro H
  iapply Hk
  ihave H := (Entails.of_eq ((congrArg (fun g => ((((x4).access (.whole S1000)).loc (V d (cV L) (jV L)) ↦[((x4).access (.whole S1000)).set]{fullShare} g : sProp 𝕄))) e').trans (e _))) $$ H
  iexact H

/-! ### The loops' trips -/

/-- A trip of loop 1: the words are read, the carried bits step. -/
theorem t1_trip (w : Vec F S32768 .i32) (k2_h1 : k2_cond1 L = 1#1) (k : Fin k2_t1_loop.trips) (a b : IVec S16 32) (H : Holds (wordsAt w) k.val a b) :
    ((x0).view.loc (V d (cV L) (jV L)) ↦{fullShare} w : sProp 𝕄)
      ⊢ wp frame (wpE (defs₀ (F := F)) 𝒱₀ (V d (cV L) (jV L)) none) Set.univ
          (k2_t1_body L wV (Memref.isWhole_whole _) sV (Memref.isWhole_whole _) bV (Memref.isWhole_whole _) oB (Memref.isWhole_whole _)
            oS (Memref.isWhole_whole _) x0 (Memref.isWhole_whole _) x1 (Memref.isWhole_whole _) x2 (Memref.isWhole_whole _) x3 (Memref.isWhole_whole _)
            x4 (Memref.isWhole_whole _) cc2_scoped0 cc2_scoped1 cc2_scoped2 cc2_scoped3 cc2_scoped4 k2_h1 k (a, b))
          fun acc => iprop(((x0).view.loc (V d (cV L) (jV L)) ↦{fullShare} w) ∗ ⌜Holds (wordsAt w) (k.val + 1) acc.1 acc.2⌝) := by
  unfold k2_t1_body
  rw [k2_part1_eq_skeleton]
  unfold k2_part1_skel
  have hk : k.val < 1000 := lt_of_lt_of_le k.isLt k2_t1_abs.2.1
  iintro H0
  simp only [Prog.lift, Prog.bind_op, Prog.bind_ret, Prog.pure_eq_ret]
  iapply (wp_load 𝒱₀ (V d (cV L) (jV L)) none Set.univ (m := x0) (S := Finset.univ) (Finset.subset_univ _)) $$ H0; iintro H0
  iapply (wp_load 𝒱₀ (V d (cV L) (jV L)) none Set.univ (m := x0) (S := Finset.univ) (Finset.subset_univ _)) $$ H0; iintro H0
  sl_step
  isplitl [H0]; · iexact H0
  ipureintro
  refine holds_step (wordsAt w) k a b _ _
    ((x0).view.readAt (Elt F) (Rect.unit (s := S32768) (k2_off1 k) S16.size (k2_off1_inb L k k2_h1)).toLoadRect w)
    ((x0).view.readAt (Elt F) (Rect.unit (s := S32768) (k2_off2 k) S16.size (k2_off2_inb L k k2_h1)).toLoadRect w)
    (fun x => ?_) (fun x => ?_) (fun x => ?_) (fun x => ?_) H
  · rw [read_words]
    have hx := x.isLt
    have ho : k2_off1 k 0 = 32 * k.val := congrFun (k2_off1_eq k) 0
    rw [wordsAt_lt w (show 32 * k.val + x.val < 32768 by omega)]
    exact congrArg (fun z => w (ix1 z)) (Fin.ext (by show k2_off1 k 0 + x.val = _; rw [ho]))
  · rw [read_words]
    have hx := x.isLt
    have ho : k2_off2 k 0 = 32 * k.val + 16 := congrFun (k2_off2_eq k) 0
    rw [wordsAt_lt w (show 32 * k.val + 16 + x.val < 32768 by omega)]
    exact congrArg (fun z => w (ix1 z)) (Fin.ext (by show k2_off2 k 0 + x.val = _; rw [ho]))
  · exact (pay2_at k a _ _ x).trans (by rw [word_t1 k a b])
  · exact (pay3_at k b _ _ x).trans (by rw [word_t1 k a b])

/-- A trip of loop 2: the living candidates are counted. -/
theorem t2_trip (k2_h1 : k2_cond1 L = 1#1) (a b : IVec S16 32) (k : Fin k2_t2_loop.trips) :
    (iprop(emp) : sProp 𝕄)
      ⊢ wp frame (wpE (defs₀ (F := F)) 𝒱₀ (V d (cV L) (jV L)) none) Set.univ
          (k2_t2_body L wV (Memref.isWhole_whole _) sV (Memref.isWhole_whole _) bV (Memref.isWhole_whole _) oB (Memref.isWhole_whole _)
            oS (Memref.isWhole_whole _) x0 (Memref.isWhole_whole _) x1 (Memref.isWhole_whole _) x2 (Memref.isWhole_whole _) x3 (Memref.isWhole_whole _)
            x4 (Memref.isWhole_whole _) cc2_scoped0 cc2_scoped1 cc2_scoped2 cc2_scoped3 cc2_scoped4 k2_h1 a b k (BitVec.ofNat 32 (cntA (bit a b) (16 * k.val))))
          fun n => iprop(⌜n = BitVec.ofNat 32 (cntA (bit a b) (16 * (k.val + 1)))⌝) := by
  unfold k2_t2_body
  rw [k2_part2_eq_skeleton]
  unfold k2_part2_skel
  have hk : k.val < 64 := lt_of_lt_of_le k.isLt k2_t2_abs.2.1
  iintro -
  simp only [Prog.lift, Prog.bind_op, Prog.bind_ret, Prog.pure_eq_ret]
  sl_step
  ipureintro
  rw [word_t2 k a b]
  exact t2_step k.val hk a b _

/-- The state of loop 3 before trip `k`. -/
def Mid (B : ℕ → Bool) (s : Vec F S1024 .f32) (b : Vec F S4096 .f32) (k : ℕ) (o : Vec F S4000 .f32) (o' : Vec F S1000 .f32) : Prop :=
  (∀ cc, InB B b cc k o) ∧ InS B s k o'

theorem mid_step_box (B : ℕ → Bool) (bx : Vec F S4096 .f32) (g : ℕ) (hg : g < 64) (o : Vec F S4000 .f32) (p : IVec S16 32) (hp : Places B g p)
    (m : IVec S16 1) (hm : Real g m) (q₀ q₁ q₂ q₃ : IVec S16 32) (h₀ h₁ h₂ h₃) (e₀ : Spots p q₀ 0) (e₁ : Spots p q₁ 1) (e₂ : Spots p q₂ 2) (e₃ : Spots p q₃ 3)
    (v₀ v₁ v₂ v₃ : Vec F S16 .f32)
    (w₀ : ∀ (x : Fin 16) (hx : 16 * g + x.val < 1000), v₀ (ix1 x) = coordOf bx ⟨16 * g + x.val, hx⟩ 0)
    (w₁ : ∀ (x : Fin 16) (hx : 16 * g + x.val < 1000), v₁ (ix1 x) = coordOf bx ⟨16 * g + x.val, hx⟩ 1)
    (w₂ : ∀ (x : Fin 16) (hx : 16 * g + x.val < 1000), v₂ (ix1 x) = coordOf bx ⟨16 * g + x.val, hx⟩ 2)
    (w₃ : ∀ (x : Fin 16) (hx : 16 * g + x.val < 1000), v₃ (ix1 x) = coordOf bx ⟨16 * g + x.val, hx⟩ 3)
    (H : ∀ cc, InB B bx cc g o) : ∀ cc, InB B bx cc (g + 1)
      (storeIdx (F := F) (s := S4000) (d := S16.size) (storeIdx (F := F) (s := S4000) (d := S16.size) (storeIdx (F := F) (s := S4000) (d := S16.size)
        (storeIdx (F := F) (s := S4000) (d := S16.size) o ![q₀] v₀ m false h₀) ![q₁] v₁ m false h₁) ![q₂] v₂ m false h₂) ![q₃] v₃ m false h₃) := by
  intro cc
  fin_cases cc
  · exact inB_other B bx 3 0 (by decide) _ _ p q₃ e₃ m v₃ h₃ (inB_other B bx 2 0 (by decide) _ _ p q₂ e₂ m v₂ h₂
      (inB_other B bx 1 0 (by decide) _ _ p q₁ e₁ m v₁ h₁ (inB_step B bx 0 g o p hp q₀ e₀ m hm v₀ w₀ h₀ (H 0))))
  · exact inB_other B bx 3 1 (by decide) _ _ p q₃ e₃ m v₃ h₃ (inB_other B bx 2 1 (by decide) _ _ p q₂ e₂ m v₂ h₂
      (inB_step B bx 1 g _ p hp q₁ e₁ m hm v₁ w₁ h₁ (inB_other B bx 0 1 (by decide) _ _ p q₀ e₀ m v₀ h₀ (H 1))))
  · exact inB_other B bx 3 2 (by decide) _ _ p q₃ e₃ m v₃ h₃ (inB_step B bx 2 g _ p hp q₂ e₂ m hm v₂ w₂ h₂
      (inB_other B bx 1 2 (by decide) _ _ p q₁ e₁ m v₁ h₁ (inB_other B bx 0 2 (by decide) _ _ p q₀ e₀ m v₀ h₀ (H 2))))
  · exact inB_step B bx 3 g _ p hp q₃ e₃ m hm v₃ w₃ h₃ (inB_other B bx 2 3 (by decide) _ _ p q₂ e₂ m v₂ h₂
      (inB_other B bx 1 3 (by decide) _ _ p q₁ e₁ m v₁ h₁ (inB_other B bx 0 3 (by decide) _ _ p q₀ e₀ m v₀ h₀ (H 3))))

theorem box_at (bx : Vec F S4096 .f32) (k : Fin k2_t3_loop.trips) (cc : Fin 4) (off : Fin 1 → ℕ) (h) (ho : off 0 = 16 * k.val + 1024 * cc.val) (x : Fin 16)
    (hx : 16 * k.val + x.val < 1000) :
    (x2).view.readAt (Elt F) (Rect.unit (s := S4096) off S16.size h).toLoadRect bx (ix1 x) = coordOf bx ⟨16 * k.val + x.val, hx⟩ cc := by
  rw [read_boxes]
  exact congrArg (fun z => bx (ix1 z)) (Fin.ext (by show off 0 + x.val = 1024 * cc.val + (16 * k.val + x.val); omega))

theorem score_at (s : Vec F S1024 .f32) (k : Fin k2_t3_loop.trips) (a b : IVec S16 32) (h) (x : Fin 16) (hx : 16 * k.val + x.val < 1000) :
    k2_pay18 (F := F) lanes (Scf.iv 0#32 1#32 k) (word a b (k.val / 2)) two (rem2 (Scf.iv 0#32 1#32 k)) (ne2 (Scf.iv 0#32 1#32 k)) (sg2 (Scf.iv 0#32 1#32 k))
        ((x1).view.readAt (Elt F) (Rect.unit (s := S1024) (k2_off3 k) S16.size h).toLoadRect s) (ix1 x)
      = scoreOf (bit a b) s ⟨16 * k.val + x.val, hx⟩ := by
  have hk : k.val < 64 := lt_of_lt_of_le k.isLt k2_t3_abs.2.1
  have ho : k2_off3 k 0 = 16 * k.val := congrFun (k2_off3_eq k) 0
  show Scalar.select (k2_pay16 _ _ _ _ _ _ _ (ix1 x)) ((x1).view.readAt (Elt F) (Rect.unit (s := S1024) (k2_off3 k) S16.size h).toLoadRect s (ix1 x)) (Scalar.ofBits .f32 0xFF800000#32) = _
  rw [pay16_at k.val hk, read_scores]
  unfold scoreOf
  split
  · exact congrArg (fun z => s (ix1 z)) (Fin.ext (by show k2_off3 k 0 + x.val = _; rw [ho]))
  · rfl

set_option maxHeartbeats 1600000 in
/-- A trip of loop 3: the group's scores and boxes are scattered and the two counters step. -/
theorem t3_trip (k2_h1 : k2_cond1 L = 1#1) (s : Vec F S1024 .f32) (bx : Vec F S4096 .f32) (a b : IVec S16 32) (k : Fin k2_t3_loop.trips)
    (f3 : Vec F S4000 .f32) (f4 : Vec F S1000 .f32) (H : Mid (bit a b) s bx k.val f3 f4) :
    iprop(((x1).view.loc (V d (cV L) (jV L)) ↦{fullShare} s) ∗ ((x2).view.loc (V d (cV L) (jV L)) ↦{fullShare} bx)
        ∗ ((x3).view.loc (V d (cV L) (jV L)) ↦{fullShare} f3) ∗ ((x4).view.loc (V d (cV L) (jV L)) ↦{fullShare} f4) : sProp 𝕄)
      ⊢ wp frame (wpE (defs₀ (F := F)) 𝒱₀ (V d (cV L) (jV L)) none) Set.univ
          (k2_t3_body L wV (Memref.isWhole_whole _) sV (Memref.isWhole_whole _) bV (Memref.isWhole_whole _) oB (Memref.isWhole_whole _)
            oS (Memref.isWhole_whole _) x0 (Memref.isWhole_whole _) x1 (Memref.isWhole_whole _) x2 (Memref.isWhole_whole _) x3 (Memref.isWhole_whole _)
            x4 (Memref.isWhole_whole _) cc2_scoped0 cc2_scoped1 cc2_scoped2 cc2_scoped3 cc2_scoped4 k2_h1 lanes a b k
            (BitVec.ofNat 32 (cntA (bit a b) (16 * k.val)), BitVec.ofNat 32 (cntA (bit a b) 1024 + cntD (bit a b) (16 * k.val))))
          fun n => iprop(((x1).view.loc (V d (cV L) (jV L)) ↦{fullShare} s) ∗ ((x2).view.loc (V d (cV L) (jV L)) ↦{fullShare} bx)
            ∗ (∃ g3 : Vec F S4000 .f32, ∃ g4 : Vec F S1000 .f32, ((x3).view.loc (V d (cV L) (jV L)) ↦{fullShare} g3) ∗ ((x4).view.loc (V d (cV L) (jV L)) ↦{fullShare} g4)
              ∗ ⌜Mid (bit a b) s bx (k.val + 1) g3 g4⌝)
            ∗ ⌜n = (BitVec.ofNat 32 (cntA (bit a b) (16 * (k.val + 1))), BitVec.ofNat 32 (cntA (bit a b) 1024 + cntD (bit a b) (16 * (k.val + 1))))⌝) := by
  unfold k2_t3_body
  rw [k2_part3_eq_skeleton, k2_part4_eq_skeleton, k2_part5_eq_skeleton]
  unfold k2_part3_skel k2_part4_skel k2_part5_skel
  have hk : k.val < 64 := lt_of_lt_of_le k.isLt k2_t3_abs.2.1
  iintro ⟨H1, H2, H3, H4⟩
  simp only [Prog.lift, Prog.bind_op, Prog.bind_ret, Prog.pure_eq_ret, bind_assoc, word_t3 k a b]
  have hp : Places (bit a b) k.val (k2_pay17 lanes (BitVec.ofNat 32 (cntA (bit a b) (16 * k.val)))
      (BitVec.ofNat 32 (cntA (bit a b) 1024 + cntD (bit a b) (16 * k.val))) (Scf.iv 0#32 1#32 k) (word a b (k.val / 2)) two
      (rem2 (Scf.iv 0#32 1#32 k)) (ne2 (Scf.iv 0#32 1#32 k)) (sg2 (Scf.iv 0#32 1#32 k))) := fun x => pay17_at k.val hk a b x
  have hm : Real k.val (k2_pay13 lanes (Scf.iv 0#32 1#32 k)) := fun x => pay13_at k.val hk x
  rw [wp_assume_of _ _ _ _ (show k2_chk1 L _ from fun _ => lt_of_places hp.lt)]
  iapply (wp_load 𝒱₀ (V d (cV L) (jV L)) none Set.univ (m := x1) (S := Finset.univ) (Finset.subset_univ _)) $$ H1; iintro H1
  iapply (scatter_score d L) $$ H4; iintro H4
  simp only [Prog.lift, Prog.bind_op, Prog.bind_ret, Prog.pure_eq_ret, bind_assoc]
  iapply (wp_load 𝒱₀ (V d (cV L) (jV L)) none Set.univ (m := x2) (S := Finset.univ) (Finset.subset_univ _)) $$ H2; iintro H2
  rw [wp_assume_of _ _ _ _ (show k2_chk2 L _ from fun _ => lt_of_spots hp.lt (spots19 _ hp.lt))]
  iapply (scatter_box d L) $$ H3; iintro H3
  iapply (wp_load 𝒱₀ (V d (cV L) (jV L)) none Set.univ (m := x2) (S := Finset.univ) (Finset.subset_univ _)) $$ H2; iintro H2
  rw [wp_assume_of _ _ _ _ (show k2_chk3 L _ from fun _ => lt_of_spots hp.lt (spots20 _ hp.lt))]
  iapply (scatter_box d L) $$ H3; iintro H3
  iapply (wp_load 𝒱₀ (V d (cV L) (jV L)) none Set.univ (m := x2) (S := Finset.univ) (Finset.subset_univ _)) $$ H2; iintro H2
  rw [wp_assume_of _ _ _ _ (show k2_chk4 L _ from fun _ => lt_of_spots hp.lt (spots21 _ hp.lt))]
  iapply (scatter_box d L) $$ H3; iintro H3
  iapply (wp_load 𝒱₀ (V d (cV L) (jV L)) none Set.univ (m := x2) (S := Finset.univ) (Finset.subset_univ _)) $$ H2; iintro H2
  rw [wp_assume_of _ _ _ _ (show k2_chk5 L _ from fun _ => lt_of_spots hp.lt (spots22 _ hp.lt))]
  iapply (scatter_box d L) $$ H3; iintro H3
  sl_step
  isplitl [H1]; · iexact H1
  isplitl [H2]; · iexact H2
  isplitl [H3 H4]
  · iexists _, _
    isplitl [H3]; · iexact H3
    isplitl [H4]; · iexact H4
    ipureintro
    refine ⟨mid_step_box (bit a b) bx k.val hk f3 _ hp _ hm _ _ _ _ _ _ _ _ (spots19 _ hp.lt) (spots20 _ hp.lt) (spots21 _ hp.lt) (spots22 _ hp.lt)
      _ _ _ _ (fun x hx => ?_) (fun x hx => ?_) (fun x hx => ?_) (fun x hx => ?_) H.1, inS_step (bit a b) s k.val f4 _ hp _ hm _ (fun x hx => ?_) _ H.2⟩
    · exact box_at bx k 0 _ _ (congrFun (k2_off4_eq k) 0) x hx
    · exact box_at bx k 1 _ _ (congrFun (k2_off5_eq k) 0) x hx
    · exact box_at bx k 2 _ _ (congrFun (k2_off6_eq k) 0) x hx
    · exact box_at bx k 3 _ _ (congrFun (k2_off7_eq k) 0) x hx
    · exact score_at s k a b _ x hx
  · ipureintro
    exact Prod.ext (t3_alive k.val hk a b _) (t3_dead k.val hk a b _ _)

end Tile

end Cert.Proof.Nms

end
-- ==== Proof.Nms.Body.lean ====
/-
  The suppression kernel's body on one vector subcore, run once at a symbolic pair (SparseCore, subcore).
-/
module

public import proofs.«01_k».proof.Proof.Nms.Trips

@[expose] public section

noncomputable section

namespace Cert.Proof.Nms

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "wV" => (Memref.whole Cert.KernelIdeal.main_v111_scv : Memref Cert.KernelIdeal.sig Kind.scVector Space.hbm Cert.KernelIdeal.S32768 EltTy.i32)
local notation "sV" => (Memref.whole Cert.KernelIdeal.main_v108_scv : Memref Cert.KernelIdeal.sig Kind.scVector Space.hbm Cert.KernelIdeal.S1024 EltTy.f32)
local notation "bV" => (Memref.whole Cert.KernelIdeal.main_v112_scv : Memref Cert.KernelIdeal.sig Kind.scVector Space.hbm Cert.KernelIdeal.S4096 EltTy.f32)
local notation "oB" => (Memref.whole Cert.KernelIdeal.main_v113_0_scv : Memref Cert.KernelIdeal.sig Kind.scVector Space.hbm Cert.KernelIdeal.S4000 EltTy.f32)
local notation "oS" => (Memref.whole Cert.KernelIdeal.main_v113_1_scv : Memref Cert.KernelIdeal.sig Kind.scVector Space.hbm Cert.KernelIdeal.S1000 EltTy.f32)
local notation "x0" => (Memref.whole Cert.KernelIdeal.cc2_scratch0 : Memref Cert.KernelIdeal.sig Kind.scVector Space.vmem Cert.KernelIdeal.S32768 EltTy.i32)
local notation "x1" => (Memref.whole Cert.KernelIdeal.cc2_scratch1 : Memref Cert.KernelIdeal.sig Kind.scVector Space.vmem Cert.KernelIdeal.S1024 EltTy.f32)
local notation "x2" => (Memref.whole Cert.KernelIdeal.cc2_scratch2 : Memref Cert.KernelIdeal.sig Kind.scVector Space.vmem Cert.KernelIdeal.S4096 EltTy.f32)
local notation "x3" => (Memref.whole Cert.KernelIdeal.cc2_scratch3 : Memref Cert.KernelIdeal.sig Kind.scVector Space.vmem Cert.KernelIdeal.S4000 EltTy.f32)
local notation "x4" => (Memref.whole Cert.KernelIdeal.cc2_scratch4 : Memref Cert.KernelIdeal.sig Kind.scVector Space.vmem Cert.KernelIdeal.S1000 EltTy.f32)

section Tile

variable (d : Dev nD) (L : grid2.Coords)

/-- The state before trip `k` of loop 1: the words, and the carried bits. -/
def inv1 (w : Vec F S32768 .i32) (k : ℕ) (acc : IVec S16 32 × IVec S16 32) : sProp 𝕄 :=
  iprop(((x0).view.loc (V d (cV L) (jV L)) ↦{fullShare} w) ∗ ⌜Holds (wordsAt w) k acc.1 acc.2⌝)
/-- Of loop 2: the count so far. -/
def inv2 (a b : IVec S16 32) (k : ℕ) (acc : BitVec 32) : sProp 𝕄 := iprop(⌜acc = BitVec.ofNat 32 (cntA (bit a b) (16 * k))⌝)
/-- Of loop 3: the scores, the boxes, the two outputs so far, and the two counters. -/
def inv3 (s : Vec F S1024 .f32) (bx : Vec F S4096 .f32) (a b : IVec S16 32) (k : ℕ) (acc : BitVec 32 × BitVec 32) : sProp 𝕄 :=
  iprop(((x1).view.loc (V d (cV L) (jV L)) ↦{fullShare} s) ∗ ((x2).view.loc (V d (cV L) (jV L)) ↦{fullShare} bx)
    ∗ (∃ g3 : Vec F S4000 .f32, ∃ g4 : Vec F S1000 .f32, ((x3).view.loc (V d (cV L) (jV L)) ↦{fullShare} g3) ∗ ((x4).view.loc (V d (cV L) (jV L)) ↦{fullShare} g4)
      ∗ ⌜Mid (bit a b) s bx k g3 g4⌝)
    ∗ ⌜acc = (BitVec.ofNat 32 (cntA (bit a b) (16 * k)), BitVec.ofNat 32 (cntA (bit a b) 1024 + cntD (bit a b) (16 * k)))⌝)

/-- The body where the branch is taken: the three copies in, the three loops, the two copies out. -/
theorem tile_body (w : Vec F S32768 .i32) (s : Vec F S1024 .f32) (b : Vec F S4096 .f32) (k2_h1 : k2_cond1 L = 1#1)
    (hF : (K (F := F)).Facts) (O : CellTallies nD τ sig (HIx 1)) (W : Waits sig (HIx 1)) (hO : ∀ g, O g none = 0) :
    iprop(levAts (K (F := F)).L (K (F := F)).lev ∗ emp ∗ brings d w s b
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__nms_sc_body L wV (Memref.isWhole_whole _) sV (Memref.isWhole_whole _) bV (Memref.isWhole_whole _) oB (Memref.isWhole_whole _)
            oS (Memref.isWhole_whole _) x0 (Memref.isWhole_whole _) x1 (Memref.isWhole_whole _) x2 (Memref.isWhole_whole _) x3 (Memref.isWhole_whole _)
            x4 (Memref.isWhole_whole _) cc2_scoped0 cc2_scoped1 cc2_scoped2 cc2_scoped3 cc2_scoped4)
          fun _ => iprop(leaves d w s b ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨RS, hRS⟩ := ownSems0_V (F := F) d L
  obtain ⟨RB, hRB⟩ := ownBufs_V (F := F) d L
  rw [(K (F := F)).scopedBufs_V hF d (cV L) (jV L), SparseCore.Cfg.scopedSems0_V (Val := Elt F) d (cV L) (jV L), hRS, hRB]
  simp only [cc2__nms_sc_body_eq_skeleton]; unfold cc2__nms_sc_body_skel
  iintro ⟨#Hlv, -, ⟨Hw, Hs, Hb, ⟨%fob, Hob⟩, ⟨%fos, Hos⟩⟩, ⟨⟨%f0, H0⟩, ⟨%f1, H1⟩, ⟨%f2, H2⟩, ⟨%f3, H3⟩, ⟨%f4, H4⟩, Hbufs⟩, ⟨Hm0, Hm1, Hm2, Hm3, Hm4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hw := (show (wordsLoc d ↦{fullShare} w : sProp 𝕄) ⊢ ((wV).view.loc (V d (cV L) (jV L)) ↦{fullShare} w) from .rfl) $$ Hw
  ihave Hs := (show (scoresLoc d ↦{fullShare} s : sProp 𝕄) ⊢ ((sV).view.loc (V d (cV L) (jV L)) ↦{fullShare} s) from .rfl) $$ Hs
  ihave Hb := (show (boxesLoc d ↦{fullShare} b : sProp 𝕄) ⊢ ((bV).view.loc (V d (cV L) (jV L)) ↦{fullShare} b) from .rfl) $$ Hb
  ihave Hob := (show (outBLoc d ↦{fullShare} fob : sProp 𝕄) ⊢ ((oB).view.loc (V d (cV L) (jV L)) ↦{fullShare} fob) from .rfl) $$ Hob
  ihave Hos := (show (outSLoc d ↦{fullShare} fos : sProp 𝕄) ⊢ ((oS).view.loc (V d (cV L) (jV L)) ↦{fullShare} fos) from .rfl) $$ Hos
  ihave H0 := (show ((V d (cV L) (jV L)).loc cc2_scratch0 ↦{fullShare} f0 : sProp 𝕄) ⊢ ((x0).view.loc (V d (cV L) (jV L)) ↦{fullShare} f0) from .rfl) $$ H0
  ihave H1 := (show ((V d (cV L) (jV L)).loc cc2_scratch1 ↦{fullShare} f1 : sProp 𝕄) ⊢ ((x1).view.loc (V d (cV L) (jV L)) ↦{fullShare} f1) from .rfl) $$ H1
  ihave H2 := (show ((V d (cV L) (jV L)).loc cc2_scratch2 ↦{fullShare} f2 : sProp 𝕄) ⊢ ((x2).view.loc (V d (cV L) (jV L)) ↦{fullShare} f2) from .rfl) $$ H2
  ihave H3 := (show ((V d (cV L) (jV L)).loc cc2_scratch3 ↦{fullShare} f3 : sProp 𝕄) ⊢ ((x3).view.loc (V d (cV L) (jV L)) ↦{fullShare} f3) from .rfl) $$ H3
  ihave H4 := (show ((V d (cV L) (jV L)).loc cc2_scratch4 ↦{fullShare} f4 : sProp 𝕄) ⊢ ((x4).view.loc (V d (cV L) (jV L)) ↦{fullShare} f4) from .rfl) $$ H4
  rw [dif_pos k2_h1]
  sl_exec (disch := exact View.amount_pos _ _ (by decide))
  ihave H0 := (show _ ⊢ ((x0).view.loc (V d (cV L) (jV L)) ↦{fullShare} w : sProp 𝕄) from
    Entails.of_eq (congrArg (fun g : Vec F S32768 .i32 => ((x0).view.loc (V d (cV L) (jV L)) ↦{fullShare} g : sProp 𝕄)) (View.write_whole_univ _ _ _))) $$ H0
  ihave H1 := (show _ ⊢ ((x1).view.loc (V d (cV L) (jV L)) ↦{fullShare} s : sProp 𝕄) from
    Entails.of_eq (congrArg (fun g : Vec F S1024 .f32 => ((x1).view.loc (V d (cV L) (jV L)) ↦{fullShare} g : sProp 𝕄)) (View.write_whole_univ _ _ _))) $$ H1
  ihave H2 := (show _ ⊢ ((x2).view.loc (V d (cV L) (jV L)) ↦{fullShare} b : sProp 𝕄) from
    Entails.of_eq (congrArg (fun g : Vec F S4096 .f32 => ((x2).view.loc (V d (cV L) (jV L)) ↦{fullShare} g : sProp 𝕄)) (View.write_whole_univ _ _ _))) $$ H2
  sl_for (inv1 d L w) $$ [H0]
  case region =>
    intro k acc
    obtain ⟨a, b⟩ := acc
    unfold inv1
    iintro ⟨H0, %H⟩
    iapply (t1_trip d L w k2_h1 k a b H); iexact H0
  · unfold inv1
    isplitl [H0]; · iexact H0
    ipureintro
    exact holds_zero _
  iintro %acc HI
  obtain ⟨a₁, a₂⟩ := acc
  unfold inv1
  icases HI with ⟨H0, %HH⟩
  have HH : Holds (wordsAt w) 1000 a₁ a₂ := HH
  sl_exec
  sl_for (inv2 (F := F) a₁ a₂) $$ []
  case region =>
    intro k acc
    unfold inv2
    refine pure_elim' fun hacc => ?_
    subst hacc
    exact t2_trip d L k2_h1 a₁ a₂ k
  · unfold inv2
    ipureintro
    rfl
  iintro %n2 HI
  unfold inv2
  icases HI with %hn2
  have hn2 : n2 = BitVec.ofNat 32 (cntA (bit a₁ a₂) 1024) := hn2
  subst hn2
  sl_for (inv3 d L s b a₁ a₂) $$ [H1 H2 H3 H4]
  case region =>
    intro k acc
    unfold inv3
    iintro ⟨H1, H2, ⟨%g3, %g4, H3, H4, %hM⟩, %hacc⟩
    subst hacc
    iapply (t3_trip d L k2_h1 s b a₁ a₂ k g3 g4 hM)
    isplitl [H1]; · iexact H1
    isplitl [H2]; · iexact H2
    isplitl [H3]; · iexact H3
    iexact H4
  · unfold inv3
    isplitl [H1]; · iexact H1
    isplitl [H2]; · iexact H2
    isplitl [H3 H4]
    · iexists f3, f4
      isplitl [H3]; · iexact H3
      isplitl [H4]; · iexact H4
      ipureintro
      exact ⟨fun cc => inB_zero _ _ cc _, inS_zero _ _ _⟩
    · ipureintro
      rfl
  iintro %acc HI
  unfold inv3
  icases HI with ⟨H1, H2, ⟨%g3, %g4, H3, H4, %hM⟩, %hacc⟩
  have hM : Mid (bit a₁ a₂) s b 64 g3 g4 := hM
  have e3 : g3 = outB (dead w) b := (inB_done _ _ _ hM.1).trans (outB_congr (fun j hj => HH j (by omega)) b)
  have e4 : g4 = outS (dead w) s := (inS_done _ _ _ hM.2).trans (outS_congr (fun j hj => HH j (by omega)) s)
  subst e3
  subst e4
  clear hacc
  obtain ⟨c₁, c₂⟩ := acc
  sl_exec (disch := exact View.amount_pos _ _ (by decide))
  sl_step
  ihave Hob := (show _ ⊢ (outBLoc d ↦{fullShare} (outB (dead w) b : Vec F S4000 .f32) : sProp 𝕄) from
    Entails.of_eq (congrArg (fun g : Vec F S4000 .f32 => ((oB).view.loc (V d (cV L) (jV L)) ↦{fullShare} g : sProp 𝕄)) (View.write_whole_univ _ _ _))) $$ Hob
  ihave Hos := (show _ ⊢ (outSLoc d ↦{fullShare} (outS (dead w) s : Vec F S1000 .f32) : sProp 𝕄) from
    Entails.of_eq (congrArg (fun g : Vec F S1000 .f32 => ((oS).view.loc (V d (cV L) (jV L)) ↦{fullShare} g : sProp 𝕄)) (View.write_whole_univ _ _ _))) $$ Hos
  isplitl [Hw Hs Hb Hob Hos]
  · isplitl [Hw]; · iexact Hw
    isplitl [Hs]; · iexact Hs
    isplitl [Hb]; · iexact Hb
    isplitl [Hob]; · iexact Hob
    iexact Hos
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hm0 Hm1 Hm2 Hm3 Hm4 Hsems]
  · isplitl [Hm0]; · iexact Hm0
    isplitl [Hm1]; · iexact Hm1
    isplitl [Hm2]; · iexact Hm2
    isplitl [Hm3]; · iexact Hm3
    isplitl [Hm4]; · iexact Hm4
    iexact Hsems
  iexists _
  isplitr; rotate_left; · iexact HO
  ipureintro
  intro p hp
  simp only [Finset.mem_insert] at hp
  rcases hp with rfl | rfl | rfl | rfl | rfl | hp
  · exact .inr (.inl rfl)
  · exact .inr (.inl rfl)
  · exact .inr (.inl rfl)
  · exact .inr (.inl rfl)
  · exact .inr (.inl rfl)
  · exact .inl hp

end Tile

end Cert.Proof.Nms

end
-- ==== Proof.Nms.Obl.lean ====
/-
  The suppression kernel as the launch theorem asks for it: what the call's handshakes carry, the body on every vector
  subcore (only the first of the first SparseCore works), and the split of the operands among the subcores.
-/
module

public import proofs.«01_k».proof.Proof.Nms.Body

@[expose] public section

noncomputable section

namespace Cert.Proof.Nms

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "wV" => (Memref.whole Cert.KernelIdeal.main_v111_scv : Memref Cert.KernelIdeal.sig Kind.scVector Space.hbm Cert.KernelIdeal.S32768 EltTy.i32)
local notation "sV" => (Memref.whole Cert.KernelIdeal.main_v108_scv : Memref Cert.KernelIdeal.sig Kind.scVector Space.hbm Cert.KernelIdeal.S1024 EltTy.f32)
local notation "bV" => (Memref.whole Cert.KernelIdeal.main_v112_scv : Memref Cert.KernelIdeal.sig Kind.scVector Space.hbm Cert.KernelIdeal.S4096 EltTy.f32)
local notation "oB" => (Memref.whole Cert.KernelIdeal.main_v113_0_scv : Memref Cert.KernelIdeal.sig Kind.scVector Space.hbm Cert.KernelIdeal.S4000 EltTy.f32)
local notation "oS" => (Memref.whole Cert.KernelIdeal.main_v113_1_scv : Memref Cert.KernelIdeal.sig Kind.scVector Space.hbm Cert.KernelIdeal.S1000 EltTy.f32)
local notation "x0" => (Memref.whole Cert.KernelIdeal.cc2_scratch0 : Memref Cert.KernelIdeal.sig Kind.scVector Space.vmem Cert.KernelIdeal.S32768 EltTy.i32)
local notation "x1" => (Memref.whole Cert.KernelIdeal.cc2_scratch1 : Memref Cert.KernelIdeal.sig Kind.scVector Space.vmem Cert.KernelIdeal.S1024 EltTy.f32)
local notation "x2" => (Memref.whole Cert.KernelIdeal.cc2_scratch2 : Memref Cert.KernelIdeal.sig Kind.scVector Space.vmem Cert.KernelIdeal.S4096 EltTy.f32)
local notation "x3" => (Memref.whole Cert.KernelIdeal.cc2_scratch3 : Memref Cert.KernelIdeal.sig Kind.scVector Space.vmem Cert.KernelIdeal.S4000 EltTy.f32)
local notation "x4" => (Memref.whole Cert.KernelIdeal.cc2_scratch4 : Memref Cert.KernelIdeal.sig Kind.scVector Space.vmem Cert.KernelIdeal.S1000 EltTy.f32)

/-! ## The body where the branch is not taken -/

theorem tile_idle (d : Dev nD) (L : grid2.Coords) (k2_h1 : ¬ k2_cond1 L = 1#1) (O : CellTallies nD τ sig (HIx 1)) (W : Waits sig (HIx 1)) :
    iprop(levAts (K (F := F)).L (K (F := F)).lev ∗ emp ∗ (emp : sProp 𝕄)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__nms_sc_body L wV (Memref.isWhole_whole _) sV (Memref.isWhole_whole _) bV (Memref.isWhole_whole _) oB (Memref.isWhole_whole _)
            oS (Memref.isWhole_whole _) x0 (Memref.isWhole_whole _) x1 (Memref.isWhole_whole _) x2 (Memref.isWhole_whole _) x3 (Memref.isWhole_whole _)
            x4 (Memref.isWhole_whole _) cc2_scoped0 cc2_scoped1 cc2_scoped2 cc2_scoped3 cc2_scoped4)
          fun _ => iprop((emp : sProp 𝕄) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc2__nms_sc_body_eq_skeleton]; unfold cc2__nms_sc_body_skel
  iintro ⟨-, -, He, Hsb, Hss, HO⟩
  rw [dif_neg k2_h1]
  sl_step
  isplitl [He]; · iexact He
  isplitl [Hsb]; · iexact Hsb
  isplitl [Hss]; · iexact Hss
  iexists W; isplitr
  · ipureintro; exact fun p hp => .inl hp
  · iexact HO

/-! ## What the handshakes carry -/

/-- The three arrays the call reads. -/
structure Ops (F : FTy → Type) where
  w : Vec F S32768 .i32
  s : Vec F S1024 .f32
  b : Vec F S4096 .f32

variable (A : Dev nD → Ops F)

/-- What the first subcore of the first SparseCore takes and brings back. -/
abbrev takes (d : Dev nD) : sProp 𝕄 := brings d (A d).w (A d).s (A d).b
abbrev backs (d : Dev nD) : sProp 𝕄 := leaves d (A d).w (A d).s (A d).b

theorem nSub_zero : (K (F := F)).nSub 0 = 16 := rfl
theorem nCore_zero : (K (F := F)).nCore 0 = 2 := rfl

/-- The first SparseCore carries the five arrays, the other nothing; of its subcores the first takes them. -/
def P : (K (F := F)).Pay (nD := nD) (Val := Elt F) (Name := ℕ) (U := UU) where
  st := fun q d c => match q with | 0 => if c.val = 0 then takes A d else iprop(emp)
  dn := fun q d c => match q with | 0 => if c.val = 0 then backs A d else iprop(emp)
  go := fun q d c i => match q with | 0 => if c.val = 0 ∧ i.val = 0 then takes A d else iprop(emp)
  td := fun q d c i => match q with | 0 => if c.val = 0 ∧ i.val = 0 then backs A d else iprop(emp)
  x := fun _ _ => iprop(emp)

theorem storable_ite (p : Prop) [Decidable p] (X : sProp 𝕄) [BI.Storable (upEmb : UEmb _ 𝕄) X] :
    BI.Storable (upEmb : UEmb _ 𝕄) (if p then X else iprop(emp)) := by
  split <;> infer_instance

instance P_storable : (P A).IsStorable where
  st q d c := match q with | 0 => storable_ite (c.val = 0) (takes A d)
  dn q d c := match q with | 0 => storable_ite (c.val = 0) (backs A d)
  go q d c i := match q with | 0 => storable_ite (c.val = 0 ∧ i.val = 0) (takes A d)
  td q d c i := match q with | 0 => storable_ite (c.val = 0 ∧ i.val = 0) (backs A d)

/-! ## The obligation of every subcore -/

def coordsV (c : Fin (grid2.bound 0)) (s : Fin (grid2.bound 1)) : grid2.Coords :=
  fun | 0 => c | 1 => s | ⟨_ + 2, h⟩ => absurd h (Nat.not_lt.2 (Nat.le_add_left _ _))

theorem cond_iff (c : Fin (grid2.bound 0)) (s : Fin (grid2.bound 1)) : k2_cond1 (coordsV c s) = 1#1 ↔ c.val = 0 ∧ s.val = 0 := by
  have h : ∀ (c : Fin 2) (s : Fin 16), k2_cond1 (coordsV c s) = 1#1 ↔ c.val = 0 ∧ s.val = 0 := by decide +kernel
  exact h c s

theorem defs₀_vector (c : Fin τ.nSC) (s : Fin τ.nSub) :
    defs₀ (F := F) (.scVector c s) 2 ()
      = SparseCore.onTile hcore2 hsub2 (fun c s => cc2__nms_sc_body (coordsV c s) wV (Memref.isWhole_whole _) sV (Memref.isWhole_whole _) bV (Memref.isWhole_whole _) oB (Memref.isWhole_whole _)
            oS (Memref.isWhole_whole _) x0 (Memref.isWhole_whole _) x1 (Memref.isWhole_whole _) x2 (Memref.isWhole_whole _) x3 (Memref.isWhole_whole _)
            x4 (Memref.isWhole_whole _) cc2_scoped0 cc2_scoped1 cc2_scoped2 cc2_scoped3 cc2_scoped4) ⟨⟩ c s := rfl

theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h : c.val = 0 ∧ i.val = 0
  · have hgo : (P A).go 0 d c i = takes A d := if_pos h
    have htd : (P A).td 0 d c i = backs A d := if_pos h
    rw [hgo, htd]
    exact tile_body d (coordsV ⟨_, hci.1⟩ ⟨_, hci.2⟩) (A d).w (A d).s (A d).b ((cond_iff _ _).mpr h) hF O W hO
  · have hgo : (P A).go 0 d c i = iprop(emp) := if_neg h
    have htd : (P A).td 0 d c i = iprop(emp) := if_neg h
    rw [hgo, htd]
    exact tile_idle d (coordsV ⟨_, hci.1⟩ ⟨_, hci.2⟩) (fun e => h ((cond_iff _ _).mp e)) O W

/-! ## The operands among the subcores -/

theorem bigSep_emp' {I : Type} (s : Finset I) : (bigSep s fun _ => iprop(emp)) = (iprop(emp) : sProp 𝕄) := bigSep_emp_const s

theorem bigSep_first (n : ℕ) (hn : 0 < n) (X : sProp 𝕄) :
    (bigSep Finset.univ fun i : Fin n => if i.val = 0 then X else iprop(emp)) = X := by
  have hm : (⟨0, hn⟩ : Fin n) ∈ (Finset.univ : Finset (Fin n)) := Finset.mem_univ _
  rw [SparseCore.bigSep_erase' hm, if_pos rfl,
    bigSep_congr (Ψ := fun _ => iprop(emp)) (fun i hi => if_neg fun e => (Finset.mem_erase.mp hi).1 (Fin.ext e)), bigSep_emp']
  exact equiv_iff.mp BI.sep_emp

theorem vecSplit : (K (F := F)).VecSplit' (P A) 0 := by
  intro d c
  show (if c.val = 0 then takes A d else iprop(emp)) ⊢ |={Set.univ}=> iprop(
      (bigSep Finset.univ fun i : Fin ((K (F := F)).nSub 0) => if c.val = 0 ∧ i.val = 0 then takes A d else iprop(emp))
      ∗ ((bigSep Finset.univ fun i : Fin ((K (F := F)).nSub 0) => if c.val = 0 ∧ i.val = 0 then backs A d else iprop(emp))
          -∗ if c.val = 0 then backs A d else iprop(emp)))
  by_cases h : c.val = 0
  · simp only [h, true_and, if_true]
    rw [bigSep_first _ (by decide), bigSep_first _ (by decide)]
    iintro H; imodintro
    isplitl [H]; · iexact H
    iintro H; iexact H
  · have e (X : sProp 𝕄) : (bigSep Finset.univ fun i : Fin ((K (F := F)).nSub 0) => if c.val = 0 ∧ i.val = 0 then X else iprop(emp)) = iprop(emp) := by
      rw [bigSep_congr (Ψ := fun _ => iprop(emp)) (fun i _ => if_neg fun e => h e.1), bigSep_emp']
    rw [if_neg h, if_neg h, e, e]
    iintro H; imodintro
    isplitl [H]; · iexact H
    iintro H; iexact H

end Cert.Proof.Nms

end
-- ==== Proof.Tc.Bodies.lean ====
/-
  The two TensorCore kernels' bodies on their staged blocks: what the convolution head and the overlap mask store, as
  functions of the blocks they load.
-/
module

public import proofs.«01_k».proof.Proof.Common
public import proofs.«01_k».proof.Proof.Gen.KernelIdeal.Points
public import Idealize.ShloMosaic.Lib.Pipeline.Value
public import Idealize.ShloMosaic.Lib.WritesUnit

@[expose] public section

noncomputable section

namespace Cert.Proof.Tc

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The 256 rows of the stacked taps from row `o` on. -/
def tap (w : Vec F S2304x256 .f32) (o : ℕ) (h : ∀ a, (![o, 0] : Fin 2 → ℕ) a + S256x256.size a ≤ S2304x256.size a) : Vec F S256x256 .f32 :=
  View.ld w (Rect.unit (s := S2304x256) ![o, 0] S256x256.size h)

/-- What the convolution kernel stores: the nine taps' products summed, the bias added, the negative part cut, the heads'
    product and bias. -/
def conv (x : Vec F S4096x256 .f32) (w : Vec F S2304x256 .f32) (b : Vec F S1x256 .f32) (hw : Vec F S256x16 .f32) (hb : Vec F S1x16 .f32) :
    Vec F S4096x16 .f32 :=
  k0_pay1
    (k0_pay12 (k0_pay2 x) k0_pay4 k0_pay5
      (k0_pay9 (k0_pay2 x) k0_pay4 k0_pay5 (k0_pay6 x (tap w 0 inb_S2304x256_S256x256_0_0)) (k0_pay7 x) (k0_pay8 (tap w 256 inb_S2304x256_S256x256_256_0))
        (constant S4096x256 .f32 0x00000000#32) (tap w 512 inb_S2304x256_S256x256_512_0) (tap w 768 inb_S2304x256_S256x256_768_0)
        (tap w 1024 inb_S2304x256_S256x256_1024_0) (tap w 1280 inb_S2304x256_S256x256_1280_0))
      (k0_pay10 (k0_pay2 x)) (k0_pay11 (F := F)) (tap w 1536 inb_S2304x256_S256x256_1536_0) (tap w 1792 inb_S2304x256_S256x256_1792_0)
      (tap w 2048 inb_S2304x256_S256x256_2048_0) b hw)
    (k0_pay13 hb)

/-- One row per candidate `i`, one column per candidate `j`: whether `j` comes later and overlaps `i` too much, as a 32-bit word. -/
def over (r : Vec F S1024x4 .f32) (c : Vec F S4x1024 .f32) : IVec S1024x1024 32 :=
  k1_pay7 (iota .tc S1024x1024 32 [0] iota_S1024x1024_d0_w32) (iota .tc S1024x1024 32 [1] iota_S1024x1024_d1_w32) (k1_pay5 r c) k1_pay6
/-- What the overlap kernel stores: 32 words a row, bit `l` of word `k` the entry at column `32 k + l`. -/
def mask (r : Vec F S1024x4 .f32) (c : Vec F S4x1024 .f32) : IVec S1024x32 32 :=
  let ia : IVec S1024x1024 32 := iota .tc S1024x1024 32 [0] iota_S1024x1024_d0_w32
  let ib : IVec S1024x1024 32 := iota .tc S1024x1024 32 [1] iota_S1024x1024_d1_w32
  let o : IVec S1024x1024 1 := k1_pay5 r c
  let v : IVec S1024x1024 32 := over r c
  let l : IVec S1x32 32 := iota .tc S1x32 32 [1] iota_S1x32_d1_w32
  k1_pay4
    (k1_pay8 ia ib o k1_pay6) (k1_pay9 ia ib o k1_pay6) (k1_pay10 ia ib o k1_pay6) (k1_pay11 ia ib o k1_pay6) (k1_pay12 ia ib o k1_pay6)
      (k1_pay13 ia ib o k1_pay6) (k1_pay14 ia ib o k1_pay6) (k1_pay15 ia ib o k1_pay6) (k1_pay17 (k1_pay16 ia ib o k1_pay6)) (k1_pay18 v l)
      (k1_pay19 v l) (k1_pay20 v l) (k1_pay21 v l) (k1_pay22 v l) (k1_pay23 v l) (k1_pay24 v l) (k1_pay25 v l) (k1_pay26 v l)
      (k1_pay28 (k1_pay27 v l)) (k1_pay29 v l) (k1_pay30 v l) (k1_pay31 v l) (k1_pay32 v l) (k1_pay33 v l) (k1_pay34 v l) (k1_pay35 v l)
      (k1_pay36 v l) (k1_pay37 v l) (k1_pay38 v l) (k1_pay1 v l) (k1_pay2 v l) (k1_pay3 v l)

/-! ## The bodies -/

variable (d : Dev nD)

abbrev pt {sp : Space} {S : Shape} {e : EltTy} (M : Memref sig .tc sp S e) (f : Buf (Elt F) (M.view.loc (d : Thread nD τ))) : sProp 𝕄 :=
  M.view.loc (d : Thread nD τ) ↦{fullShare} f

theorem hz2 : (![0, 0] : Fin 2 → ℕ) = fun _ => 0 := by funext a; fin_cases a <;> rfl

/-- A store over the whole shape leaves its payload. -/
theorem read_store {κ : Kind} {sp : Space} {s : Shape} {e : EltTy} {Val : EltTy → Type} (v : View sig κ sp s e) (f : v.ty.Contents Val) (p : s.Idx → Val e)
    {off : Fin s.rank → ℕ} (h : off = fun _ => 0) (inb : ∀ a, off a + s.size a ≤ s.size a) :
    v.read Val (v.writes Val f [⟨Rect.unit off s.size inb, p⟩]) = p :=
  funext fun y => View.read_writes_cons_unit_of_mem v f inb p [] y y h fun _ => (Nat.zero_add _).symm

set_option maxHeartbeats 800000 in
theorem conv_body (x : Vec F S4096x256 .f32) (w : Vec F S2304x256 .f32) (b : Vec F S1x256 .f32) (hw : Vec F S256x16 .f32) (hb : Vec F S1x16 .f32)
    (f : Vec F S4096x16 .f32) (Q : PUnit → sProp 𝕄) :
    iprop(pt d (stage0_0 0) x ∗ pt d (stage0_1 0) w ∗ pt d (stage0_2 0) b ∗ pt d (stage0_3 0) hw ∗ pt d (stage0_4 0) hb ∗ pt d (stage0_5 0) f
        ∗ (iprop(pt d (stage0_0 0) x ∗ pt d (stage0_1 0) w ∗ pt d (stage0_2 0) b ∗ pt d (stage0_3 0) hw ∗ pt d (stage0_4 0) hb
            ∗ pt d (stage0_5 0) (conv x w b hw hb)) -∗ Q ⟨⟩))
      ⊢ wp frame (wpE (defs₀ (F := F)) 𝒱₀ (d : Thread nD τ) none) Set.univ
          (cc0__conv_head_body (stage0_0 0) (hstage0_0 0) (stage0_1 0) (hstage0_1 0) (stage0_2 0) (hstage0_2 0) (stage0_3 0) (hstage0_3 0)
            (stage0_4 0) (hstage0_4 0) (stage0_5 0) (hstage0_5 0)) Q := by
  simp only [cc0__conv_head_body_eq_skeleton]; unfold cc0__conv_head_body_skel
  simp only [k0_part1_eq_skeleton, k0_part2_eq_skeleton, k0_part3_eq_skeleton]; unfold k0_part1_skel k0_part2_skel k0_part3_skel
  iintro ⟨H0, H1, H2, H3, H4, H5, Hk⟩
  have hx : (stage0_0 0).view.readAt (Elt F) (Rect.unit (s := S4096x256) ![0, 0] S4096x256.size inb_S4096x256_S4096x256_0_0).toLoadRect x = x :=
    View.ld_unit_zero hz2 _ _
  have hb0 : (stage0_2 0).view.readAt (Elt F) (Rect.unit (s := S1x256) ![0, 0] S1x256.size inb_S1x256_S1x256_0_0).toLoadRect b = b :=
    View.ld_unit_zero hz2 _ _
  have hw0 : (stage0_3 0).view.readAt (Elt F) (Rect.unit (s := S256x16) ![0, 0] S256x16.size inb_S256x16_S256x16_0_0).toLoadRect hw = hw :=
    View.ld_unit_zero hz2 _ _
  have hb1 : (stage0_4 0).view.readAt (Elt F) (Rect.unit (s := S1x16) ![0, 0] S1x16.size inb_S1x16_S1x16_0_0).toLoadRect hb = hb :=
    View.ld_unit_zero hz2 _ _
  simp only [Prog.lift, Prog.bind_op, Prog.bind_ret, Prog.pure_eq_ret]
  sl_exec
  have hs : ∀ p : Vec F S4096x16 .f32, (stage0_5 0).view.writes (Elt F) f
      [⟨Rect.unit (s := S4096x16) ![0, 0] S4096x16.size inb_S4096x16_S4096x16_0_0, p⟩] = p :=
    fun p => (show ∀ g, (stage0_5 0).view.read (Elt F) g = g from fun _ => rfl) _ |>.symm.trans (read_store (stage0_5 0).view f p hz2 inb_S4096x16_S4096x16_0_0)
  ihave H5 := (Entails.of_eq (congrArg (fun g => pt d (stage0_5 0) g) (hs _))) $$ H5
  sl_step
  iapply Hk
  isplitl [H0]; · iexact H0
  isplitl [H1]; · iexact H1
  isplitl [H2]; · iexact H2
  isplitl [H3]; · iexact H3
  isplitl [H4]; · iexact H4
  iexact H5

set_option maxHeartbeats 800000 in
theorem mask_body (r : Vec F S1024x4 .f32) (c : Vec F S4x1024 .f32) (f : Vec F S1024x32 .i32) (Q : PUnit → sProp 𝕄) :
    iprop(pt d (stage1_0 0) r ∗ pt d (stage1_1 0) c ∗ pt d (stage1_2 0) f
        ∗ (iprop(pt d (stage1_0 0) r ∗ pt d (stage1_1 0) c ∗ pt d (stage1_2 0) (mask r c)) -∗ Q ⟨⟩))
      ⊢ wp frame (wpE (defs₀ (F := F)) 𝒱₀ (d : Thread nD τ) none) Set.univ
          (cc1__iou_mask_body (stage1_0 0) (hstage1_0 0) (stage1_1 0) (hstage1_1 0) (stage1_2 0) (hstage1_2 0)) Q := by
  simp only [cc1__iou_mask_body_eq_skeleton]; unfold cc1__iou_mask_body_skel
  simp only [k1_part1_eq_skeleton, k1_part2_eq_skeleton, k1_part3_eq_skeleton, k1_part4_eq_skeleton]
  unfold k1_part1_skel k1_part2_skel k1_part3_skel k1_part4_skel
  iintro ⟨H0, H1, H2, Hk⟩
  have hr : (stage1_0 0).view.readAt (Elt F) (Rect.unit (s := S1024x4) ![0, 0] S1024x4.size inb_S1024x4_S1024x4_0_0).toLoadRect r = r :=
    View.ld_unit_zero hz2 _ _
  have hc : (stage1_1 0).view.readAt (Elt F) (Rect.unit (s := S4x1024) ![0, 0] S4x1024.size inb_S4x1024_S4x1024_0_0).toLoadRect c = c :=
    View.ld_unit_zero hz2 _ _
  simp only [Prog.lift, Prog.bind_op, Prog.bind_ret, Prog.pure_eq_ret]
  sl_exec
  have hs : ∀ p : Vec F S1024x32 .i32, (stage1_2 0).view.writes (Elt F) f
      [⟨Rect.unit (s := S1024x32) ![0, 0] S1024x32.size inb_S1024x32_S1024x32_0_0, p⟩] = p :=
    fun p => (show ∀ g, (stage1_2 0).view.read (Elt F) g = g from fun _ => rfl) _ |>.symm.trans (read_store (stage1_2 0).view f p hz2 inb_S1024x32_S1024x32_0_0)
  ihave H2 := (Entails.of_eq (congrArg (fun g => pt d (stage1_2 0) g) (hs _))) $$ H2
  sl_step
  iapply Hk
  isplitl [H0]; · iexact H0
  isplitl [H1]; · iexact H1
  iexact H2

end Cert.Proof.Tc

end
-- ==== Proof.Tc.Regions.lean ====
/-
  The two TensorCore regions of @main: each is entered with every unscoped buffer at a valuation and left with the
  kernel's result stored over it, the handshakes' debts untouched and no wait recorded above the bottom level.
-/
module

public import proofs.«01_k».proof.Proof.Tc.Bodies
public import proofs.«01_k».proof.Proof.Gen.KernelIdeal.Launch
public import Idealize.ShloMosaic.Lib.Pipeline.Regions
public import Idealize.ShloMosaic.Lib.Pipeline.RegionsLoop

@[expose] public section

noncomputable section

namespace Cert.Proof.Tc

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The TensorCore's unscoped references: what @main's thread state holds at a valuation. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- No prefetched table: its contents are admissible whatever they are. -/
abbrev adm : (p : Fin 2) → (pcfgs (F := F) p).Adm := fun p => (cfgs p).toPCfg_adm

/-- The waits a region may have recorded: those at the bottom level. -/
def low (d : Dev nD) : Set (SemLoc sig × HIx 1) := {p | (K (F := F)).lev (T d, p.1) p.2 ≤ 0}

variable (V : Valuation τ sig (Elt F))

/-- The buffers after the convolution kernel, and after the overlap kernel. -/
def afterConv : Valuation τ sig (Elt F) :=
  Function.update V (Proc.devRef .tc main_v24)
    (conv (V (Proc.devRef .tc main_v2)) (V (Proc.devRef .tc main_v4)) (V (Proc.devRef .tc main_v23)) (V (Proc.devRef .tc main_v13)) (V (Proc.devRef .tc main_v22)))
def afterMask : Valuation τ sig (Elt F) :=
  Function.update V (Proc.devRef .tc main_v110) (mask (V (Proc.devRef .tc main_v106)) (V (Proc.devRef .tc main_v109)))

/-- The handshakes' debts are no debts at the bottom index. -/
theorem Otc_none (c : Dev nD) (g : GSem nD τ sig) : (K (F := F)).Otc c 0 g none = 0 := by
  rcases Nat.eq_zero_or_pos ((K (F := F)).Otc c 0 g none) with h | h
  · exact h
  · exact absurd ((K (F := F)).lev_of_Otc_pos h) (by show ¬ _ ≤ 0; omega)

/-! ## The proof data -/

def dat0 (c : Dev nD) : Dat τ (Elt F) (HIx 1) ℕ UU ℕ cfg0 c where
  A w := V (Proc.devRef .tc (Pipeline.arrRef spec0 w))
  after w _ := match w with
    | ⟨0, _⟩ => V (Proc.devRef .tc main_v2)
    | ⟨1, _⟩ => V (Proc.devRef .tc main_v4)
    | ⟨2, _⟩ => V (Proc.devRef .tc main_v23)
    | ⟨3, _⟩ => V (Proc.devRef .tc main_v13)
    | ⟨4, _⟩ => V (Proc.devRef .tc main_v22)
    | ⟨5, _⟩ => conv (V (Proc.devRef .tc main_v2)) (V (Proc.devRef .tc main_v4)) (V (Proc.devRef .tc main_v23)) (V (Proc.devRef .tc main_v13)) (V (Proc.devRef .tc main_v22))
  Φ _ := Pipeline.scopedRest (Ix := HIx 1) (Name := ℕ) (U := UU) (Lvl := ℕ) (Val := Elt F) spec0 c
  q _ := fullShare
  owed _ := (K (F := F)).Otc c 0
  recorded _ := low (F := F) c

def dat1 (c : Dev nD) : Dat τ (Elt F) (HIx 1) ℕ UU ℕ cfg1 c where
  A w := V (Proc.devRef .tc (Pipeline.arrRef spec1 w))
  after w _ := match w with
    | ⟨0, _⟩ => V (Proc.devRef .tc main_v106)
    | ⟨1, _⟩ => V (Proc.devRef .tc main_v109)
    | ⟨2, _⟩ => mask (V (Proc.devRef .tc main_v106)) (V (Proc.devRef .tc main_v109))
  Φ _ := Pipeline.scopedRest (Ix := HIx 1) (Name := ℕ) (U := UU) (Lvl := ℕ) (Val := Elt F) spec1 c
  q _ := fullShare
  owed _ := (K (F := F)).Otc c 0
  recorded _ := low (F := F) c

def pdats : (p : Fin 2) → (c : Dev nD) → Dat τ (Elt F) (HIx 1) ℕ UU ℕ (Pipeline.pin (pcfgs (F := F)) adm p) c
  | ⟨0, _⟩ => fun c => dat0 V c
  | ⟨1, _⟩ => fun c => dat1 V c

/-! ## The convolution's region -/

theorem read0_0 (f : (Memref.whole main_v2).view.ty.Contents (Elt F)) : (win0_0.blk t0_0).view.read (Elt F) f = f :=
  Memref.read_access_unit_zero (Elt F) main_v2 (show (fun a => (win0_0.index t0_0) a * main_v2.ty.shape.size a) = fun _ => 0 from funext fun _ => Nat.zero_mul _)
    (fun a => by fin_cases a <;> decide) f

theorem read0_1 (f : (Memref.whole main_v4).view.ty.Contents (Elt F)) : (win0_1.blk t0_0).view.read (Elt F) f = f :=
  Memref.read_access_unit_zero (Elt F) main_v4 (show (fun a => (win0_1.index t0_0) a * main_v4.ty.shape.size a) = fun _ => 0 from funext fun _ => Nat.zero_mul _)
    (fun a => by fin_cases a <;> decide) f

theorem read0_2 (f : (Memref.whole main_v23).view.ty.Contents (Elt F)) : (win0_2.blk t0_0).view.read (Elt F) f = f :=
  Memref.read_access_unit_zero (Elt F) main_v23 (show (fun a => (win0_2.index t0_0) a * main_v23.ty.shape.size a) = fun _ => 0 from funext fun _ => Nat.zero_mul _)
    (fun a => by fin_cases a <;> decide) f

theorem read0_3 (f : (Memref.whole main_v13).view.ty.Contents (Elt F)) : (win0_3.blk t0_0).view.read (Elt F) f = f :=
  Memref.read_access_unit_zero (Elt F) main_v13 (show (fun a => (win0_3.index t0_0) a * main_v13.ty.shape.size a) = fun _ => 0 from funext fun _ => Nat.zero_mul _)
    (fun a => by fin_cases a <;> decide) f

theorem read0_4 (f : (Memref.whole main_v22).view.ty.Contents (Elt F)) : (win0_4.blk t0_0).view.read (Elt F) f = f :=
  Memref.read_access_unit_zero (Elt F) main_v22 (show (fun a => (win0_4.index t0_0) a * main_v22.ty.shape.size a) = fun _ => 0 from funext fun _ => Nat.zero_mul _)
    (fun a => by fin_cases a <;> decide) f

theorem read0_5 (f : (Memref.whole main_v24).view.ty.Contents (Elt F)) : (win0_5.blk t0_0).view.read (Elt F) f = f :=
  Memref.read_access_unit_zero (Elt F) main_v24 (show (fun a => (win0_5.index t0_0) a * main_v24.ty.shape.size a) = fun _ => 0 from funext fun _ => Nat.zero_mul _)
    (fun a => by fin_cases a <;> decide) f
theorem before0_0 (c : Dev nD) (d : (cfg0.win 0).block.Idx → Elt F (cfg0.win 0).elt) :
    (dat0 V c).before 0 t0_0 d = V (Proc.devRef .tc main_v2) := by
  unfold Dat.before; rw [if_pos (by decide)]; exact read0_0 (F := F) _
theorem before0_1 (c : Dev nD) (d : (cfg0.win 1).block.Idx → Elt F (cfg0.win 1).elt) :
    (dat0 V c).before 1 t0_0 d = V (Proc.devRef .tc main_v4) := by
  unfold Dat.before; rw [if_pos (by decide)]; exact read0_1 (F := F) _
theorem before0_2 (c : Dev nD) (d : (cfg0.win 2).block.Idx → Elt F (cfg0.win 2).elt) :
    (dat0 V c).before 2 t0_0 d = V (Proc.devRef .tc main_v23) := by
  unfold Dat.before; rw [if_pos (by decide)]; exact read0_2 (F := F) _
theorem before0_3 (c : Dev nD) (d : (cfg0.win 3).block.Idx → Elt F (cfg0.win 3).elt) :
    (dat0 V c).before 3 t0_0 d = V (Proc.devRef .tc main_v13) := by
  unfold Dat.before; rw [if_pos (by decide)]; exact read0_3 (F := F) _
theorem before0_4 (c : Dev nD) (d : (cfg0.win 4).block.Idx → Elt F (cfg0.win 4).elt) :
    (dat0 V c).before 4 t0_0 d = V (Proc.devRef .tc main_v22) := by
  unfold Dat.before; rw [if_pos (by decide)]; exact read0_4 (F := F) _

theorem body_obligation0 (c : Dev nD) : BodyObligation (dat0 V c) (defs₀ (F := F)) 𝒱₀ none Set.univ := fun t => by
  obtain rfl := fin_N0 t
  rw [bigSep_W0, bigSep_W0]
  simp only [owns_whole_eq]
  rw [show (dat0 V c).Φ t0_0.castSucc = (dat0 V c).Φ t0_0.succ from rfl,
    show (dat0 V c).owesAt none t0_0.succ = (dat0 V c).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0_0] at hf0; subst hf0
  rw [before0_1] at hf1; subst hf1
  rw [before0_2] at hf2; subst hf2
  rw [before0_3] at hf3; subst hf3
  rw [before0_4] at hf4; subst hf4
  iapply (conv_body c (V (Proc.devRef .tc main_v2)) (V (Proc.devRef .tc main_v4)) (V (Proc.devRef .tc main_v23)) (V (Proc.devRef .tc main_v13)) (V (Proc.devRef .tc main_v22)) f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  iexists _; isplitr; swap; (· iexact H5); ipureintro; dsimp only [dat0]

theorem arr0_out (c : Dev nD) : (dat0 V c).arrAt 5 cfg0.N = afterConv V (Proc.devRef .tc main_v24) := by
  have hw : ((cfg0.win 5).blk t0_0).view.read (Elt F) ((dat0 V c).arrAt 5 cfg0.N) = (dat0 V c).flushed 5 t0_0 := by
    rw [show cfg0.N = t0_0.val + 1 from rfl, (dat0 V c).arrAt_succ (5 : Fin 6) t0_0, flush0_5, if_pos rfl]
    exact View.read_write_univ _ _
  have hf : (dat0 V c).flushed 5 t0_0 = afterConv V (Proc.devRef .tc main_v24) := by
    unfold afterConv
    rw [Function.update_self]
    exact funext fun _ => rfl
  rw [hf] at hw
  exact (read0_5 _).symm.trans hw

theorem afterConv_ne (b : Ref sig .tc) (h : b ≠ main_v24) : afterConv V (Proc.devRef .tc b) = V (Proc.devRef .tc b) := by
  unfold afterConv
  exact Function.update_of_ne (StableHlo.devRef_ne_of_ne h) _ _

-- the launch lemmas are stated at the pinned configuration: unification may unfold plain definitions in a type
set_option backward.isDefEq.respectTransparency.types false in
def reg0 : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 V c).loose
  hwaits c := Pipeline.cellsWaits_intro (Pipeline.pin (pcfgs (F := F)) adm) (pdats V) none 0 c fun w s t =>
    (K (F := F)).mayWait_none _ fun g => Otc_none c g
  pre c := iprop(unscopedBufs c (fun b => V b) ∗ ∃ W, ⌜(K (F := F)).WBelow (T c) W 0⌝ ∗ owes (c : Thread nD τ) ((K (F := F)).Otc c 0) W)
  post c := iprop(unscopedBufs c (fun b => afterConv V b) ∗ ∃ W, ⌜(K (F := F)).WBelow (T c) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (fun b => V b)
  hentry c := by
    rw [Pipeline.ownSems0_none]
    have hsplit := Pipeline.arrays_of_unscopedBufs (p := 0) (pcfgs (F := F)) adm (pdats V) launch0.win launch0.arr_whole c
      ((pdats V 0 c).share_full fun _ => rfl) (fun b => V b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (fun b => V b) (fun b => afterConv V b) ((pdats V 0 c).arrAt · cfg0.N)
      (fun w => by
        fin_cases w
        · exact ((pdats V 0 c).arrAt_in 0 rfl _).trans (afterConv_ne V main_v2 (by decide)).symm
        · exact ((pdats V 0 c).arrAt_in 1 rfl _).trans (afterConv_ne V main_v4 (by decide)).symm
        · exact ((pdats V 0 c).arrAt_in 2 rfl _).trans (afterConv_ne V main_v23 (by decide)).symm
        · exact ((pdats V 0 c).arrAt_in 3 rfl _).trans (afterConv_ne V main_v13 (by decide)).symm
        · exact ((pdats V 0 c).arrAt_in 4 rfl _).trans (afterConv_ne V main_v22 (by decide)).symm
        · exact arr0_out V c)
      (fun b hb => afterConv_ne V b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact le_rfl
    iexact HO

/-! ## The overlap mask's region -/

theorem read1_0 (f : (Memref.whole main_v106).view.ty.Contents (Elt F)) : (win1_0.blk t1_0).view.read (Elt F) f = f :=
  Memref.read_access_unit_zero (Elt F) main_v106 (show (fun a => (win1_0.index t1_0) a * main_v106.ty.shape.size a) = fun _ => 0 from funext fun _ => Nat.zero_mul _)
    (fun a => by fin_cases a <;> decide) f

theorem read1_1 (f : (Memref.whole main_v109).view.ty.Contents (Elt F)) : (win1_1.blk t1_0).view.read (Elt F) f = f :=
  Memref.read_access_unit_zero (Elt F) main_v109 (show (fun a => (win1_1.index t1_0) a * main_v109.ty.shape.size a) = fun _ => 0 from funext fun _ => Nat.zero_mul _)
    (fun a => by fin_cases a <;> decide) f

theorem read1_2 (f : (Memref.whole main_v110).view.ty.Contents (Elt F)) : (win1_2.blk t1_0).view.read (Elt F) f = f :=
  Memref.read_access_unit_zero (Elt F) main_v110 (show (fun a => (win1_2.index t1_0) a * main_v110.ty.shape.size a) = fun _ => 0 from funext fun _ => Nat.zero_mul _)
    (fun a => by fin_cases a <;> decide) f
theorem before1_0 (c : Dev nD) (d : (cfg1.win 0).block.Idx → Elt F (cfg1.win 0).elt) :
    (dat1 V c).before 0 t1_0 d = V (Proc.devRef .tc main_v106) := by
  unfold Dat.before; rw [if_pos (by decide)]; exact read1_0 (F := F) _
theorem before1_1 (c : Dev nD) (d : (cfg1.win 1).block.Idx → Elt F (cfg1.win 1).elt) :
    (dat1 V c).before 1 t1_0 d = V (Proc.devRef .tc main_v109) := by
  unfold Dat.before; rw [if_pos (by decide)]; exact read1_1 (F := F) _

theorem body_obligation1 (c : Dev nD) : BodyObligation (dat1 V c) (defs₀ (F := F)) 𝒱₀ none Set.univ := fun t => by
  obtain rfl := fin_N1 t
  rw [bigSep_W1, bigSep_W1]
  simp only [owns_whole_eq]
  rw [show (dat1 V c).Φ t1_0.castSucc = (dat1 V c).Φ t1_0.succ from rfl,
    show (dat1 V c).owesAt none t1_0.succ = (dat1 V c).owesAt none t1_0.castSucc from rfl]
  iintro ⟨HΦ, Howes, ⟨%d0, %f0, %hf0, H0⟩, ⟨%d1, %f1, %hf1, H1⟩, ⟨%d2, %f2, -, H2⟩⟩
  rw [before1_0] at hf0; subst hf0
  rw [before1_1] at hf1; subst hf1
  iapply (mask_body c (V (Proc.devRef .tc main_v106)) (V (Proc.devRef .tc main_v109)) f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat1]
  isplitl [H1]; · iexists _; isplitr; swap; (· iexact H1); ipureintro; dsimp only [dat1]
  iexists _; isplitr; swap; (· iexact H2); ipureintro; dsimp only [dat1]

theorem arr1_out (c : Dev nD) : (dat1 V c).arrAt 2 cfg1.N = afterMask V (Proc.devRef .tc main_v110) := by
  have hw : ((cfg1.win 2).blk t1_0).view.read (Elt F) ((dat1 V c).arrAt 2 cfg1.N) = (dat1 V c).flushed 2 t1_0 := by
    rw [show cfg1.N = t1_0.val + 1 from rfl, (dat1 V c).arrAt_succ (2 : Fin 3) t1_0, flush1_2, if_pos rfl]
    exact View.read_write_univ _ _
  have hf : (dat1 V c).flushed 2 t1_0 = afterMask V (Proc.devRef .tc main_v110) := by
    unfold afterMask
    rw [Function.update_self]
    exact funext fun _ => rfl
  rw [hf] at hw
  exact (read1_2 _).symm.trans hw

theorem afterMask_ne (b : Ref sig .tc) (h : b ≠ main_v110) : afterMask V (Proc.devRef .tc b) = V (Proc.devRef .tc b) := by
  unfold afterMask
  exact Function.update_of_ne (StableHlo.devRef_ne_of_ne h) _ _

-- the launch lemmas are stated at the pinned configuration: unification may unfold plain definitions in a type
set_option backward.isDefEq.respectTransparency.types false in
def reg1 : Pipeline.RegionSeg (pcfgs (F := F)) adm (pdats V) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 V c).loose
  hwaits c := Pipeline.cellsWaits_intro (Pipeline.pin (pcfgs (F := F)) adm) (pdats V) none 1 c fun w s t =>
    (K (F := F)).mayWait_none _ fun g => Otc_none c g
  pre c := iprop(unscopedBufs c (fun b => V b) ∗ ∃ W, ⌜(K (F := F)).WBelow (T c) W 0⌝ ∗ owes (c : Thread nD τ) ((K (F := F)).Otc c 0) W)
  post c := iprop(unscopedBufs c (fun b => afterMask V b) ∗ ∃ W, ⌜(K (F := F)).WBelow (T c) W 0⌝ ∗ owes (c : Thread nD τ) ((K (F := F)).Otc c 0) W)
  X _ := BI.emp
  Y _ := BI.emp
  Z c := Pipeline.unscopedRest (Ix := HIx 1) (Name := ℕ) (U := UU) (Lvl := ℕ) spec1 c (fun b => V b)
  hentry c := by
    rw [Pipeline.ownSems0_none]
    have hsplit := Pipeline.arrays_of_unscopedBufs (p := 1) (pcfgs (F := F)) adm (pdats V) launch1.win launch1.arr_whole c
      ((pdats V 1 c).share_full fun _ => rfl) (fun b => V b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 1 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 1 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch1.win launch1.arr_whole c
      (pdats V) ((pdats V 1 c).share_full fun _ => rfl) (fun b => V b) (fun b => afterMask V b) ((pdats V 1 c).arrAt · cfg1.N)
      (fun w => by
        fin_cases w
        · exact ((pdats V 1 c).arrAt_in 0 rfl _).trans (afterMask_ne V main_v106 (by decide)).symm
        · exact ((pdats V 1 c).arrAt_in 1 rfl _).trans (afterMask_ne V main_v109 (by decide)).symm
        · exact arr1_out V c)
      (fun b hb => afterMask_ne V b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact le_rfl
    iexact HO

end Cert.Proof.Tc

end
-- ==== Proof.Tc.Calls.lean ====
/-
  The two TensorCore calls as @main meets them: each run from every unscoped buffer at a valuation to the valuation with
  the kernel's result stored over it.
-/
module

public import proofs.«01_k».proof.Proof.Tc.Regions
public import Idealize.ShloMosaic.Lib.SparseCore.Threads

@[expose] public section

noncomputable section

namespace Cert.Proof.Tc

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The TensorCore's debts before the SparseCore call, its waits recorded no higher than the bottom level. -/
abbrev OW (c : Dev nD) : sProp 𝕄 := iprop(∃ W : Waits sig (HIx 1), ⌜(K (F := F)).WBelow (T c) W 0⌝ ∗ owes (T c) ((K (F := F)).Otc c 0) W)

/-- What a region's pipeline is launched from. -/
abbrev seeds (p : Fin 2) (c : Dev nD) : sProp 𝕄 :=
  iprop(Pipeline.cellsGhost (Pipeline.pin (pcfgs (F := F)) adm) EP p c ∗ Pipeline.toksInit (Pipeline.pin (pcfgs (F := F)) adm) EP p c)

/-- A call of a region from @main is the region's own call, carried to @main's labels. -/
theorem lift_entry (c : Dev nD) (p : Fin 2) :
    (Prog.lift (.customCall (SparseCore.inner (Pipeline.entry p)) ()) : Prog (TpuEff nD τ sig (Elt F) (SparseCore.Sig (ΛP (F := F)) 1) (T c : Thread nD τ).2) PUnit)
      = SparseCore.liftProg (.op (.customCall (Pipeline.entry p) ()) .ret) := rfl

variable (V : Valuation τ sig (Elt F)) [∀ e, Nonempty (Elt F e)]

set_option maxHeartbeats 800000 in
-- the region's lemma is stated at the pinned configuration: unification may unfold plain definitions in a type
set_option backward.isDefEq.respectTransparency.types false in
theorem region0 (c : Dev nD) (Q : PUnit → sProp 𝕄) :
    (iprop(((boundary (T c) ∗ (unscopedBufs c (fun b => afterConv V b)) ∗ OW c) -∗ wp frame (wpE (D (F := F)) 𝒱 (T c) none) Set.univ (.ret ⟨⟩) Q)
        ∗ boundary (T c) ∗ ((unscopedBufs c (fun b => V b)) ∗ OW c) ∗ levAts (K (F := F)).L (K (F := F)).lev ∗ seeds 0 c) : sProp 𝕄)
      ⊢ wp frame (wpE (D (F := F)) 𝒱 (T c) none) Set.univ (.op (.customCall (Pipeline.entry 0) ()) .ret) Q :=
  Pipeline.RegionSeg.wp (pcfgs (F := F)) adm (pdats V) none cellOf_inj EP defs₀ 𝒱₀ (K (F := F)).L (K (F := F)).lev (reg0 V) c none (fun u hu => nomatch hu) .ret Q

theorem conv_call (c : Dev nD) (Q : PUnit → sProp 𝕄) :
    iprop(((boundary (T c) ∗ StableHlo.held (T c) ucRefs (afterConv V) ∗ OW c) -∗ Q ⟨⟩)
        ∗ boundary (T c) ∗ StableHlo.held (T c) ucRefs V ∗ OW c ∗ levAts (K (F := F)).L (K (F := F)).lev ∗ seeds 0 c)
      ⊢ wp frame (wpE ((K (F := F)).defs (D (F := F))) 𝒱 (T c) none) Set.univ
          (Prog.lift (.customCall (SparseCore.inner (Pipeline.entry 0)) ())) Q := by
  rw [lift_entry c 0]
  refine BI.Entails.trans (BI.Entails.trans (show iprop(((boundary (T c) ∗ StableHlo.held (T c) ucRefs (afterConv V) ∗ OW c) -∗ Q ⟨⟩)
        ∗ boundary (T c) ∗ StableHlo.held (T c) ucRefs V ∗ OW c ∗ levAts (K (F := F)).L (K (F := F)).lev ∗ seeds 0 c) ⊢ (_ : sProp 𝕄) from ?_) (region0 V c Q)) ((K (F := F)).wp_liftProg (D (F := F)) 𝒱 (T c) Set.univ none _ Q)
  rw [← unscopedBufs_held c V, ← unscopedBufs_held c (afterConv V)]
  simp only [wp_ret]
  iintro ⟨Hk, Hb, Hv, HO, #Hl, Hc, Ht⟩
  isplitl [Hk]
  · iintro ⟨Hb, Hv, HO⟩
    imodintro
    iapply Hk
    isplitl [Hb]; · iexact Hb
    isplitl [Hv]; · iexact Hv
    iexact HO
  isplitl [Hb]; · iexact Hb
  isplitl [Hv HO]
  · isplitl [Hv]; · iexact Hv
    iexact HO
  isplitr; · iexact Hl
  isplitl [Hc]; · iexact Hc
  iexact Ht

set_option maxHeartbeats 800000 in
-- the region's lemma is stated at the pinned configuration: unification may unfold plain definitions in a type
set_option backward.isDefEq.respectTransparency.types false in
theorem region1 (c : Dev nD) (Q : PUnit → sProp 𝕄) :
    (iprop(((boundary (T c) ∗ (unscopedBufs c (fun b => afterMask V b)) ∗ OW c) -∗ wp frame (wpE (D (F := F)) 𝒱 (T c) none) Set.univ (.ret ⟨⟩) Q)
        ∗ boundary (T c) ∗ ((unscopedBufs c (fun b => V b)) ∗ OW c) ∗ levAts (K (F := F)).L (K (F := F)).lev ∗ seeds 1 c) : sProp 𝕄)
      ⊢ wp frame (wpE (D (F := F)) 𝒱 (T c) none) Set.univ (.op (.customCall (Pipeline.entry 1) ()) .ret) Q :=
  Pipeline.RegionSeg.wp (pcfgs (F := F)) adm (pdats V) none cellOf_inj EP defs₀ 𝒱₀ (K (F := F)).L (K (F := F)).lev (reg1 V) c none (fun u hu => nomatch hu) .ret Q

theorem mask_call (c : Dev nD) (Q : PUnit → sProp 𝕄) :
    iprop(((boundary (T c) ∗ StableHlo.held (T c) ucRefs (afterMask V) ∗ OW c) -∗ Q ⟨⟩)
        ∗ boundary (T c) ∗ StableHlo.held (T c) ucRefs V ∗ OW c ∗ levAts (K (F := F)).L (K (F := F)).lev ∗ seeds 1 c)
      ⊢ wp frame (wpE ((K (F := F)).defs (D (F := F))) 𝒱 (T c) none) Set.univ
          (Prog.lift (.customCall (SparseCore.inner (Pipeline.entry 1)) ())) Q := by
  rw [lift_entry c 1]
  refine BI.Entails.trans (BI.Entails.trans (show iprop(((boundary (T c) ∗ StableHlo.held (T c) ucRefs (afterMask V) ∗ OW c) -∗ Q ⟨⟩)
        ∗ boundary (T c) ∗ StableHlo.held (T c) ucRefs V ∗ OW c ∗ levAts (K (F := F)).L (K (F := F)).lev ∗ seeds 1 c) ⊢ (_ : sProp 𝕄) from ?_) (region1 V c Q)) ((K (F := F)).wp_liftProg (D (F := F)) 𝒱 (T c) Set.univ none _ Q)
  rw [← unscopedBufs_held c V, ← unscopedBufs_held c (afterMask V)]
  simp only [wp_ret]
  iintro ⟨Hk, Hb, Hv, HO, #Hl, Hc, Ht⟩
  isplitl [Hk]
  · iintro ⟨Hb, Hv, HO⟩
    imodintro
    iapply Hk
    isplitl [Hb]; · iexact Hb
    isplitl [Hv]; · iexact Hv
    iexact HO
  isplitl [Hb]; · iexact Hb
  isplitl [Hv HO]
  · isplitl [Hv]; · iexact Hv
    iexact HO
  isplitr; · iexact Hl
  isplitl [Hc]; · iexact Hc
  iexact Ht

end Cert.Proof.Tc

end
-- ==== Proof.Main.Host.lean ====
/-
  @main as the launch runs it: its host operations in lists, the two TensorCore calls and the SparseCore call between them.
-/
module

public import proofs.«01_k».proof.Proof.Common
public import Idealize.ShloMosaic.Lib.Claim

@[expose] public section

noncomputable section

namespace Cert.Proof.Main

open Cert.KernelIdeal Cert.KernelIdeal.Gen
open Idealize.ShloMosaic Idealize.ShloMosaic.TcCoe Idealize.ShloMosaic.Tactic
open Idealize.SL.Sem

variable {F : FTy → Type} [FloatOps F]

/-- The host operations before the convolution kernel. -/
abbrev opsA : List (HloOp τ sig (Elt F)) :=
  [ StableHlo.reshape main_arg0 main_v0 (rfl : (.f32 : EltTy) = .f32) shapeCasts_S1x256x64x64_S256x64x64,
    StableHlo.reshape main_v0 main_v1 (rfl : (.f32 : EltTy) = .f32) shapeCasts_S256x64x64_S256x4096,
    StableHlo.unary main_v1 main_v2 ((transpose S4096x256 [1, 0] · transposes_S256x4096_S4096x256_1_0) : (⟨S256x4096, .f32⟩ : BufTy).Contents (Elt F) → (⟨S4096x256, .f32⟩ : BufTy).Contents (Elt F)),
    StableHlo.unary main_arg2 main_v3 ((transpose S3x3x256x256 [2, 3, 1, 0] · transposes_S256x256x3x3_S3x3x256x256_2_3_1_0) : (⟨S256x256x3x3, .f32⟩ : BufTy).Contents (Elt F) → (⟨S3x3x256x256, .f32⟩ : BufTy).Contents (Elt F)),
    StableHlo.reshape main_v3 main_v4 (rfl : (.f32 : EltTy) = .f32) shapeCasts_S3x3x256x256_S2304x256,
    StableHlo.nullary main_cst (constant S_ .f32 0x00000000#32),
    StableHlo.unary main_cst main_v5 (broadcastInDim S256x16 ![] bcast_S_S256x16 : (⟨S_, .f32⟩ : BufTy).Contents (Elt F) → (⟨S256x16, .f32⟩ : BufTy).Contents (Elt F)),
    StableHlo.reshape main_arg4 main_v6 (rfl : (.f32 : EltTy) = .f32) shapeCasts_S3x256x1x1_S3x256,
    StableHlo.unary main_v6 main_v7 ((transpose S256x3 [1, 0] · transposes_S3x256_S256x3_1_0) : (⟨S3x256, .f32⟩ : BufTy).Contents (Elt F) → (⟨S256x3, .f32⟩ : BufTy).Contents (Elt F)),
    StableHlo.nullary main_c (constantI S_ 32 0#32),
    StableHlo.unary main_c main_v8 (broadcastInDim S1 ![] bcast_S_S1 : (⟨S_, .i32⟩ : BufTy).Contents (Elt F) → (⟨S1, .i32⟩ : BufTy).Contents (Elt F)),
    StableHlo.ternary main_v5 main_v8 main_v7 main_v9 ((fun x i u => Host.scatter scatter_S256x16_S1_S256x3_01_n_1_0 (fun _ b => b) x i u) : (⟨S256x16, .f32⟩ : BufTy).Contents (Elt F) → (⟨S1, .i32⟩ : BufTy).Contents (Elt F) → (⟨S256x3, .f32⟩ : BufTy).Contents (Elt F) → (⟨S256x16, .f32⟩ : BufTy).Contents (Elt F)),
    StableHlo.reshape main_arg6 main_v10 (rfl : (.f32 : EltTy) = .f32) shapeCasts_S12x256x1x1_S12x256,
    StableHlo.unary main_v10 main_v11 ((transpose S256x12 [1, 0] · transposes_S12x256_S256x12_1_0) : (⟨S12x256, .f32⟩ : BufTy).Contents (Elt F) → (⟨S256x12, .f32⟩ : BufTy).Contents (Elt F)),
    StableHlo.nullary main_c_0 (constantI S_ 32 3#32),
    StableHlo.unary main_c_0 main_v12 (broadcastInDim S1 ![] bcast_S_S1 : (⟨S_, .i32⟩ : BufTy).Contents (Elt F) → (⟨S1, .i32⟩ : BufTy).Contents (Elt F)),
    StableHlo.ternary main_v9 main_v12 main_v11 main_v13 ((fun x i u => Host.scatter scatter_S256x16_S1_S256x12_01_n_1_0 (fun _ b => b) x i u) : (⟨S256x16, .f32⟩ : BufTy).Contents (Elt F) → (⟨S1, .i32⟩ : BufTy).Contents (Elt F) → (⟨S256x12, .f32⟩ : BufTy).Contents (Elt F) → (⟨S256x16, .f32⟩ : BufTy).Contents (Elt F)),
    StableHlo.nullary main_cst_1 (constant S_ .f32 0x00000000#32),
    StableHlo.unary main_cst_1 main_v14 (broadcastInDim S1x16 ![] bcast_S_S1x16 : (⟨S_, .f32⟩ : BufTy).Contents (Elt F) → (⟨S1x16, .f32⟩ : BufTy).Contents (Elt F)),
    StableHlo.nullary main_c_2 (constantI S_ 32 0#32),
    StableHlo.unary main_c_2 main_v15 (broadcastInDim S1 ![] bcast_S_S1 : (⟨S_, .i32⟩ : BufTy).Contents (Elt F) → (⟨S1, .i32⟩ : BufTy).Contents (Elt F)),
    StableHlo.nullary main_c_3 (constantI S_ 32 0#32),
    StableHlo.unary main_c_3 main_v16 (broadcastInDim S1 ![] bcast_S_S1 : (⟨S_, .i32⟩ : BufTy).Contents (Elt F) → (⟨S1, .i32⟩ : BufTy).Contents (Elt F)),
    StableHlo.binary main_v15 main_v16 main_v17 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v14 main_v17 main_arg5 main_v18 ((fun x i u => Host.scatter scatter_S1x16_S2_S3_0_0_01_0 (fun _ b => b) x i u) : (⟨S1x16, .f32⟩ : BufTy).Contents (Elt F) → (⟨S2, .i32⟩ : BufTy).Contents (Elt F) → (⟨S3, .f32⟩ : BufTy).Contents (Elt F) → (⟨S1x16, .f32⟩ : BufTy).Contents (Elt F)),
    StableHlo.nullary main_c_4 (constantI S_ 32 0#32),
    StableHlo.unary main_c_4 main_v19 (broadcastInDim S1 ![] bcast_S_S1 : (⟨S_, .i32⟩ : BufTy).Contents (Elt F) → (⟨S1, .i32⟩ : BufTy).Contents (Elt F)),
    StableHlo.nullary main_c_5 (constantI S_ 32 3#32),
    StableHlo.unary main_c_5 main_v20 (broadcastInDim S1 ![] bcast_S_S1 : (⟨S_, .i32⟩ : BufTy).Contents (Elt F) → (⟨S1, .i32⟩ : BufTy).Contents (Elt F)),
    StableHlo.binary main_v19 main_v20 main_v21 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v18 main_v21 main_arg7 main_v22 ((fun x i u => Host.scatter scatter_S1x16_S2_S12_0_0_01_0 (fun _ b => b) x i u) : (⟨S1x16, .f32⟩ : BufTy).Contents (Elt F) → (⟨S2, .i32⟩ : BufTy).Contents (Elt F) → (⟨S12, .f32⟩ : BufTy).Contents (Elt F) → (⟨S1x16, .f32⟩ : BufTy).Contents (Elt F)),
    StableHlo.reshape main_arg3 main_v23 (rfl : (.f32 : EltTy) = .f32) shapeCasts_S256_S1x256 ]
theorem opsA_sub : (opsA : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.ternary_bufs_sub .., StableHlo.reshape_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.binary_bufs_sub .., StableHlo.ternary_bufs_sub .., StableHlo.reshape_bufs_sub ..⟩
theorem opsA_fresh : (opsA : List (HloOp τ sig (Elt F))).Forall fun op => op.fresh = ∅ :=
  StableHlo.forall_fresh_of_map rfl
/-- What each writes, in order. -/
abbrev opsA_W : List (Ref sig .tc) := [main_v0, main_v1, main_v2, main_v3, main_v4, main_cst, main_v5, main_v6, main_v7, main_c, main_v8, main_v9, main_v10, main_v11, main_c_0, main_v12, main_v13, main_cst_1, main_v14, main_c_2, main_v15, main_c_3, main_v16, main_v17, main_v18, main_c_4, main_v19, main_c_5, main_v20, main_v21, main_v22, main_v23]
theorem opsA_writes : (opsA : List (HloOp τ sig (Elt F))).Forall fun op => op.writes ⊆ (opsA_W.map (Proc.devRef (τ := τ) .tc)).toFinset :=
  StableHlo.forall_writes_sub_of_map rfl

/-- The host operations after it, the first window. -/
abbrev opsB1 : List (HloOp τ sig (Elt F)) :=
  [ StableHlo.unary main_v24 main_v25 ((extractStridedSlice S4096x3 ![0, 0] · slices_S4096x16_S4096x3_0_0) : (⟨S4096x16, .f32⟩ : BufTy).Contents (Elt F) → (⟨S4096x3, .f32⟩ : BufTy).Contents (Elt F)),
    StableHlo.unary main_v25 main_v26 ((transpose S3x4096 [1, 0] · transposes_S4096x3_S3x4096_1_0) : (⟨S4096x3, .f32⟩ : BufTy).Contents (Elt F) → (⟨S3x4096, .f32⟩ : BufTy).Contents (Elt F)),
    StableHlo.reshape main_v26 main_v27 (rfl : (.f32 : EltTy) = .f32) shapeCasts_S3x4096_S1x3x64x64,
    StableHlo.unary main_v24 main_v28 ((extractStridedSlice S4096x12 ![0, 3] · slices_S4096x16_S4096x12_0_3) : (⟨S4096x16, .f32⟩ : BufTy).Contents (Elt F) → (⟨S4096x12, .f32⟩ : BufTy).Contents (Elt F)),
    StableHlo.unary main_v28 main_v29 ((transpose S12x4096 [1, 0] · transposes_S4096x12_S12x4096_1_0) : (⟨S4096x12, .f32⟩ : BufTy).Contents (Elt F) → (⟨S12x4096, .f32⟩ : BufTy).Contents (Elt F)),
    StableHlo.reshape main_v29 main_v30 (rfl : (.f32 : EltTy) = .f32) shapeCasts_S12x4096_S1x12x64x64,
    StableHlo.unary main_v24 main_v31 ((extractStridedSlice S4096x3 ![0, 0] · slices_S4096x16_S4096x3_0_0) : (⟨S4096x16, .f32⟩ : BufTy).Contents (Elt F) → (⟨S4096x3, .f32⟩ : BufTy).Contents (Elt F)),
    StableHlo.reshape main_v31 main_v32 (rfl : (.f32 : EltTy) = .f32) shapeCasts_S4096x3_S12288,
    StableHlo.unary main_v24 main_v33 ((extractStridedSlice S4096x12 ![0, 3] · slices_S4096x16_S4096x12_0_3) : (⟨S4096x16, .f32⟩ : BufTy).Contents (Elt F) → (⟨S4096x12, .f32⟩ : BufTy).Contents (Elt F)),
    StableHlo.reshape main_v33 main_v34 (rfl : (.f32 : EltTy) = .f32) shapeCasts_S4096x12_S12288x4,
    StableHlo.unary main_v32 main_values ((fun x => (Host.topK S1000 0 (FloatOps.cmpfTotal .gt) x sliceFits_S12288_S1000).1) : (⟨S12288, .f32⟩ : BufTy).Contents (Elt F) → (⟨S1000, .f32⟩ : BufTy).Contents (Elt F)),
    StableHlo.unary main_v32 main_indices ((fun x => (Host.topK S1000 0 (FloatOps.cmpfTotal .gt) x sliceFits_S12288_S1000).2) : (⟨S12288, .f32⟩ : BufTy).Contents (Elt F) → (⟨S1000, .i32⟩ : BufTy).Contents (Elt F)),
    StableHlo.nullary main_c_6 (constantI S_ 32 0#32),
    StableHlo.unary main_c_6 main_v35 (broadcastInDim S1000 ![] bcast_S_S1000 : (⟨S_, .i32⟩ : BufTy).Contents (Elt F) → (⟨S1000, .i32⟩ : BufTy).Contents (Elt F)),
    StableHlo.binary main_indices main_v35 main_v36 (cmpi .slt : (⟨S1000, .i32⟩ : BufTy).Contents (Elt F) → (⟨S1000, .i32⟩ : BufTy).Contents (Elt F) → (⟨S1000, .i1⟩ : BufTy).Contents (Elt F)),
    StableHlo.nullary main_c_7 (constantI S_ 32 12288#32),
    StableHlo.unary main_c_7 main_v37 (broadcastInDim S1000 ![] bcast_S_S1000 : (⟨S_, .i32⟩ : BufTy).Contents (Elt F) → (⟨S1000, .i32⟩ : BufTy).Contents (Elt F)),
    StableHlo.binary main_indices main_v37 main_v38 (addi : (⟨S1000, .i32⟩ : BufTy).Contents (Elt F) → (⟨S1000, .i32⟩ : BufTy).Contents (Elt F) → (⟨S1000, .i32⟩ : BufTy).Contents (Elt F)),
    StableHlo.ternary main_v36 main_v38 main_indices main_v39 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_v39 main_v40 (broadcastInDim S1000x1 ![0] bcast_S1000_S1000x1_0 : (⟨S1000, .i32⟩ : BufTy).Contents (Elt F) → (⟨S1000x1, .i32⟩ : BufTy).Contents (Elt F)),
    StableHlo.binary main_arg1 main_v40 main_v41 ((fun x i => Host.gather gather_S12288x4_S1000x1_S1000x4_1_0_n_n_0_1_14 x i) : (⟨S12288x4, .f32⟩ : BufTy).Contents (Elt F) → (⟨S1000x1, .i32⟩ : BufTy).Contents (Elt F) → (⟨S1000x4, .f32⟩ : BufTy).Contents (Elt F)),
    StableHlo.nullary main_c_8 (constantI S_ 32 0#32),
    StableHlo.unary main_c_8 main_v42 (broadcastInDim S1000 ![] bcast_S_S1000 : (⟨S_, .i32⟩ : BufTy).Contents (Elt F) → (⟨S1000, .i32⟩ : BufTy).Contents (Elt F)),
    StableHlo.binary main_indices main_v42 main_v43 (cmpi .slt : (⟨S1000, .i32⟩ : BufTy).Contents (Elt F) → (⟨S1000, .i32⟩ : BufTy).Contents (Elt F) → (⟨S1000, .i1⟩ : BufTy).Contents (Elt F)),
    StableHlo.nullary main_c_9 (constantI S_ 32 12288#32),
    StableHlo.unary main_c_9 main_v44 (broadcastInDim S1000 ![] bcast_S_S1000 : (⟨S_, .i32⟩ : BufTy).Contents (Elt F) → (⟨S1000, .i32⟩ : BufTy).Contents (Elt F)),
    StableHlo.binary main_indices main_v44 main_v45 (addi : (⟨S1000, .i32⟩ : BufTy).Contents (Elt F) → (⟨S1000, .i32⟩ : BufTy).Contents (Elt F) → (⟨S1000, .i32⟩ : BufTy).Contents (Elt F)) ]
theorem opsB1_sub : (opsB1 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
theorem opsB1_fresh : (opsB1 : List (HloOp τ sig (Elt F))).Forall fun op => op.fresh = ∅ :=
  StableHlo.forall_fresh_of_map rfl
/-- What each writes, in order. -/
abbrev opsB1_W : List (Ref sig .tc) := [main_v25, main_v26, main_v27, main_v28, main_v29, main_v30, main_v31, main_v32, main_v33, main_v34, main_values, main_indices, main_c_6, main_v35, main_v36, main_c_7, main_v37, main_v38, main_v39, main_v40, main_v41, main_c_8, main_v42, main_v43, main_c_9, main_v44, main_v45]
theorem opsB1_writes : (opsB1 : List (HloOp τ sig (Elt F))).Forall fun op => op.writes ⊆ (opsB1_W.map (Proc.devRef (τ := τ) .tc)).toFinset :=
  StableHlo.forall_writes_sub_of_map rfl

/-- The host operations the second window. -/
abbrev opsB2 : List (HloOp τ sig (Elt F)) :=
  [ StableHlo.ternary main_v43 main_v45 main_indices main_v46 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_v46 main_v47 (broadcastInDim S1000x1 ![0] bcast_S1000_S1000x1_0 : (⟨S1000, .i32⟩ : BufTy).Contents (Elt F) → (⟨S1000x1, .i32⟩ : BufTy).Contents (Elt F)),
    StableHlo.binary main_v34 main_v47 main_v48 ((fun x i => Host.gather gather_S12288x4_S1000x1_S1000x4_1_0_n_n_0_1_14 x i) : (⟨S12288x4, .f32⟩ : BufTy).Contents (Elt F) → (⟨S1000x1, .i32⟩ : BufTy).Contents (Elt F) → (⟨S1000x4, .f32⟩ : BufTy).Contents (Elt F)),
    StableHlo.unary main_v41 main_v49 ((extractStridedSlice S1000x1 ![0, 2] · slices_S1000x4_S1000x1_0_2) : (⟨S1000x4, .f32⟩ : BufTy).Contents (Elt F) → (⟨S1000x1, .f32⟩ : BufTy).Contents (Elt F)),
    StableHlo.reshape main_v49 main_v50 (rfl : (.f32 : EltTy) = .f32) shapeCasts_S1000x1_S1000,
    StableHlo.unary main_v41 main_v51 ((extractStridedSlice S1000x1 ![0, 0] · slices_S1000x4_S1000x1_0_0) : (⟨S1000x4, .f32⟩ : BufTy).Contents (Elt F) → (⟨S1000x1, .f32⟩ : BufTy).Contents (Elt F)),
    StableHlo.reshape main_v51 main_v52 (rfl : (.f32 : EltTy) = .f32) shapeCasts_S1000x1_S1000,
    StableHlo.binary main_v50 main_v52 main_v53 (subf : (⟨S1000, .f32⟩ : BufTy).Contents (Elt F) → (⟨S1000, .f32⟩ : BufTy).Contents (Elt F) → (⟨S1000, .f32⟩ : BufTy).Contents (Elt F)),
    StableHlo.unary main_v41 main_v54 ((extractStridedSlice S1000x1 ![0, 3] · slices_S1000x4_S1000x1_0_3) : (⟨S1000x4, .f32⟩ : BufTy).Contents (Elt F) → (⟨S1000x1, .f32⟩ : BufTy).Contents (Elt F)),
    StableHlo.reshape main_v54 main_v55 (rfl : (.f32 : EltTy) = .f32) shapeCasts_S1000x1_S1000,
    StableHlo.unary main_v41 main_v56 ((extractStridedSlice S1000x1 ![0, 1] · slices_S1000x4_S1000x1_0_1) : (⟨S1000x4, .f32⟩ : BufTy).Contents (Elt F) → (⟨S1000x1, .f32⟩ : BufTy).Contents (Elt F)),
    StableHlo.reshape main_v56 main_v57 (rfl : (.f32 : EltTy) = .f32) shapeCasts_S1000x1_S1000,
    StableHlo.binary main_v55 main_v57 main_v58 (subf : (⟨S1000, .f32⟩ : BufTy).Contents (Elt F) → (⟨S1000, .f32⟩ : BufTy).Contents (Elt F) → (⟨S1000, .f32⟩ : BufTy).Contents (Elt F)),
    StableHlo.unary main_v41 main_v59 ((extractStridedSlice S1000x1 ![0, 0] · slices_S1000x4_S1000x1_0_0) : (⟨S1000x4, .f32⟩ : BufTy).Contents (Elt F) → (⟨S1000x1, .f32⟩ : BufTy).Contents (Elt F)),
    StableHlo.reshape main_v59 main_v60 (rfl : (.f32 : EltTy) = .f32) shapeCasts_S1000x1_S1000,
    StableHlo.nullary main_cst_10 (constant S_ .f32 0x3F000000#32),
    StableHlo.unary main_cst_10 main_v61 (broadcastInDim S1000 ![] bcast_S_S1000 : (⟨S_, .f32⟩ : BufTy).Contents (Elt F) → (⟨S1000, .f32⟩ : BufTy).Contents (Elt F)),
    StableHlo.binary main_v61 main_v53 main_v62 (mulf : (⟨S1000, .f32⟩ : BufTy).Contents (Elt F) → (⟨S1000, .f32⟩ : BufTy).Contents (Elt F) → (⟨S1000, .f32⟩ : BufTy).Contents (Elt F)),
    StableHlo.binary main_v60 main_v62 main_v63 (addf : (⟨S1000, .f32⟩ : BufTy).Contents (Elt F) → (⟨S1000, .f32⟩ : BufTy).Contents (Elt F) → (⟨S1000, .f32⟩ : BufTy).Contents (Elt F)),
    StableHlo.unary main_v41 main_v64 ((extractStridedSlice S1000x1 ![0, 1] · slices_S1000x4_S1000x1_0_1) : (⟨S1000x4, .f32⟩ : BufTy).Contents (Elt F) → (⟨S1000x1, .f32⟩ : BufTy).Contents (Elt F)),
    StableHlo.reshape main_v64 main_v65 (rfl : (.f32 : EltTy) = .f32) shapeCasts_S1000x1_S1000,
    StableHlo.nullary main_cst_11 (constant S_ .f32 0x3F000000#32),
    StableHlo.unary main_cst_11 main_v66 (broadcastInDim S1000 ![] bcast_S_S1000 : (⟨S_, .f32⟩ : BufTy).Contents (Elt F) → (⟨S1000, .f32⟩ : BufTy).Contents (Elt F)),
    StableHlo.binary main_v66 main_v58 main_v67 (mulf : (⟨S1000, .f32⟩ : BufTy).Contents (Elt F) → (⟨S1000, .f32⟩ : BufTy).Contents (Elt F) → (⟨S1000, .f32⟩ : BufTy).Contents (Elt F)),
    StableHlo.binary main_v65 main_v67 main_v68 (addf : (⟨S1000, .f32⟩ : BufTy).Contents (Elt F) → (⟨S1000, .f32⟩ : BufTy).Contents (Elt F) → (⟨S1000, .f32⟩ : BufTy).Contents (Elt F)),
    StableHlo.unary main_v48 main_v69 ((extractStridedSlice S1000x1 ![0, 0] · slices_S1000x4_S1000x1_0_0) : (⟨S1000x4, .f32⟩ : BufTy).Contents (Elt F) → (⟨S1000x1, .f32⟩ : BufTy).Contents (Elt F)),
    StableHlo.reshape main_v69 main_v70 (rfl : (.f32 : EltTy) = .f32) shapeCasts_S1000x1_S1000,
    StableHlo.unary main_v48 main_v71 ((extractStridedSlice S1000x1 ![0, 1] · slices_S1000x4_S1000x1_0_1) : (⟨S1000x4, .f32⟩ : BufTy).Contents (Elt F) → (⟨S1000x1, .f32⟩ : BufTy).Contents (Elt F)),
    StableHlo.reshape main_v71 main_v72 (rfl : (.f32 : EltTy) = .f32) shapeCasts_S1000x1_S1000,
    StableHlo.unary main_v48 main_v73 ((extractStridedSlice S1000x1 ![0, 2] · slices_S1000x4_S1000x1_0_2) : (⟨S1000x4, .f32⟩ : BufTy).Contents (Elt F) → (⟨S1000x1, .f32⟩ : BufTy).Contents (Elt F)),
    StableHlo.reshape main_v73 main_v74 (rfl : (.f32 : EltTy) = .f32) shapeCasts_S1000x1_S1000,
    StableHlo.unary main_v48 main_v75 ((extractStridedSlice S1000x1 ![0, 3] · slices_S1000x4_S1000x1_0_3) : (⟨S1000x4, .f32⟩ : BufTy).Contents (Elt F) → (⟨S1000x1, .f32⟩ : BufTy).Contents (Elt F)),
    StableHlo.reshape main_v75 main_v76 (rfl : (.f32 : EltTy) = .f32) shapeCasts_S1000x1_S1000,
    StableHlo.nullary main_cst_12 (constant S_ .f32 0x40845349#32),
    StableHlo.TRef.unary (.of main_cst_12 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S1000, .f32⟩) (broadcastInDim S1000 ![] bcast_S_S1000),
    StableHlo.TRef.binary (.of main_call0_v1 : StableHlo.TRef sig ⟨S1000, .f32⟩) (.of main_v74 : StableHlo.TRef sig ⟨S1000, .f32⟩) (.of main_v77 : StableHlo.TRef sig ⟨S1000, .f32⟩) minimumf,
    StableHlo.nullary main_cst_13 (constant S_ .f32 0x40845349#32),
    StableHlo.TRef.unary (.of main_cst_13 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S1000, .f32⟩) (broadcastInDim S1000 ![] bcast_S_S1000),
    StableHlo.TRef.binary (.of main_call1_v1 : StableHlo.TRef sig ⟨S1000, .f32⟩) (.of main_v76 : StableHlo.TRef sig ⟨S1000, .f32⟩) (.of main_v78 : StableHlo.TRef sig ⟨S1000, .f32⟩) minimumf,
    StableHlo.binary main_v70 main_v53 main_v79 (mulf : (⟨S1000, .f32⟩ : BufTy).Contents (Elt F) → (⟨S1000, .f32⟩ : BufTy).Contents (Elt F) → (⟨S1000, .f32⟩ : BufTy).Contents (Elt F)),
    StableHlo.binary main_v79 main_v63 main_v80 (addf : (⟨S1000, .f32⟩ : BufTy).Contents (Elt F) → (⟨S1000, .f32⟩ : BufTy).Contents (Elt F) → (⟨S1000, .f32⟩ : BufTy).Contents (Elt F)),
    StableHlo.binary main_v72 main_v58 main_v81 (mulf : (⟨S1000, .f32⟩ : BufTy).Contents (Elt F) → (⟨S1000, .f32⟩ : BufTy).Contents (Elt F) → (⟨S1000, .f32⟩ : BufTy).Contents (Elt F)),
    StableHlo.binary main_v81 main_v68 main_v82 (addf : (⟨S1000, .f32⟩ : BufTy).Contents (Elt F) → (⟨S1000, .f32⟩ : BufTy).Contents (Elt F) → (⟨S1000, .f32⟩ : BufTy).Contents (Elt F)),
    StableHlo.unary main_v77 main_v83 (Host.exp : (⟨S1000, .f32⟩ : BufTy).Contents (Elt F) → (⟨S1000, .f32⟩ : BufTy).Contents (Elt F)),
    StableHlo.binary main_v83 main_v53 main_v84 (mulf : (⟨S1000, .f32⟩ : BufTy).Contents (Elt F) → (⟨S1000, .f32⟩ : BufTy).Contents (Elt F) → (⟨S1000, .f32⟩ : BufTy).Contents (Elt F)),
    StableHlo.unary main_v78 main_v85 (Host.exp : (⟨S1000, .f32⟩ : BufTy).Contents (Elt F) → (⟨S1000, .f32⟩ : BufTy).Contents (Elt F)),
    StableHlo.binary main_v85 main_v58 main_v86 (mulf : (⟨S1000, .f32⟩ : BufTy).Contents (Elt F) → (⟨S1000, .f32⟩ : BufTy).Contents (Elt F) → (⟨S1000, .f32⟩ : BufTy).Contents (Elt F)),
    StableHlo.nullary main_cst_14 (constant S_ .f32 0x3F000000#32),
    StableHlo.unary main_cst_14 main_v87 (broadcastInDim S1000 ![] bcast_S_S1000 : (⟨S_, .f32⟩ : BufTy).Contents (Elt F) → (⟨S1000, .f32⟩ : BufTy).Contents (Elt F)),
    StableHlo.binary main_v87 main_v84 main_v88 (mulf : (⟨S1000, .f32⟩ : BufTy).Contents (Elt F) → (⟨S1000, .f32⟩ : BufTy).Contents (Elt F) → (⟨S1000, .f32⟩ : BufTy).Contents (Elt F)),
    StableHlo.binary main_v80 main_v88 main_v89 (subf : (⟨S1000, .f32⟩ : BufTy).Contents (Elt F) → (⟨S1000, .f32⟩ : BufTy).Contents (Elt F) → (⟨S1000, .f32⟩ : BufTy).Contents (Elt F)),
    StableHlo.nullary main_cst_15 (constant S_ .f32 0x3F000000#32),
    StableHlo.unary main_cst_15 main_v90 (broadcastInDim S1000 ![] bcast_S_S1000 : (⟨S_, .f32⟩ : BufTy).Contents (Elt F) → (⟨S1000, .f32⟩ : BufTy).Contents (Elt F)),
    StableHlo.binary main_v90 main_v86 main_v91 (mulf : (⟨S1000, .f32⟩ : BufTy).Contents (Elt F) → (⟨S1000, .f32⟩ : BufTy).Contents (Elt F) → (⟨S1000, .f32⟩ : BufTy).Contents (Elt F)),
    StableHlo.binary main_v82 main_v91 main_v92 (subf : (⟨S1000, .f32⟩ : BufTy).Contents (Elt F) → (⟨S1000, .f32⟩ : BufTy).Contents (Elt F) → (⟨S1000, .f32⟩ : BufTy).Contents (Elt F)),
    StableHlo.nullary main_cst_16 (constant S_ .f32 0x3F000000#32),
    StableHlo.unary main_cst_16 main_v93 (broadcastInDim S1000 ![] bcast_S_S1000 : (⟨S_, .f32⟩ : BufTy).Contents (Elt F) → (⟨S1000, .f32⟩ : BufTy).Contents (Elt F)),
    StableHlo.binary main_v93 main_v84 main_v94 (mulf : (⟨S1000, .f32⟩ : BufTy).Contents (Elt F) → (⟨S1000, .f32⟩ : BufTy).Contents (Elt F) → (⟨S1000, .f32⟩ : BufTy).Contents (Elt F)),
    StableHlo.binary main_v80 main_v94 main_v95 (addf : (⟨S1000, .f32⟩ : BufTy).Contents (Elt F) → (⟨S1000, .f32⟩ : BufTy).Contents (Elt F) → (⟨S1000, .f32⟩ : BufTy).Contents (Elt F)),
    StableHlo.nullary main_cst_17 (constant S_ .f32 0x3F000000#32),
    StableHlo.unary main_cst_17 main_v96 (broadcastInDim S1000 ![] bcast_S_S1000 : (⟨S_, .f32⟩ : BufTy).Contents (Elt F) → (⟨S1000, .f32⟩ : BufTy).Contents (Elt F)),
    StableHlo.binary main_v96 main_v86 main_v97 (mulf : (⟨S1000, .f32⟩ : BufTy).Contents (Elt F) → (⟨S1000, .f32⟩ : BufTy).Contents (Elt F) → (⟨S1000, .f32⟩ : BufTy).Contents (Elt F)) ]
theorem opsB2_sub : (opsB2 : List (HloOp τ sig (Elt F))).Forall fun op => op.bufs ⊆ StableHlo.tcRefs τ sig :=
  ⟨StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩
theorem opsB2_fresh : (opsB2 : List (HloOp τ sig (Elt F))).Forall fun op => op.fresh = ∅ :=
  StableHlo.forall_fresh_of_map rfl
/-- What each writes, in order. -/
abbrev opsB2_W : List (Ref sig .tc) := [main_v46, main_v47, main_v48, main_v49, main_v50, main_v51, main_v52, main_v53, main_v54, main_v55, main_v56, main_v57, main_v58, main_v59, main_v60, main_cst_10, main_v61, main_v62, main_v63, main_v64, main_v65, main_cst_11, main_v66, main_v67, main_v68, main_v69, main_v70, main_v71, main_v72, main_v73, main_v74, main_v75, main_v76, main_cst_12, main_call0_v0, main_call0_v1, main_v77, main_cst_13, main_call1_v0, main_call1_v1, main_v78, main_v79, main_v80, main_v81, main_v82, main_v83, main_v84, main_v85, main_v86, main_cst_14, main_v87, main_v88, main_v89, main_cst_15, main_v90, main_v91, main_v92, main_cst_16, main_v93, main_v94, main_v95, main_cst_17, main_v96, main_v97]
theorem opsB2_writes : (opsB2 : List (HloOp τ sig (Elt F))).Forall fun op => op.writes ⊆ (opsB2_W.map (Proc.devRef (τ := τ) .tc)).toFinset :=
  StableHlo.forall_writes_sub_of_map rfl

/-- The host operations up to the overlap kernel. -/
abbrev opsB3 : List (HloOp τ sig (Elt F)) :=
  [ StableHlo.binary main_v82 main_v97 main_v98 (addf : (⟨S1000, .f32⟩ : BufTy).Contents (Elt F) → (⟨S1000, .f32⟩ : BufTy).Contents (Elt F) → (⟨S1000, .f32⟩ : BufTy).Contents (Elt F)),
    StableHlo.unary main_v89 main_v99 (broadcastInDim S1000x1 ![0] bcast_S1000_S1000x1_0 : (⟨S1000, .f32⟩ : BufTy).Contents (Elt F) → (⟨S1000x1, .f32⟩ : BufTy).Contents (Elt F)),
    StableHlo.unary main_v92 main_v100 (broadcastInDim S1000x1 ![0] bcast_S1000_S1000x1_0 : (⟨S1000, .f32⟩ : BufTy).Contents (Elt F) → (⟨S1000x1, .f32⟩ : BufTy).Contents (Elt F)),
    StableHlo.unary main_v95 main_v101 (broadcastInDim S1000x1 ![0] bcast_S1000_S1000x1_0 : (⟨S1000, .f32⟩ : BufTy).Contents (Elt F) → (⟨S1000x1, .f32⟩ : BufTy).Contents (Elt F)),
    StableHlo.unary main_v98 main_v102 (broadcastInDim S1000x1 ![0] bcast_S1000_S1000x1_0 : (⟨S1000, .f32⟩ : BufTy).Contents (Elt F) → (⟨S1000x1, .f32⟩ : BufTy).Contents (Elt F)),
    StableHlo.nary ![main_v99, main_v100, main_v101, main_v102] main_v103 (fun u => (concatenate S1000x4 1 [⟨S1000x1, (u 0 : (⟨S1000x1, .f32⟩ : BufTy).Contents (Elt F))⟩, ⟨S1000x1, (u 1 : (⟨S1000x1, .f32⟩ : BufTy).Contents (Elt F))⟩, ⟨S1000x1, (u 2 : (⟨S1000x1, .f32⟩ : BufTy).Contents (Elt F))⟩, ⟨S1000x1, (u 3 : (⟨S1000x1, .f32⟩ : BufTy).Contents (Elt F))⟩] concatenates_S1000x1_S1000x1_S1000x1_S1000x1_S1000x4_d1 : (⟨S1000x4, .f32⟩ : BufTy).Contents (Elt F))),
    StableHlo.nullary main_cst_18 (constant S_ .f32 0x00000000#32),
    StableHlo.nullary main_cst_19 (constant S_ .f32 0x44000000#32),
    StableHlo.TRef.unary (.of main_cst_18 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S1000x4, .f32⟩) (broadcastInDim S1000x4 ![] bcast_S_S1000x4),
    StableHlo.TRef.binary (.of main_call2_v1 : StableHlo.TRef sig ⟨S1000x4, .f32⟩) (.of main_v103 : StableHlo.TRef sig ⟨S1000x4, .f32⟩) (.of main_call2_v2 : StableHlo.TRef sig ⟨S1000x4, .f32⟩) maximumf,
    StableHlo.TRef.unary (.of main_cst_19 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S1000x4, .f32⟩) (broadcastInDim S1000x4 ![] bcast_S_S1000x4),
    StableHlo.TRef.binary (.of main_call2_v4 : StableHlo.TRef sig ⟨S1000x4, .f32⟩) (.of main_call2_v2 : StableHlo.TRef sig ⟨S1000x4, .f32⟩) (.of main_v104 : StableHlo.TRef sig ⟨S1000x4, .f32⟩) minimumf,
    StableHlo.nullary main_cst_20 (constant S_ .f32 0x00000000#32),
    StableHlo.unary main_cst_20 main_v105 (broadcastInDim S24x4 ![] bcast_S_S24x4 : (⟨S_, .f32⟩ : BufTy).Contents (Elt F) → (⟨S24x4, .f32⟩ : BufTy).Contents (Elt F)),
    StableHlo.binary main_v104 main_v105 main_v106 ((fun a b => concatenate S1024x4 0 [⟨S1000x4, a⟩, ⟨S24x4, b⟩] concatenates_S1000x4_S24x4_S1024x4_d0) : (⟨S1000x4, .f32⟩ : BufTy).Contents (Elt F) → (⟨S24x4, .f32⟩ : BufTy).Contents (Elt F) → (⟨S1024x4, .f32⟩ : BufTy).Contents (Elt F)),
    StableHlo.nullary main_cst_21 (constant S_ .f32 0x00000000#32),
    StableHlo.unary main_cst_21 main_v107 (broadcastInDim S24 ![] bcast_S_S24 : (⟨S_, .f32⟩ : BufTy).Contents (Elt F) → (⟨S24, .f32⟩ : BufTy).Contents (Elt F)),
    StableHlo.binary main_values main_v107 main_v108 ((fun a b => concatenate S1024 0 [⟨S1000, a⟩, ⟨S24, b⟩] concatenates_S1000_S24_S1024_d0) : (⟨S1000, .f32⟩ : BufTy).Contents (Elt F) → (⟨S24, .f32⟩ : BufTy).Contents (Elt F) → (⟨S1024, .f32⟩ : BufTy).Contents (Elt F)),
    StableHlo.unary main_v106 main_v109 ((transpose S4x1024 [1, 0] · transposes_S1024x4_S4x1024_1_0) : (⟨S1024x4, .f32⟩ : BufTy).Contents (Elt F) → (⟨S4x1024, .f32⟩ : BufTy).Contents (Elt F)) ]
theorem opsB3_sub : (opsB3 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.nary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub ..⟩
theorem opsB3_fresh : (opsB3 : List (HloOp τ sig (Elt F))).Forall fun op => op.fresh = ∅ :=
  StableHlo.forall_fresh_of_map rfl
/-- What each writes, in order. -/
abbrev opsB3_W : List (Ref sig .tc) := [main_v98, main_v99, main_v100, main_v101, main_v102, main_v103, main_cst_18, main_cst_19, main_call2_v0, main_call2_v1, main_call2_v2, main_call2_v3, main_call2_v4, main_v104, main_cst_20, main_v105, main_v106, main_cst_21, main_v107, main_v108, main_v109]
theorem opsB3_writes : (opsB3 : List (HloOp τ sig (Elt F))).Forall fun op => op.writes ⊆ (opsB3_W.map (Proc.devRef (τ := τ) .tc)).toFinset :=
  StableHlo.forall_writes_sub_of_map rfl

/-- The host operations between the overlap kernel and the SparseCore call. -/
abbrev opsC : List (HloOp τ sig (Elt F)) :=
  [ StableHlo.reshape main_v110 main_v111 (rfl : (.i32 : EltTy) = .i32) shapeCasts_S1024x32_S32768,
    StableHlo.reshape main_v109 main_v112 (rfl : (.f32 : EltTy) = .f32) shapeCasts_S4x1024_S4096 ]
theorem opsC_sub : (opsC : List (HloOp τ sig (Elt F))).Forall fun op => op.bufs ⊆ StableHlo.tcRefs τ sig :=
  ⟨StableHlo.reshape_bufs_sub .., StableHlo.reshape_bufs_sub ..⟩
theorem opsC_fresh : (opsC : List (HloOp τ sig (Elt F))).Forall fun op => op.fresh = ∅ :=
  StableHlo.forall_fresh_of_map rfl
/-- What each writes, in order. -/
abbrev opsC_W : List (Ref sig .tc) := [main_v111, main_v112]
theorem opsC_writes : (opsC : List (HloOp τ sig (Elt F))).Forall fun op => op.writes ⊆ (opsC_W.map (Proc.devRef (τ := τ) .tc)).toFinset :=
  StableHlo.forall_writes_sub_of_map rfl

/-- The host operations after the SparseCore call. -/
abbrev opsD : List (HloOp τ sig (Elt F)) :=
  [ StableHlo.reshape main_v113_0 main_v114 (rfl : (.f32 : EltTy) = .f32) shapeCasts_S4000_S1000x4 ]
theorem opsD_sub : (opsD : List (HloOp τ sig (Elt F))).Forall fun op => op.bufs ⊆ StableHlo.tcRefs τ sig :=
  StableHlo.reshape_bufs_sub ..
theorem opsD_fresh : (opsD : List (HloOp τ sig (Elt F))).Forall fun op => op.fresh = ∅ :=
  StableHlo.forall_fresh_of_map rfl
/-- What each writes, in order. -/
abbrev opsD_W : List (Ref sig .tc) := [main_v114]
theorem opsD_writes : (opsD : List (HloOp τ sig (Elt F))).Forall fun op => op.writes ⊆ (opsD_W.map (Proc.devRef (τ := τ) .tc)).toFinset :=
  StableHlo.forall_writes_sub_of_map rfl

local notation "𝕃" => SparseCore.Sig (ΛP (F := F)) 1

theorem part0_eq (d : Dev nD) : main_part0 (F := F) d
    = (StableHlo.seq opsA >>= fun _ => Prog.lift (.customCall (SparseCore.inner (Pipeline.entry 0)) ()) >>= fun _ => StableHlo.seq opsB1 : Prog (TpuEff nD τ sig (Elt F) 𝕃 .tc) PUnit) := rfl
theorem part1_eq (d : Dev nD) : main_part1 (F := F) d = (StableHlo.seq opsB2 : Prog (TpuEff nD τ sig (Elt F) 𝕃 .tc) PUnit) := rfl
theorem part2_eq (d : Dev nD) : main_part2 (F := F) d
    = (StableHlo.seq opsB3 >>= fun _ => Prog.lift (.customCall (SparseCore.inner (Pipeline.entry 1)) ()) >>= fun _ => StableHlo.seq opsC
        >>= fun _ => sc.run d 0 >>= fun _ => StableHlo.seq opsD : Prog (TpuEff nD τ sig (Elt F) 𝕃 .tc) PUnit) := rfl

end Cert.Proof.Main

end
-- ==== Proof.Main.Run.lean ====
/-
  The whole program's run: from any memory, every weakly fair execution ends with every unscoped buffer of the TensorCore
  at one valuation, computed from the launch contents, and every semaphore at zero.
-/
module

public import proofs.«01_k».proof.Proof.Nms.Obl
public import proofs.«01_k».proof.Proof.Tc.Calls
public import proofs.«01_k».proof.Proof.Main.Host

@[expose] public section

noncomputable section

namespace Cert.Proof.Main

open Cert.KernelIdeal Cert.KernelIdeal.Gen
open Cert.Proof.Nms Cert.Proof.Tc
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents, stage by stage -/

/-- The device's buffer a reference of its TensorCore names. -/
abbrev at' (b : Ref sig .tc) : DevRef τ sig := Proc.devRef .tc b

def W0 (d : Dev nD) : Valuation τ sig (Elt F) := fun b => m (d, b)
def WA (d : Dev nD) : Valuation τ sig (Elt F) := after opsA (W0 m d)
def WB (d : Dev nD) : Valuation τ sig (Elt F) := afterConv (WA m d)
def WC (d : Dev nD) : Valuation τ sig (Elt F) := after opsB3 (after opsB2 (after opsB1 (WB m d)))
def WD (d : Dev nD) : Valuation τ sig (Elt F) := afterMask (WC m d)
def WE (d : Dev nD) : Valuation τ sig (Elt F) := after opsC (WD m d)
/-- The SparseCore call's operands. -/
def A (d : Dev nD) : Ops F := ⟨WE m d (at' main_v111), WE m d (at' main_v108), WE m d (at' main_v112)⟩
def WF (d : Dev nD) : Valuation τ sig (Elt F) :=
  Function.update (Function.update (WE m d) (at' main_v113_0) (outB (dead (A m d).w) (A m d).b : Vec F S4000 .f32))
    (at' main_v113_1) (outS (dead (A m d).w) (A m d).s : Vec F S1000 .f32)
def WG (d : Dev nD) : Valuation τ sig (Elt F) := after opsD (WF m d)

/-! ## The SparseCore call's buffers among the unscoped ones -/

theorem mem_uc (b : Ref sig .tc) (h : b.isScoped = false) : at' b ∈ ucRefs :=
  Finset.mem_filter.mpr ⟨Finset.mem_map.mpr ⟨b, Finset.mem_univ _, rfl⟩, fun h' => Bool.false_ne_true (h.symm.trans h')⟩

def scRefs : Finset (DevRef τ sig) := {at' main_v111, at' main_v108, at' main_v112, at' main_v113_0, at' main_v113_1}

theorem scRefs_sub : scRefs ⊆ ucRefs := by
  intro b hb
  simp only [scRefs, Finset.mem_insert, Finset.mem_singleton] at hb
  rcases hb with rfl | rfl | rfl | rfl | rfl <;> exact mem_uc _ (by decide)

theorem held_sc (d : Dev nD) (W : Valuation τ sig (Elt F)) :
    (held (T d) scRefs W : sProp 𝕄) = iprop((wordsLoc d ↦{fullShare} W (at' main_v111)) ∗ (scoresLoc d ↦{fullShare} W (at' main_v108))
      ∗ (boxesLoc d ↦{fullShare} W (at' main_v112)) ∗ (outBLoc d ↦{fullShare} W (at' main_v113_0)) ∗ (outSLoc d ↦{fullShare} W (at' main_v113_1))) := by
  unfold StableHlo.held scRefs
  rw [SparseCore.bigSep_insert' (by decide), SparseCore.bigSep_insert' (by decide), SparseCore.bigSep_insert' (by decide),
    SparseCore.bigSep_insert' (by decide), bigSep_singleton]

theorem WF_ne (d : Dev nD) (b : DevRef τ sig) (h0 : b ≠ at' main_v113_0) (h1 : b ≠ at' main_v113_1) : WF m d b = WE m d b := by
  unfold WF; rw [Function.update_of_ne h1, Function.update_of_ne h0]
theorem WF_boxes (d : Dev nD) : WF m d (at' main_v113_0) = (outB (dead (A m d).w) (A m d).b : Vec F S4000 .f32) := by
  unfold WF; rw [Function.update_of_ne (StableHlo.devRef_ne_of_ne (by decide))]; exact Function.update_self ..
theorem WF_scores (d : Dev nD) : WF m d (at' main_v113_1) = (outS (dead (A m d).w) (A m d).s : Vec F S1000 .f32) := by
  unfold WF; exact Function.update_self ..

theorem sub_uc {ops : List (HloOp τ sig (Elt F))} (h : ops.Forall fun op => op.bufs ⊆ StableHlo.tcRefs τ sig) : ∀ op ∈ ops, op.bufs ⊆ ucRefs :=
  fun op hop b hb => Finset.mem_filter.mpr ⟨(List.forall_iff_forall_mem.mp h) op hop hb, fun h' => Bool.false_ne_true ((op.no_scoped b hb).symm.trans h')⟩

/-! ## The launch's resources -/

abbrev G (d : Dev nD) : sProp 𝕄 := iprop(seeds 0 d ∗ seeds 1 d)

def u₀ : UU := (initOf (K (F := F)).hsCells (K (F := F)).hsToks,
  (initOf (Pipeline.cells (nD := nD) (Pipeline.pin (pcfgs (F := F)) adm) cellOf_inj) (Pipeline.launchToks (Pipeline.pin (pcfgs (F := F)) adm) cellOf_inj), 1))

set_option backward.isDefEq.respectTransparency.types false in
theorem fund : (BI.own (EP (initOf (Pipeline.cells (nD := nD) (Pipeline.pin (pcfgs (F := F)) adm) cellOf_inj) (Pipeline.launchToks (Pipeline.pin (pcfgs (F := F)) adm) cellOf_inj))) : sProp 𝕄)
    ⊢ iprop(|==> ((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c))) :=
  Pipeline.fund_ghost (Pipeline.pin (pcfgs (F := F)) adm) EP cellOf_inj

theorem seeds_of : iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c))
    ⊢ (bigSep Finset.univ fun d : Dev nD => (G d : sProp 𝕄)) := by
  rw [bigSep_univ_of_subsingleton (0 : Dev nD), bigSep_univ_of_subsingleton (0 : Dev nD), bigSep_univ_of_subsingleton (0 : Dev nD),
    show (Finset.univ : Finset (Fin 2)) = {0, 1} from rfl, SparseCore.bigSep_insert' (by decide), bigSep_singleton,
    SparseCore.bigSep_insert' (by decide), bigSep_singleton]
  iintro ⟨⟨Hc0, Hc1⟩, Ht0, Ht1⟩
  isplitl [Hc0 Ht0]
  · isplitl [Hc0]; · iexact Hc0
    iexact Ht0
  · isplitl [Hc1]; · iexact Hc1
    iexact Ht1

theorem split_EP (x : UP) (y : Counters) : (BI.own ((embR : Emb (UP × Counters) 𝕄) (x, y)) : sProp 𝕄) ⊢ BI.own ((EP : Emb UP 𝕄) x) := by
  unfold EP
  exact (own_pair_emb (embR : Emb (UP × Counters) 𝕄) x y).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (A m)).x q thr) := by
  unfold u₀
  iintro Hu
  ihave H := (ownU_pair _ _) $$ Hu
  icases H with ⟨HH, HR⟩
  ihave HP := (split_EP _ _) $$ HR
  imod (fund (F := F)) $$ HP with ⟨Hc, Ht⟩
  imodintro
  isplitl [HH]; · iexact HH
  isplitl [Hc Ht]
  · iapply (seeds_of (F := F)) $$ [Hc Ht]
    isplitl [Hc] <;> iassumption
  rw [show (bigSep Finset.univ fun thr : Thread nD τ => bigSep Finset.univ fun q : Fin 1 => (P (A m)).x q thr) = bigSep Finset.univ fun _ => iprop(emp) from
    bigSep_congr fun _ _ => bigSep_univ_of_subsingleton (0 : Fin 1), bigSep_emp']
  iempintro

/-! ## @main on the TensorCore -/

theorem st0_eq (d : Dev nD) : (bigSep Finset.univ fun c : Fin ((K (F := F)).nCore 0) => (P (A m)).st 0 d c) = takes (A m) d :=
  bigSep_first 2 (by decide) (takes (A m) d)
theorem dn0_eq (d : Dev nD) : (bigSep Finset.univ fun c : Fin ((K (F := F)).nCore 0) => (P (A m)).dn 0 d c) = backs (A m) d :=
  bigSep_first 2 (by decide) (backs (A m) d)

abbrev FIN (d : Dev nD) : sProp 𝕄 := held (T d) ucRefs (WG m d)

theorem main_eq (d : Dev nD) : main (F := F) d = (main_part0 d >>= fun _ => main_part1 d >>= fun _ => main_part2 d) := rfl

variable [∀ e, Nonempty (Elt F e)]

/-- The SparseCore call from every unscoped buffer. -/
theorem nms_call (κ : GSem nD τ sig → ℕ) (d : Dev nD) (Q : PUnit → sProp 𝕄) :
    iprop((((K (F := F)).tcSt EH d 1 ∗ held (T d) ucRefs (WF m d)) -∗ Q ⟨⟩)
        ∗ (K (F := F)).ctx EH (P (A m)) κ ∗ (K (F := F)).tcSt EH d 0 ∗ held (T d) ucRefs (WE m d))
      ⊢ wp frame (wpE ((K (F := F)).defs (D (F := F))) 𝒱 (T d) none) Set.univ (sc.run d 0) Q := by
  rw [StableHlo.held_sub_split _ scRefs_sub, StableHlo.held_sub_split _ scRefs_sub, held_sc, held_sc,
    StableHlo.held_congr (V := WF m d) (V' := WE m d) (T d) (S := ucRefs \ scRefs) (fun b hb => WF_ne m d b
      (fun e => (Finset.mem_sdiff.mp hb).2 (by subst e; simp [scRefs])) (fun e => (Finset.mem_sdiff.mp hb).2 (by subst e; simp [scRefs]))),
    WF_boxes, WF_scores, WF_ne m d (at' main_v111) (StableHlo.devRef_ne_of_ne (by decide)) (StableHlo.devRef_ne_of_ne (by decide)),
    WF_ne m d (at' main_v108) (StableHlo.devRef_ne_of_ne (by decide)) (StableHlo.devRef_ne_of_ne (by decide)),
    WF_ne m d (at' main_v112) (StableHlo.devRef_ne_of_ne (by decide)) (StableHlo.devRef_ne_of_ne (by decide))]
  iintro ⟨Hk, #Hctx, Hst, ⟨Hw, Hs, Hb, HoB, HoS⟩, Hrest⟩
  iapply ((K (F := F)).wp_run (D (F := F)) 𝒱 (EH := EH) (P := P (A m)) κ d 0) $$ [Hk Hst Hw Hs Hb HoB HoS Hrest]
  isplitr; · iexact Hctx
  isplitl [Hst]; · iexact Hst
  isplitl [Hw Hs Hb HoB HoS]
  · rw [st0_eq]
    isplitl [Hw]; · iexact Hw
    isplitl [Hs]; · iexact Hs
    isplitl [Hb]; · iexact Hb
    isplitl [HoB]
    · iexists _; iexact HoB
    · iexists _; iexact HoS
  iintro ⟨Hst, Hdn⟩
  ihave Hdn' := (Entails.of_eq (dn0_eq m d)) $$ Hdn
  icases Hdn' with ⟨Hw, Hs, Hb, HoB, HoS⟩
  iapply Hk
  isplitl [Hst]; · iexact Hst
  isplitr [Hrest]
  · isplitl [Hw]; · iexact Hw
    isplitl [Hs]; · iexact Hs
    isplitl [Hb]; · iexact Hb
    isplitl [HoB]; · iexact HoB
    iexact HoS
  iexact Hrest

/-- A stretch of host operations over every unscoped buffer. -/
theorem run_ops (d : Dev nD) (ops : List (HloOp τ sig (Elt F))) (hs : ops.Forall fun op => op.bufs ⊆ StableHlo.tcRefs τ sig)
    (hf : ops.Forall fun op => op.fresh = ∅) (W : Valuation τ sig (Elt F))
    (k : PUnit → Prog (TpuEff nD τ sig (Elt F) (SparseCore.Sig (ΛP (F := F)) 1) .tc) PUnit) (Q : PUnit → sProp 𝕄) :
    iprop(boundary (T d) ∗ held (T d) ucRefs W ∗ ((boundary (T d) ∗ held (T d) ucRefs (after ops W)) -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  iintro ⟨Hb, Hv, Hk⟩
  iapply (StableHlo.wp_seq 𝒱 none Set.univ d ucRefs k ops (sub_uc hs) (List.forall_iff_forall_mem.mp hf) W) $$ [Hb Hv]
  · isplitl [Hb] <;> iassumption
  iexact Hk

theorem run_ops_last (d : Dev nD) (ops : List (HloOp τ sig (Elt F))) (hs : ops.Forall fun op => op.bufs ⊆ StableHlo.tcRefs τ sig)
    (hf : ops.Forall fun op => op.fresh = ∅) (W : Valuation τ sig (Elt F)) (Q : PUnit → sProp 𝕄) :
    iprop(boundary (SparseCore.T d) ∗ held (SparseCore.T d) ucRefs W ∗ ((boundary (SparseCore.T d) ∗ held (SparseCore.T d) ucRefs (after ops W)) -∗ Q ⟨⟩))
      ⊢ wp frame (wpE ((K (F := F)).defs (D (F := F))) 𝒱 (SparseCore.T d) none) Set.univ (StableHlo.seq ops) Q := by
  have h := run_ops d ops hs hf W (fun _ => .ret ⟨⟩) Q
  rw [show ((StableHlo.seq ops >>= fun _ => .ret ⟨⟩) : Prog (TpuEff nD τ sig (Elt F) (SparseCore.Sig (ΛP (F := F)) 1) .tc) PUnit) = StableHlo.seq ops from bind_pure _] at h
  refine BI.Entails.trans (show iprop(boundary (SparseCore.T d) ∗ held (SparseCore.T d) ucRefs W ∗ ((boundary (SparseCore.T d) ∗ held (SparseCore.T d) ucRefs (after ops W)) -∗ Q ⟨⟩)) ⊢ (_ : sProp 𝕄) from ?_) h
  simp only [wp_ret]
  iintro ⟨Hb, Hv, Hk⟩
  isplitl [Hb]; · iexact Hb
  isplitl [Hv]; · iexact Hv
  iintro H
  imodintro
  iapply Hk; iexact H

theorem wp_bind_of (d : Dev nD) (p : Prog (TpuEff nD τ sig (Elt F) (SparseCore.Sig (ΛP (F := F)) 1) .tc) PUnit)
    (k : PUnit → Prog (TpuEff nD τ sig (Elt F) (SparseCore.Sig (ΛP (F := F)) 1) .tc) PUnit) (Q : PUnit → sProp 𝕄) :
    wp frame (wpE ((K (F := F)).defs (D (F := F))) 𝒱 (SparseCore.T d) none) Set.univ p
        (fun x => wp frame (wpE ((K (F := F)).defs (D (F := F))) 𝒱 (SparseCore.T d) none) Set.univ (k x) Q)
      ⊢ wp frame (wpE ((K (F := F)).defs (D (F := F))) 𝒱 (SparseCore.T d) none) Set.univ (p >>= k) Q :=
  Entails.of_eq (wp_bind ..).symm

/-- The TensorCore's handshake state before the call: its debts, and the rest. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_split (d : Dev nD) : (K (F := F)).tcSt EH d 0 ⊢ (iprop(OW d ∗ tcRest d) : sProp 𝕄) := by
  unfold SparseCore.Cfg.tcSt; exact BI.Entails.refl _
theorem tcSt_join (d : Dev nD) : (iprop(OW d ∗ tcRest d) : sProp 𝕄) ⊢ (K (F := F)).tcSt EH d 0 := by
  unfold SparseCore.Cfg.tcSt; exact BI.Entails.refl _

theorem launch_bufs (d : Dev nD) : (unscopedBufs d (fun b => m ((SparseCore.T d : Thread nD τ).loc b)) : sProp 𝕄) = held (T d) ucRefs (W0 m d) := by
  have h : (fun b : Ref sig .tc => m ((SparseCore.T d : Thread nD τ).loc b)) = fun b : Ref sig .tc => W0 m d (at' b) := by
    funext b; unfold W0; rfl
  rw [h]
  exact unscopedBufs_held d (W0 m d)

/-- @main on device `d`'s TensorCore. -/
theorem hmain (κ : GSem nD τ sig → ℕ) (d : Dev nD) :
    iprop((K (F := F)).ctx EH (P (A m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_bufs m d,
    main_eq, part0_eq, part1_eq, part2_eq]
  simp only [bind_assoc]
  iintro ⟨#Hctx, Hst, ⟨Hb, Hv, Hts, -⟩, Hg0, Hg1⟩
  ihave #Hlev := (SparseCore.Cfg.ctx_levAts κ) $$ Hctx
  iapply (run_ops d opsA opsA_sub opsA_fresh (W0 m d)) $$ [Hst Hb Hv Hts Hg0 Hg1]
  isplitl [Hb]; · iexact Hb
  isplitl [Hv]; · iexact Hv
  iintro ⟨Hb, Hv⟩
  iapply (wp_bind_of (F := F) d _ _ _) $$ [Hst Hb Hv Hts Hg0 Hg1]
  ihave Hst' := (tcSt_split (F := F) d) $$ Hst
  icases Hst' with ⟨HO, Hst⟩
  iapply (conv_call (WA m d) d) $$ [HO Hst Hb Hv Hts Hg0 Hg1]
  isplitl [Hst Hts Hg1]
  · iintro ⟨Hb, Hv, HO⟩
    iapply (run_ops d opsB1 opsB1_sub opsB1_fresh (WB m d)) $$ [HO Hst Hb Hv Hts Hg1]
    isplitl [Hb]; · iexact Hb
    isplitl [Hv]; · iexact Hv
    iintro ⟨Hb, Hv⟩
    iapply (run_ops d opsB2 opsB2_sub opsB2_fresh (after opsB1 (WB m d))) $$ [HO Hst Hb Hv Hts Hg1]
    isplitl [Hb]; · iexact Hb
    isplitl [Hv]; · iexact Hv
    iintro ⟨Hb, Hv⟩
    iapply (run_ops d opsB3 opsB3_sub opsB3_fresh (after opsB2 (after opsB1 (WB m d)))) $$ [HO Hst Hb Hv Hts Hg1]
    isplitl [Hb]; · iexact Hb
    isplitl [Hv]; · iexact Hv
    iintro ⟨Hb, Hv⟩
    iapply (wp_bind_of (F := F) d _ _ _) $$ [HO Hst Hb Hv Hts Hg1]
    iapply (mask_call (WC m d) d) $$ [HO Hst Hb Hv Hts Hg1]
    isplitl [Hst Hts]
    · iintro ⟨Hb, Hv, HO⟩
      iapply (run_ops d opsC opsC_sub opsC_fresh (WD m d)) $$ [HO Hst Hb Hv Hts]
      isplitl [Hb]; · iexact Hb
      isplitl [Hv]; · iexact Hv
      iintro ⟨Hb, Hv⟩
      iapply (wp_bind_of (F := F) d _ _ _) $$ [HO Hst Hb Hv Hts]
      iapply (nms_call m κ d) $$ [HO Hst Hb Hv Hts]
      isplitl [Hb Hts]
      · iintro ⟨Hst, Hv⟩
        iapply (run_ops_last d opsD opsD_sub opsD_fresh (WF m d)) $$ [Hst Hb Hv Hts]
        isplitl [Hb]; · iexact Hb
        isplitl [Hv]; · iexact Hv
        iintro ⟨Hb, Hv⟩
        isplitl [Hst]; · iexact Hst
        isplitl [Hv]; · iexact Hv
        isplitl [Hb]; · iexact Hb
        iexact Hts
      isplitr; · iexact Hctx
      isplitl [HO Hst]
      · iapply (tcSt_join (F := F) d) $$ [HO Hst]
        isplitl [HO]; · iexact HO
        iexact Hst
      iexact Hv
    isplitl [Hb]; · iexact Hb
    isplitl [Hv]; · iexact Hv
    isplitl [HO]; · iexact HO
    isplitr; · iexact Hlev
    iexact Hg1
  isplitl [Hb]; · iexact Hb
  isplitl [Hv]; · iexact Hv
  isplitl [HO]; · iexact HO
  isplitr; · iexact Hlev
  iexact Hg0

/-! ## The run -/

def fq (d : Dev nD) (s' : Phys nD τ sig (Elt F)) : Prop := ∀ b : Ref sig .tc, b.isScoped = false → s'.mem.mem ((d.tc : Thread nD τ).loc b) = WG m d (at' b)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact fun b hb => h _ (mem_uc b hb)

/-- Every weakly fair execution ends with every unscoped buffer at `WG` and every semaphore at zero. -/
theorem run_main : θ_run (Cert.KernelIdeal.defs (F := F)) (Cert.KernelIdeal.threads (F := F)) ⟨m, fun _ => 0, ρ⟩
    (fun r => (∀ (c : Dev nD) (b : Ref sig .tc), b.isScoped = false → r.2.mem ((c.tc : Thread nD τ).loc b) = WG m c (at' b)) ∧ r.2.sem = fun _ => 0) :=
  SparseCore.Cfg.θ_run_sc_quiescent (K := K (F := F)) (D := D (F := F)) (𝒱 := 𝒱) (EH := EH) (P := P (A m)) (A := ∅) facts v₀
    (fun q hq => match q with | 0 => nomatch hq)
    (fun q _ => match q with | 0 => tileObl (A m) facts)
    (fun q _ => match q with | 0 => SparseCore.Cfg.VecSplit.of_plain (vecSplit (A m)))
    m ρ main (fun d => G d) (FIN m) (u₀ (F := F)) (sep_elim_left.trans (hu₀ m)) (hmain m ρ) (fq m) (hfin m) _ (fun _ h hz => ⟨h, hz⟩)

end Cert.Proof.Main

end
-- ==== Proof.Main.Same.lean ====
/-
  The kernel printed for its bits and the kernel printed for the ideal reading have one text: their body tables and their
  threads are equal, one body at a time.
-/
module

public import proofs.«01_k».proof.Proof.Gen.Kernel
public import proofs.«01_k».proof.Proof.Gen.KernelIdeal

@[expose] public section

set_option maxRecDepth 8192

noncomputable section

namespace Cert.Proof.Main

open Idealize.ShloMosaic Idealize.ShloMosaic.TcCoe
open Idealize.SL Idealize.SL.Sem

variable {F : FTy → Type} [FloatOps F]

theorem conv_same : @Cert.Kernel.cc0__conv_head_body F _ Cert.Kernel.Gen.facts = @Cert.KernelIdeal.cc0__conv_head_body F _ Cert.KernelIdeal.Gen.facts := rfl
theorem mask_same : @Cert.Kernel.cc1__iou_mask_body F _ Cert.Kernel.Gen.facts = @Cert.KernelIdeal.cc1__iou_mask_body F _ Cert.KernelIdeal.Gen.facts := rfl
theorem nms_same : @Cert.Kernel.cc2__nms_sc_body F _ Cert.Kernel.Gen.facts = @Cert.KernelIdeal.cc2__nms_sc_body F _ Cert.KernelIdeal.Gen.facts := rfl

set_option maxHeartbeats 1600000 in
theorem bodies_same : @Cert.Kernel.defs₀ F _ Cert.Kernel.Gen.facts = @Cert.KernelIdeal.defs₀ F _ Cert.KernelIdeal.Gen.facts := by
  funext p ℓ a
  match p, ℓ, a with
  | .tc, 0, (t, s) => rfl
  | .tc, 1, (t, s) => rfl
  | .tc, 2, _ => rfl
  | .scScalar c, ⟨0, _⟩, _ => rfl
  | .scScalar c, ⟨1, _⟩, _ => rfl
  | .scScalar c, ⟨2, _⟩, _ => rfl
  | .scVector c s, ⟨0, _⟩, _ => rfl
  | .scVector c s, ⟨1, _⟩, _ => rfl
  | .scVector c s, ⟨2, _⟩, _ => rfl

set_option maxHeartbeats 1600000 in
theorem main_same : @Cert.Kernel.main F _ Cert.Kernel.Gen.facts = @Cert.KernelIdeal.main F _ Cert.KernelIdeal.Gen.facts := rfl

set_option maxHeartbeats 1600000 in
theorem defs_same : @Cert.Kernel.defs F _ Cert.Kernel.Gen.facts = @Cert.KernelIdeal.defs F _ Cert.KernelIdeal.Gen.facts :=
  congrArg (fun D => Cert.KernelIdeal.sc.defs (Pipeline.defs Cert.KernelIdeal.pcfgs D)) (bodies_same (F := F))

set_option maxHeartbeats 1600000 in
theorem threads_same : @Cert.Kernel.threads F _ Cert.Kernel.Gen.facts = @Cert.KernelIdeal.threads F _ Cert.KernelIdeal.Gen.facts :=
  congrArg (fun M => Cert.KernelIdeal.sc.threads M) (main_same (F := F))

end Cert.Proof.Main

end
-- ==== Proof.Main.Frames.lean ====
/-
  The frames: both programs and the reference run, leave their arguments as they were and every semaphore at zero.
-/
module

public import proofs.«01_k».proof.Proof.Main.Run
public import proofs.«01_k».proof.Proof.Main.Same
public import proofs.«01_k».proof.Defs
public import proofs.«01_k».proof.Proof.Gen.ReferenceIdeal
public import proofs.«01_k».proof.Proof.Gen.ReferenceIdeal.Run
public import proofs.«01_k».proof.Proof.Gen.Pre_finite
public import Idealize.ShloMosaic.Lib.Quiescent

@[expose] public section

set_option maxRecDepth 8192

noncomputable section

namespace Cert.Proof.Main

open Idealize.ShloMosaic Idealize.ShloMosaic.TcCoe Idealize.ShloMosaic.Tactic
open Idealize.SL Idealize.SL.Sem
open Idealize.ShloMosaic.StableHlo (after after_of_writes_sub)

variable {F : FTy → Type} [FloatOps F]

/-! ## The kernel -/

section Kernel

open Cert.KernelIdeal Cert.KernelIdeal.Gen
open Cert.Proof.Tc

variable (m : (ℓ : Loc nD τ sig) → Buf (Elt F) ℓ) (ρ : Dev nD → PrngReg)

/-- A buffer no host operation and no kernel writes ends as it began. -/
theorem WG_keep (c : Dev nD) (b : Ref sig .tc)
    (h : b ∉ opsA_W ++ opsB1_W ++ opsB2_W ++ opsB3_W ++ opsC_W ++ opsD_W ++ [main_v24, main_v110, main_v113_0, main_v113_1]) :
    WG m c (at' b) = m ((c.tc : Thread nD τ).loc b) := by
  simp only [List.mem_append, List.mem_cons, List.not_mem_nil, or_false, not_or] at h
  obtain ⟨⟨⟨⟨⟨⟨hA, hB1⟩, hB2⟩, hB3⟩, hC⟩, hD⟩, h24, h110, h0, h1⟩ := h
  unfold WG
  rw [after_of_writes_sub opsD _ opsD_writes (by simp only [List.mem_cons, List.not_mem_nil, or_false]; exact hD),
    WF_ne m c _ (StableHlo.devRef_ne_of_ne h0) (StableHlo.devRef_ne_of_ne h1)]
  unfold WE
  rw [after_of_writes_sub opsC _ opsC_writes (by simp only [List.mem_cons, List.not_mem_nil, or_false, not_or]; exact hC)]
  unfold WD
  rw [afterMask_ne _ _ h110]
  unfold WC
  rw [after_of_writes_sub opsB3 _ opsB3_writes (by simp only [List.mem_cons, List.not_mem_nil, or_false, not_or]; exact hB3),
    after_of_writes_sub opsB2 _ opsB2_writes (by simp only [List.mem_cons, List.not_mem_nil, or_false, not_or]; exact hB2),
    after_of_writes_sub opsB1 _ opsB1_writes (by simp only [List.mem_cons, List.not_mem_nil, or_false, not_or]; exact hB1)]
  unfold WB
  rw [afterConv_ne _ _ h24]
  unfold WA
  rw [after_of_writes_sub opsA _ opsA_writes (by simp only [List.mem_cons, List.not_mem_nil, or_false, not_or]; exact hA)]
  rfl

/-- The arguments and the four results at the end, every semaphore at zero. -/
theorem run_args [∀ e, Nonempty (Elt F e)] : θ_run (Cert.KernelIdeal.defs (F := F)) (Cert.KernelIdeal.threads (F := F)) ⟨m, fun _ => 0, ρ⟩
    (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v27) = WG m c (at' main_v27)
      ∧ r.2.mem ((c.tc : Thread nD τ).loc main_v30) = WG m c (at' main_v30)
      ∧ r.2.mem ((c.tc : Thread nD τ).loc main_v114) = WG m c (at' main_v114)
      ∧ r.2.mem ((c.tc : Thread nD τ).loc main_v113_1) = WG m c (at' main_v113_1))
      ∧ r.2.sem = fun _ => 0) :=
  (θ_run _ _ _).mono (fun _ h => ⟨fun c =>
    ⟨⟨(h.1 c main_arg0 (by decide)).trans (WG_keep m c _ (by decide)), (h.1 c main_arg1 (by decide)).trans (WG_keep m c _ (by decide)),
      (h.1 c main_arg2 (by decide)).trans (WG_keep m c _ (by decide)), (h.1 c main_arg3 (by decide)).trans (WG_keep m c _ (by decide)),
      (h.1 c main_arg4 (by decide)).trans (WG_keep m c _ (by decide)), (h.1 c main_arg5 (by decide)).trans (WG_keep m c _ (by decide)),
      (h.1 c main_arg6 (by decide)).trans (WG_keep m c _ (by decide)), (h.1 c main_arg7 (by decide)).trans (WG_keep m c _ (by decide))⟩,
      h.1 c main_v27 (by decide), h.1 c main_v30 (by decide), h.1 c main_v114 (by decide), h.1 c main_v113_1 (by decide)⟩, h.2⟩)
    (run_main m ρ)

/-- The arguments only. -/
theorem run_frame [∀ e, Nonempty (Elt F e)] : θ_run (Cert.KernelIdeal.defs (F := F)) (Cert.KernelIdeal.threads (F := F)) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run _ _ _).mono (fun _ h => ⟨fun c => (h.1 c).1, h.2⟩) (run_args m ρ)

end Kernel

theorem frame_kernelIdeal : Cert.quiescent_KernelIdeal := fun m ρ _ =>
  (θ_run Cert.KernelIdeal.defs _ _).mono (fun _ h => ⟨fun c => (h.1 c).1, h.2⟩) (run_args (F := Ideal) m ρ)
theorem frame_kernelIdeal_finite : Cert.quiescent_KernelIdeal_pre_finite := fun m ρ _ =>
  (θ_run Cert.KernelIdeal.defs _ _).mono (fun _ h => ⟨fun c => (h.1 c).1, h.2⟩) (run_args (F := Ideal) m ρ)
theorem frame_kernel : Cert.quiescent_Kernel := by
  intro m ρ _
  have h := run_frame (F := Bits) m ρ
  rw [← defs_same (F := Bits), ← threads_same (F := Bits)] at h
  exact h

/-! ## The reference -/

section Reference

open Cert.ReferenceIdeal Cert.ReferenceIdeal.Gen Cert.ReferenceIdeal.Value
open Idealize.ShloMosaic.StableHlo (finalContents entryContents afterL_cons afterL_nil atTrip atTrip_succ launchContents)

variable (m : (ℓ : Loc nD τ sig) → Buf (Elt F) ℓ) (ρ : Dev nD → PrngReg)

abbrev preW : List (Ref sig .tc) := hostOps0_W ++ hostOps0_1_W ++ hostOps0_2_W ++ hostOps0_3_W ++ hostOps0_4_W ++ hostOps0_5_W ++ hostOps0_6_W ++ hostOps0_7_W
  ++ hostOps0_8_W ++ hostOps0_9_W ++ hostOps0_10_W ++ hostOps0_11_W ++ hostOps0_12_W

theorem entry_keep (c : Dev nD) (b : Ref sig .tc) (h : b ∉ preW) : entryContents preI m c (Proc.devRef .tc b) = m ((c.tc : Thread nD τ).loc b) := by
  simp only [preW, List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  unfold StableHlo.entryContents
  simp only [preI, afterL_cons, afterL_nil]
  rw [after_of_writes_sub _ _ hostOps0_12_writes h12, after_of_writes_sub _ _ hostOps0_11_writes h11, after_of_writes_sub _ _ hostOps0_10_writes h10,
    after_of_writes_sub _ _ hostOps0_9_writes h9, after_of_writes_sub _ _ hostOps0_8_writes h8, after_of_writes_sub _ _ hostOps0_7_writes h7,
    after_of_writes_sub _ _ hostOps0_6_writes h6, after_of_writes_sub _ _ hostOps0_5_writes h5, after_of_writes_sub _ _ hostOps0_4_writes h4,
    after_of_writes_sub _ _ hostOps0_3_writes h3, after_of_writes_sub _ _ hostOps0_2_writes h2, after_of_writes_sub _ _ hostOps0_1_writes h1,
    after_of_writes_sub _ _ hostOps0_writes h0]

/-- A buffer the loop does not write holds through it what it held at its entry. -/
theorem trip_keep (W : Dev nD → Valuation τ sig (Elt F)) (n : ℕ) (c : Dev nD) (b : Ref sig .tc) (h : b ∉ condOps_W ++ while0Ops0_W) :
    atTrip condOps bodyI W n c (Proc.devRef .tc b) = W c (Proc.devRef .tc b) := by
  have hh := h
  simp only [List.mem_append, not_or] at hh
  induction n with
  | zero => rfl
  | succ n ih =>
    rw [atTrip_succ]
    simp only [bodyI, afterL_cons, afterL_nil]
    rw [after_of_writes_sub _ _ while0Ops0_writes hh.2, after_of_writes_sub _ _ condOps_writes hh.1, ih]

/-- What each list of operations after the loop writes. -/
abbrev post0W : List (Ref sig .tc) := [main_cst_19]
abbrev post1W : List (Ref sig .tc) := [main_call6_v0, main_call6_v1, main_v199]
abbrev post2W : List (Ref sig .tc) := [main_values_20, main_indices_21, main_c_22, main_v200, main_v201, main_c_23, main_v202, main_v203, main_v204, main_v205, main_v206]
theorem post0_writes : (hostOps0_13 : List (HloOp τ sig (Elt F))).Forall fun op => op.writes ⊆ (post0W.map (Proc.devRef (τ := τ) .tc)).toFinset :=
  StableHlo.forall_writes_sub_of_map rfl
theorem post1_writes : (hostOps0_14 : List (HloOp τ sig (Elt F))).Forall fun op => op.writes ⊆ (post1W.map (Proc.devRef (τ := τ) .tc)).toFinset :=
  StableHlo.forall_writes_sub_of_map rfl
theorem post2_writes : (hostOps0_15 : List (HloOp τ sig (Elt F))).Forall fun op => op.writes ⊆ (post2W.map (Proc.devRef (τ := τ) .tc)).toFinset :=
  StableHlo.forall_writes_sub_of_map rfl
abbrev postW : List (Ref sig .tc) := post0W ++ post1W ++ post2W

/-- A buffer nothing writes from the loop on ends holding what it held at the loop's entry. -/
theorem final_entry (c : Dev nD) (b : Ref sig .tc) (h : b ∉ postW ++ (condOps_W ++ while0Ops0_W)) :
    finalContents condOps preI bodyI postI 1000 m c (Proc.devRef .tc b) = entryContents preI m c (Proc.devRef .tc b) := by
  obtain ⟨hp, hl⟩ : b ∉ postW ∧ b ∉ condOps_W ++ while0Ops0_W := ⟨fun e => h (List.mem_append_left _ e), fun e => h (List.mem_append_right _ e)⟩
  have hc : b ∉ condOps_W := fun e => hl (List.mem_append_left _ e)
  simp only [postW, List.mem_append, not_or] at hp
  obtain ⟨⟨h13, h14⟩, h15⟩ := hp
  unfold StableHlo.finalContents
  simp only [postI, afterL_cons, afterL_nil]
  rw [after_of_writes_sub _ _ post2_writes h15, after_of_writes_sub _ _ post1_writes h14, after_of_writes_sub _ _ post0_writes h13,
    after_of_writes_sub _ _ condOps_writes hc, trip_keep _ _ _ _ hl]
  rfl

theorem final_keep (c : Dev nD) (b : Ref sig .tc) (h : b ∉ postW ++ (condOps_W ++ while0Ops0_W)) (h' : b ∉ preW) :
    finalContents condOps preI bodyI postI 1000 m c (Proc.devRef .tc b) = m ((c.tc : Thread nD τ).loc b) :=
  (final_entry m c b h).trans (entry_keep m c b h')

/-- The reference's arguments and its four results at the end. -/
theorem ref_args : θ_run (Cert.ReferenceIdeal.defs (F := F)) (onTc (τ := Cert.ReferenceIdeal.τ) (Cert.ReferenceIdeal.main (F := F))) ⟨m, fun _ => 0, ρ⟩
    (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v59) = finalContents condOps preI bodyI postI 1000 m c (Proc.devRef .tc main_v59)
      ∧ r.2.mem ((c.tc : Thread nD τ).loc main_v66) = finalContents condOps preI bodyI postI 1000 m c (Proc.devRef .tc main_v66)
      ∧ r.2.mem ((c.tc : Thread nD τ).loc main_v206) = finalContents condOps preI bodyI postI 1000 m c (Proc.devRef .tc main_v206)
      ∧ r.2.mem ((c.tc : Thread nD τ).loc main_values_20) = finalContents condOps preI bodyI postI 1000 m c (Proc.devRef .tc main_values_20)) :=
  (θ_run _ _ _).mono (fun _ h => fun c =>
    ⟨⟨(h c main_arg0 (by decide)).trans (final_keep m c _ (by decide) (by decide)), (h c main_arg1 (by decide)).trans (final_keep m c _ (by decide) (by decide)),
      (h c main_arg2 (by decide)).trans (final_keep m c _ (by decide) (by decide)), (h c main_arg3 (by decide)).trans (final_keep m c _ (by decide) (by decide)),
      (h c main_arg4 (by decide)).trans (final_keep m c _ (by decide) (by decide)), (h c main_arg5 (by decide)).trans (final_keep m c _ (by decide) (by decide)),
      (h c main_arg6 (by decide)).trans (final_keep m c _ (by decide) (by decide)), (h c main_arg7 (by decide)).trans (final_keep m c _ (by decide) (by decide))⟩,
      h c main_v59 (by decide), h c main_v66 (by decide), h c main_v206 (by decide), h c main_values_20 (by decide)⟩)
    (run_fold m ρ)

end Reference

theorem frame_reference : Cert.quiescent_ReferenceIdeal := fun m ρ _ =>
  (θ_run Cert.ReferenceIdeal.defs _ _).mono (fun r h => ⟨fun c => (h c).1, Idealize.ShloMosaic.sem_eq_zero_of_no_sems (by decide) r.2⟩) (ref_args (F := Ideal) m ρ)
theorem frame_reference_finite : Cert.quiescent_ReferenceIdeal_pre_finite := fun m ρ _ =>
  (θ_run Cert.ReferenceIdeal.defs _ _).mono (fun r h => ⟨fun c => (h c).1, Idealize.ShloMosaic.sem_eq_zero_of_no_sems (by decide) r.2⟩) (ref_args (F := Ideal) m ρ)

end Cert.Proof.Main

end
-- ==== Proof.Val.Heads.lean ====
/- What the host gives the convolution kernel, element by element: the map with positions as rows, the taps stacked, and
   the two heads side by side in sixteen columns. -/
module

public import proofs.«01_k».proof.Proof.Main.Run
public import Idealize.ShloMosaic.Lib.Pointwise
public import Idealize.ShloMosaic.Lib.StableHlo.ReadAt
public import Idealize.ShloMosaic.Lib.Routing.OpsSet

@[expose] public section

set_option maxRecDepth 8192

noncomputable section

namespace Cert.Proof.Val

open Cert.KernelIdeal Cert.KernelIdeal.Gen Idealize.ShloMosaic Idealize.ShloMosaic.TcCoe
open Cert.Proof.Main
open Idealize.ShloMosaic.StableHlo (after)
open Idealize.ShloMosaic.Routing

/-- 3 columns put into a block of sixteen from column 0 on. -/
theorem put3 {α : Type} (x : S256x16.Idx → α) (idx : IVec S1 32) (u : S256x3.Idx → α) (h : idx (ix1 0) = 0#32) (k : Fin 256) (a : Fin 16) :
    Host.scatter scatter_S256x16_S1_S256x3_01_n_1_0 (fun _ b => b) x idx u (ix2 k a)
      = if ha : a.val < 3 then u (ix2 k ⟨a.val, ha⟩) else x (ix2 k a) := by
  have st : ∀ j : S256x3.Idx, scatter_S256x16_S1_S256x3_01_n_1_0.resultIdx? j idx = some (ix2 k a) ↔ (j 0).val = k.val ∧ 0 + (j 1).val = a.val := by
    intro j
    rw [resultIdx?_eq_some, Fin.forall_fin_two]
    have e0 : scatter_S256x16_S1_S256x3_01_n_1_0.start j idx 0 = 0 := rfl
    have e1 : scatter_S256x16_S1_S256x3_01_n_1_0.start j idx 1 = 0 := (show _ = (idx (ix1 0)).toInt from by
      refine congrArg (fun i => (idx i).toInt) (funext fun b => ?_)
      obtain rfl := Subsingleton.elim b 0
      rfl).trans (by rw [h]; rfl)
    have w0 : scatter_S256x16_S1_S256x3_01_n_1_0.window j 0 = (j 0).val := rfl
    have w1 : scatter_S256x16_S1_S256x3_01_n_1_0.window j 1 = (j 1).val := rfl
    rw [e0, e1, w0, w1]
    constructor
    · rintro ⟨h0, h1⟩; exact ⟨by have h0 : (0:Int) + ((j 0).val : Int) = (k.val : Int) := h0; omega, by have h1 : (0:Int) + ((j 1).val : Int) = (a.val : Int) := h1; omega⟩
    · rintro ⟨h0, h1⟩; exact ⟨show (0:Int) + ((j 0).val : Int) = (k.val : Int) by omega, show (0:Int) + ((j 1).val : Int) = (a.val : Int) by omega⟩
  split_ifs with ha
  · refine scatter_set_hit _ x idx u _ _ (fun j hj => ?_) (ix2 k ⟨a.val, ha⟩) ((st _).2 ⟨rfl, show 0 + a.val = a.val by omega⟩)
    obtain ⟨h0, h1⟩ := (st j).1 hj
    rw [eq_ix2 j]
    exact congrArg u (congrArg₂ ix2 (Fin.ext h0) (Fin.ext (show (j 1).val = a.val by omega)))
  · refine scatter_set_miss _ x idx u _ (fun j hj => ha ?_)
    obtain ⟨h0, h1⟩ := (st j).1 hj
    have hj := (j 1).isLt
    have hj : (j 1).val < 3 := hj
    omega

/-- 12 columns put into a block of sixteen from column 3 on. -/
theorem put12 {α : Type} (x : S256x16.Idx → α) (idx : IVec S1 32) (u : S256x12.Idx → α) (h : idx (ix1 0) = 3#32) (k : Fin 256) (a : Fin 16) :
    Host.scatter scatter_S256x16_S1_S256x12_01_n_1_0 (fun _ b => b) x idx u (ix2 k a)
      = if ha : 3 ≤ a.val ∧ a.val < 15 then u (ix2 k ⟨a.val - 3, by omega⟩) else x (ix2 k a) := by
  have st : ∀ j : S256x12.Idx, scatter_S256x16_S1_S256x12_01_n_1_0.resultIdx? j idx = some (ix2 k a) ↔ (j 0).val = k.val ∧ 3 + (j 1).val = a.val := by
    intro j
    rw [resultIdx?_eq_some, Fin.forall_fin_two]
    have e0 : scatter_S256x16_S1_S256x12_01_n_1_0.start j idx 0 = 0 := rfl
    have e1 : scatter_S256x16_S1_S256x12_01_n_1_0.start j idx 1 = 3 := (show _ = (idx (ix1 0)).toInt from by
      refine congrArg (fun i => (idx i).toInt) (funext fun b => ?_)
      obtain rfl := Subsingleton.elim b 0
      rfl).trans (by rw [h]; rfl)
    have w0 : scatter_S256x16_S1_S256x12_01_n_1_0.window j 0 = (j 0).val := rfl
    have w1 : scatter_S256x16_S1_S256x12_01_n_1_0.window j 1 = (j 1).val := rfl
    rw [e0, e1, w0, w1]
    constructor
    · rintro ⟨h0, h1⟩; exact ⟨by have h0 : (0:Int) + ((j 0).val : Int) = (k.val : Int) := h0; omega, by have h1 : (3:Int) + ((j 1).val : Int) = (a.val : Int) := h1; omega⟩
    · rintro ⟨h0, h1⟩; exact ⟨show (0:Int) + ((j 0).val : Int) = (k.val : Int) by omega, show (3:Int) + ((j 1).val : Int) = (a.val : Int) by omega⟩
  split_ifs with ha
  · refine scatter_set_hit _ x idx u _ _ (fun j hj => ?_) (ix2 k ⟨a.val - 3, by omega⟩) ((st _).2 ⟨rfl, show 3 + (a.val - 3) = a.val by omega⟩)
    obtain ⟨h0, h1⟩ := (st j).1 hj
    rw [eq_ix2 j]
    exact congrArg u (congrArg₂ ix2 (Fin.ext h0) (Fin.ext (show (j 1).val = a.val - 3 by omega)))
  · refine scatter_set_miss _ x idx u _ (fun j hj => ha ?_)
    obtain ⟨h0, h1⟩ := (st j).1 hj
    have hj := (j 1).isLt
    have hj : (j 1).val < 12 := hj
    omega

/-- 3 entries put into a row of sixteen from column 0 on. -/
theorem putRow3 {α : Type} (x : S1x16.Idx → α) (idx : IVec S2 32) (u : S3.Idx → α) (h0 : idx (ix1 0) = 0#32) (h : idx (ix1 1) = 0#32) (a : Fin 16) :
    Host.scatter scatter_S1x16_S2_S3_0_0_01_0 (fun _ b => b) x idx u (ix2 0 a)
      = if ha : a.val < 3 then u (ix1 ⟨a.val, ha⟩) else x (ix2 0 a) := by
  have st : ∀ j : S3.Idx, scatter_S1x16_S2_S3_0_0_01_0.resultIdx? j idx = some (ix2 0 a) ↔ 0 + (j 0).val = a.val := by
    intro j
    rw [resultIdx?_eq_some, Fin.forall_fin_two]
    have e0 : scatter_S1x16_S2_S3_0_0_01_0.start j idx 0 = 0 := (show _ = (idx (ix1 0)).toInt from by
      refine congrArg (fun i => (idx i).toInt) (funext fun b => ?_)
      obtain rfl := Subsingleton.elim b 0
      rfl).trans (by rw [h0]; rfl)
    have e1 : scatter_S1x16_S2_S3_0_0_01_0.start j idx 1 = 0 := (show _ = (idx (ix1 1)).toInt from by
      refine congrArg (fun i => (idx i).toInt) (funext fun b => ?_)
      obtain rfl := Subsingleton.elim b 0
      rfl).trans (by rw [h]; rfl)
    have w0 : scatter_S1x16_S2_S3_0_0_01_0.window j 0 = 0 := rfl
    have w1 : scatter_S1x16_S2_S3_0_0_01_0.window j 1 = (j 0).val := rfl
    rw [e0, e1, w0, w1]
    constructor
    · rintro ⟨_, h1⟩; have h1 : (0:Int) + ((j 0).val : Int) = (a.val : Int) := h1; omega
    · intro h1; exact ⟨rfl, show (0:Int) + ((j 0).val : Int) = (a.val : Int) by omega⟩
  split_ifs with ha
  · refine scatter_set_hit _ x idx u _ _ (fun j hj => ?_) (ix1 ⟨a.val, ha⟩) ((st _).2 (show 0 + a.val = a.val by omega))
    have h1 := (st j).1 hj
    rw [eq_ix1 j]
    exact congrArg u (congrArg ix1 (Fin.ext (show (j 0).val = a.val by omega)))
  · refine scatter_set_miss _ x idx u _ (fun j hj => ha ?_)
    have h1 := (st j).1 hj
    have hj := (j 0).isLt
    have hj : (j 0).val < 3 := hj
    omega

/-- 12 entries put into a row of sixteen from column 3 on. -/
theorem putRow12 {α : Type} (x : S1x16.Idx → α) (idx : IVec S2 32) (u : S12.Idx → α) (h0 : idx (ix1 0) = 0#32) (h : idx (ix1 1) = 3#32) (a : Fin 16) :
    Host.scatter scatter_S1x16_S2_S12_0_0_01_0 (fun _ b => b) x idx u (ix2 0 a)
      = if ha : 3 ≤ a.val ∧ a.val < 15 then u (ix1 ⟨a.val - 3, by omega⟩) else x (ix2 0 a) := by
  have st : ∀ j : S12.Idx, scatter_S1x16_S2_S12_0_0_01_0.resultIdx? j idx = some (ix2 0 a) ↔ 3 + (j 0).val = a.val := by
    intro j
    rw [resultIdx?_eq_some, Fin.forall_fin_two]
    have e0 : scatter_S1x16_S2_S12_0_0_01_0.start j idx 0 = 0 := (show _ = (idx (ix1 0)).toInt from by
      refine congrArg (fun i => (idx i).toInt) (funext fun b => ?_)
      obtain rfl := Subsingleton.elim b 0
      rfl).trans (by rw [h0]; rfl)
    have e1 : scatter_S1x16_S2_S12_0_0_01_0.start j idx 1 = 3 := (show _ = (idx (ix1 1)).toInt from by
      refine congrArg (fun i => (idx i).toInt) (funext fun b => ?_)
      obtain rfl := Subsingleton.elim b 0
      rfl).trans (by rw [h]; rfl)
    have w0 : scatter_S1x16_S2_S12_0_0_01_0.window j 0 = 0 := rfl
    have w1 : scatter_S1x16_S2_S12_0_0_01_0.window j 1 = (j 0).val := rfl
    rw [e0, e1, w0, w1]
    constructor
    · rintro ⟨_, h1⟩; have h1 : (3:Int) + ((j 0).val : Int) = (a.val : Int) := h1; omega
    · intro h1; exact ⟨rfl, show (3:Int) + ((j 0).val : Int) = (a.val : Int) by omega⟩
  split_ifs with ha
  · refine scatter_set_hit _ x idx u _ _ (fun j hj => ?_) (ix1 ⟨a.val - 3, by omega⟩) ((st _).2 (show 3 + (a.val - 3) = a.val by omega))
    have h1 := (st j).1 hj
    rw [eq_ix1 j]
    exact congrArg u (congrArg ix1 (Fin.ext (show (j 0).val = a.val - 3 by omega)))
  · refine scatter_set_miss _ x idx u _ (fun j hj => ha ?_)
    have h1 := (st j).1 hj
    have hj := (j 0).isLt
    have hj : (j 0).val < 12 := hj
    omega

section
variable (V : Valuation τ sig (Elt Ideal))

theorem in_map (p : Fin 4096) (c : Fin 256) : (after opsA V (Proc.devRef .tc main_v2) : Vec Ideal S4096x256 .f32) (ix2 p c)
    = (V (Proc.devRef .tc main_arg0) : Vec Ideal S1x256x64x64 .f32) (ix4 0 c ⟨p.val / 64, by omega⟩ ⟨p.val % 64, by omega⟩) := by
  after_reads_at

theorem in_taps (t : Fin 9) (c o : Fin 256) : (after opsA V (Proc.devRef .tc main_v4) : Vec Ideal S2304x256 .f32) (ix2 ⟨256 * t.val + c.val, by omega⟩ o)
    = (V (Proc.devRef .tc main_arg2) : Vec Ideal S256x256x3x3 .f32) (ix4 o c ⟨t.val / 3, by omega⟩ ⟨t.val % 3, by omega⟩) := by
  after_reads_at
  have e1 : (256 * t.val + c.val) / 768 = t.val / 3 := by omega
  have e2 : (256 * t.val + c.val) / 256 % 3 = t.val % 3 := by omega
  simp only [e1, e2]

theorem in_bias (o : Fin 256) : (after opsA V (Proc.devRef .tc main_v23) : Vec Ideal S1x256 .f32) (ix2 0 o)
    = (V (Proc.devRef .tc main_arg3) : Vec Ideal S256 .f32) (ix1 o) := by
  after_reads_at

theorem in_heads (k : Fin 256) (a : Fin 16) : (after opsA V (Proc.devRef .tc main_v13) : Vec Ideal S256x16 .f32) (ix2 k a)
    = if ha : 3 ≤ a.val ∧ a.val < 15 then (V (Proc.devRef .tc main_arg6) : Vec Ideal S12x256x1x1 .f32) (ix4 ⟨a.val - 3, by omega⟩ k 0 0)
      else if ha : a.val < 3 then (V (Proc.devRef .tc main_arg4) : Vec Ideal S3x256x1x1 .f32) (ix4 ⟨a.val, by omega⟩ k 0 0) else (0 : EReal) := by
  after_reads_simp
  rw [put12 _ _ _ rfl, put3 _ _ _ rfl]
  clean_types
  pointwise

theorem in_head_bias (a : Fin 16) : (after opsA V (Proc.devRef .tc main_v22) : Vec Ideal S1x16 .f32) (ix2 0 a)
    = if ha : 3 ≤ a.val ∧ a.val < 15 then (V (Proc.devRef .tc main_arg7) : Vec Ideal S12 .f32) (ix1 ⟨a.val - 3, by omega⟩)
      else if ha : a.val < 3 then (V (Proc.devRef .tc main_arg5) : Vec Ideal S3 .f32) (ix1 ⟨a.val, by omega⟩) else (0 : EReal) := by
  after_reads_simp
  rw [putRow12 _ _ _ (by after_reads_at) (by after_reads_at), putRow3 _ _ _ (by after_reads_at) (by after_reads_at)]
  clean_types
  pointwise

/-! ### The heads' results out of the kernel's sixteen columns -/

theorem out_logits (a : Fin 3) (y x : Fin 64) : (after opsB1 V (Proc.devRef .tc main_v27) : Vec Ideal S1x3x64x64 .f32) (ix4 0 a y x)
    = (V (Proc.devRef .tc main_v24) : Vec Ideal S4096x16 .f32) (ix2 ⟨64 * y.val + x.val, by omega⟩ ⟨a.val, by omega⟩) := by
  after_reads_at
  exact congrArg _ (congrArg₂ ix2 (Fin.ext (show y.val * 64 + x.val = 64 * y.val + x.val by omega)) rfl)

theorem out_deltas (a : Fin 12) (y x : Fin 64) : (after opsB1 V (Proc.devRef .tc main_v30) : Vec Ideal S1x12x64x64 .f32) (ix4 0 a y x)
    = (V (Proc.devRef .tc main_v24) : Vec Ideal S4096x16 .f32) (ix2 ⟨64 * y.val + x.val, by omega⟩ ⟨3 + a.val, by omega⟩) := by
  after_reads_at
  exact congrArg _ (congrArg₂ ix2 (Fin.ext (show y.val * 64 + x.val = 64 * y.val + x.val by omega)) rfl)

theorem out_scores (i : Fin 12288) : (after opsB1 V (Proc.devRef .tc main_v32) : Vec Ideal S12288 .f32) (ix1 i)
    = (V (Proc.devRef .tc main_v24) : Vec Ideal S4096x16 .f32) (ix2 ⟨i.val / 3, by omega⟩ ⟨i.val % 3, by omega⟩) := by
  after_reads_at

theorem out_rows (i : Fin 12288) (k : Fin 4) : (after opsB1 V (Proc.devRef .tc main_v34) : Vec Ideal S12288x4 .f32) (ix2 i k)
    = (V (Proc.devRef .tc main_v24) : Vec Ideal S4096x16 .f32) (ix2 ⟨i.val / 3, by omega⟩ ⟨3 + 4 * (i.val % 3) + k.val, by omega⟩) := by
  after_reads_at
  exact congrArg _ (congrArg₂ ix2 rfl (Fin.ext (show 3 + (i.val % 3 * 4 + k.val) = 3 + 4 * (i.val % 3) + k.val by omega)))

end

end Cert.Proof.Val
-- ==== Proof.Val.Conv.lean ====
/- The convolution kernel's result, element by element, over the extended reals. -/
module

public import proofs.«01_k».proof.Proof.Tc.Bodies
public import Idealize.ShloMosaic.Lib.Pointwise

@[expose] public section

set_option maxRecDepth 8192

noncomputable section

namespace Cert.Proof.Val

open Cert.KernelIdeal Cert.KernelIdeal.Gen Idealize.ShloMosaic
open Cert.Proof.Tc

/-- The product of the rows of a block of the flattened map with one tap's weights. -/
theorem tap_apply (x : FVec Ideal S4096x256 .f32) (w : FVec Ideal S256x256 .f32)
    (acc : FVec Ideal S4096x256 .f32) (p : Fin 4096) (o : Fin 256) :
    matmul dot_S4096x256_S256x256_S4096x256_1_0_0_1_n_n none x w acc (ix2 p o)
      = acc (ix2 p o) + ∑ c : Fin 256, x (ix2 p c) * w (ix2 c o) := by
  pointwise [dot_S4096x256_S256x256_S4096x256_1_0_0_1_n_n]

/-- The product of the hidden map with the weights of the heads. -/
theorem head_apply (x : FVec Ideal S4096x256 .f32) (w : FVec Ideal S256x16 .f32)
    (acc : FVec Ideal S4096x16 .f32) (p : Fin 4096) (o : Fin 16) :
    matmul dot_S4096x256_S256x16_S4096x16_1_0_0_1_n_n none x w acc (ix2 p o)
      = acc (ix2 p o) + ∑ c : Fin 256, x (ix2 p c) * w (ix2 c o) := by
  pointwise [dot_S4096x256_S256x16_S4096x16_1_0_0_1_n_n]

/-- The column of a position of the flattened map. -/
theorem col_word (p : Fin 4096) : k0_pay3 (ix2 p 0) = BitVec.ofNat 32 (p.val % 64) := by
  revert p
  pointwise [k0_pay3]
  decide +kernel

theorem left_mask (p : Fin 4096) : k0_pay5 (ix2 p 0) = if p.val % 64 = 0 then 0#1 else 1#1 := by
  pointwise [k0_pay5, col_word]
  revert p
  decide +kernel

theorem right_mask (p : Fin 4096) : k0_pay4 (ix2 p 0) = if p.val % 64 = 63 then 0#1 else 1#1 := by
  pointwise [k0_pay4, col_word]
  revert p
  decide +kernel

/-- The map at row `Y - 1` and column `X - 1`, and zero round it. -/
def padAt (f : Fin 4096 → Fin 256 → EReal) (Y X : ℕ) (c : Fin 256) : EReal :=
  if h : 1 ≤ Y ∧ Y ≤ 64 ∧ 1 ≤ X ∧ X ≤ 64 then f ⟨64 * (Y - 1) + (X - 1), by omega⟩ c else 0

/-- Reading the nine shifted maps: where a row is cut off, or the column is at the border, zero is read. -/
theorem shift_ul (x : Vec Ideal S4096x256 .f32) (p : Fin 4096) (c : Fin 256) (w : EReal) :
    Scalar.select (if p.val % 64 = 0 then 0#1 else 1#1) ((if h : p.val < 65 then (0 : EReal) else x (ix2 ⟨p.val - 65, by omega⟩ c)) * w) 0
      = padAt (fun p c => x (ix2 p c)) (p.val / 64 + 0) (p.val % 64 + 0) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

theorem shift_uc (x : Vec Ideal S4096x256 .f32) (p : Fin 4096) (c : Fin 256) (w : EReal) :
    (if h : p.val < 64 then (0 : EReal) else x (ix2 ⟨p.val - 64, by omega⟩ c)) * w
      = padAt (fun p c => x (ix2 p c)) (p.val / 64 + 0) (p.val % 64 + 1) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

theorem shift_ur (x : Vec Ideal S4096x256 .f32) (p : Fin 4096) (c : Fin 256) (w : EReal) :
    Scalar.select (if p.val % 64 = 63 then 0#1 else 1#1) ((if h : p.val < 63 then (0 : EReal) else x (ix2 ⟨p.val - 63, by omega⟩ c)) * w) 0
      = padAt (fun p c => x (ix2 p c)) (p.val / 64 + 0) (p.val % 64 + 2) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

theorem shift_ml (x : Vec Ideal S4096x256 .f32) (p : Fin 4096) (c : Fin 256) (w : EReal) :
    Scalar.select (if p.val % 64 = 0 then 0#1 else 1#1) ((if h : p.val < 1 then (0 : EReal) else x (ix2 ⟨p.val - 1, by omega⟩ c)) * w) 0
      = padAt (fun p c => x (ix2 p c)) (p.val / 64 + 1) (p.val % 64 + 0) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

theorem shift_mc (x : Vec Ideal S4096x256 .f32) (p : Fin 4096) (c : Fin 256) (w : EReal) :
    x (ix2 p c) * w
      = padAt (fun p c => x (ix2 p c)) (p.val / 64 + 1) (p.val % 64 + 1) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

theorem shift_mr (x : Vec Ideal S4096x256 .f32) (p : Fin 4096) (c : Fin 256) (w : EReal) :
    Scalar.select (if p.val % 64 = 63 then 0#1 else 1#1) ((if h : p.val < 4095 then x (ix2 ⟨1 + p.val, by omega⟩ c) else (0 : EReal)) * w) 0
      = padAt (fun p c => x (ix2 p c)) (p.val / 64 + 1) (p.val % 64 + 2) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

theorem shift_dl (x : Vec Ideal S4096x256 .f32) (p : Fin 4096) (c : Fin 256) (w : EReal) :
    Scalar.select (if p.val % 64 = 0 then 0#1 else 1#1) ((if h : p.val < 4033 then x (ix2 ⟨63 + p.val, by omega⟩ c) else (0 : EReal)) * w) 0
      = padAt (fun p c => x (ix2 p c)) (p.val / 64 + 2) (p.val % 64 + 0) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

theorem shift_dc (x : Vec Ideal S4096x256 .f32) (p : Fin 4096) (c : Fin 256) (w : EReal) :
    (if h : p.val < 4032 then x (ix2 ⟨64 + p.val, by omega⟩ c) else (0 : EReal)) * w
      = padAt (fun p c => x (ix2 p c)) (p.val / 64 + 2) (p.val % 64 + 1) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

theorem shift_dr (x : Vec Ideal S4096x256 .f32) (p : Fin 4096) (c : Fin 256) (w : EReal) :
    Scalar.select (if p.val % 64 = 63 then 0#1 else 1#1) ((if h : p.val < 4031 then x (ix2 ⟨65 + p.val, by omega⟩ c) else (0 : EReal)) * w) 0
      = padAt (fun p c => x (ix2 p c)) (p.val / 64 + 2) (p.val % 64 + 2) c * w := by
  have hp := p.isLt
  simp only [padAt, Scalar.select]
  split_ifs <;> first
    | rfl
    | (exfalso; omega)
    | (exfalso; simp_all; done)
    | (exfalso; simp_all; omega)
    | (rw [zero_mul])
    | (rw [show (_ : Fin 4096) = _ from Fin.ext (by simp only []; omega)])
    | (congr 4; omega)
    | (congr 4; apply Fin.ext; simp only []; omega)

/-- One tap of the convolution at row `y`, column `x` and output channel `o`. -/
def tapSum (f : Fin 4096 → Fin 256 → EReal) (g : Fin 256 → Fin 256 → EReal) (Y X : ℕ) (o : Fin 256) : EReal :=
  ∑ c : Fin 256, padAt f Y X c * g c o

/-- The hidden map: the nine taps summed, the bias added, the negative part cut. -/
def hidden (f : Fin 4096 → Fin 256 → EReal) (g : Fin 9 → Fin 256 → Fin 256 → EReal) (b : Fin 256 → EReal) (y x : ℕ) (o : Fin 256) : EReal :=
  max (tapSum f (g 0) y x o + tapSum f (g 1) y (x + 1) o + tapSum f (g 2) y (x + 2) o
    + tapSum f (g 3) (y + 1) x o + tapSum f (g 4) (y + 1) (x + 1) o + tapSum f (g 5) (y + 1) (x + 2) o
    + tapSum f (g 6) (y + 2) x o + tapSum f (g 7) (y + 2) (x + 1) o + tapSum f (g 8) (y + 2) (x + 2) o + b o) 0

/-- The convolution kernel's result at a position and an output channel of the heads. -/
theorem conv_apply (x : Vec Ideal S4096x256 .f32) (w : Vec Ideal S2304x256 .f32) (b : Vec Ideal S1x256 .f32)
    (hw : Vec Ideal S256x16 .f32) (hb : Vec Ideal S1x16 .f32) (p : Fin 4096) (a : Fin 16) :
    conv x w b hw hb (ix2 p a)
      = ∑ k : Fin 256, hidden (fun p c => x (ix2 p c)) (fun t c o => w (ix2 ⟨256 * t.val + c.val, by omega⟩ o))
          (fun o => b (ix2 0 o)) (p.val / 64) (p.val % 64) k * hw (ix2 k a) + hb (ix2 0 a) := by
  unfold conv k0_pay1 k0_pay6 k0_pay7 k0_pay8 k0_pay9 k0_pay10 k0_pay11 k0_pay12 k0_pay13
  pointwise [k0_pay2, tap_apply, head_apply, left_mask, right_mask, tap]
  exact congrArg₂ (· + ·) (Finset.sum_congr rfl fun k _ => congrArg₂ (· * ·) (congrArg₂ max (congrArg₂ (· + ·)
    (congrArg₂ (· + ·)
    (congrArg₂ (· + ·)
    (congrArg₂ (· + ·)
    (congrArg₂ (· + ·)
    (congrArg₂ (· + ·)
    (congrArg₂ (· + ·)
    (congrArg₂ (· + ·)
    (congrArg₂ (· + ·)
    (Finset.sum_congr rfl fun c _ => (shift_ul x p c _).trans
      (congrArg (_ * ·) (congrArg w (congrArg (ix2 · k) (Fin.ext (by simp)))))) (Finset.sum_congr rfl fun c _ => shift_uc x p c _)) (Finset.sum_congr rfl fun c _ => shift_ur x p c _)) (Finset.sum_congr rfl fun c _ => shift_ml x p c _)) (Finset.sum_congr rfl fun c _ => shift_mc x p c _)) (Finset.sum_congr rfl fun c _ => shift_mr x p c _)) (Finset.sum_congr rfl fun c _ => shift_dl x p c _)) (Finset.sum_congr rfl fun c _ => shift_dc x p c _)) (Finset.sum_congr rfl fun c _ => shift_dr x p c _)) rfl) rfl) rfl) rfl

end Cert.Proof.Val
-- ==== Proof.Val.RefHeads.lean ====
/- The reference's convolution and heads, element by element. -/
module

public import proofs.«01_k».proof.Proof.Val.Conv
public import proofs.«01_k».proof.Proof.Gen.ReferenceIdeal.Run
public import Idealize.ShloMosaic.Lib.Pointwise
public import Idealize.ShloMosaic.Lib.StableHlo.ReadAt

@[expose] public section

set_option maxRecDepth 8192

noncomputable section

namespace Cert.Proof.Val

open Cert.ReferenceIdeal Cert.ReferenceIdeal.Gen Idealize.ShloMosaic Idealize.ShloMosaic.TcCoe
open Idealize.ShloMosaic.StableHlo (after)

variable (V : Valuation τ sig (Elt Ideal))

theorem same_at (c : Fin 256) (a b a' b' : Fin 64) (ha : a.val = a'.val) (hb : b.val = b'.val) :
    (ix4 0 c a b : S1x256x64x64.Idx) = ix4 0 c a' b' := by rw [Fin.ext ha, Fin.ext hb]

theorem zero_word : (FloatOps.sitofp FTy.f32 0#32 : Ideal .f32) = (0 : EReal) := by
  show ((((0#32 : BitVec 32).toInt : ℝ)) : EReal) = 0
  simp

theorem ref_hidden (o : Fin 256) (y x : Fin 64) :
    (after hostOps0_3 (after hostOps0_2 (after hostOps0_1 (after hostOps0 V))) (Proc.devRef .tc main_v52) : Vec Ideal S1x256x64x64 .f32) (ix4 0 o y x)
    = hidden (fun p c => (V (Proc.devRef .tc main_arg0) : Vec Ideal S1x256x64x64 .f32) (ix4 0 c ⟨p.val / 64, by omega⟩ ⟨p.val % 64, by omega⟩))
        (fun t c o => (V (Proc.devRef .tc main_arg2) : Vec Ideal S256x256x3x3 .f32) (ix4 o c ⟨t.val / 3, by omega⟩ ⟨t.val % 3, by omega⟩))
        (fun o => (V (Proc.devRef .tc main_arg3) : Vec Ideal S256 .f32) (ix1 o)) y.val x.val o := by
  after_reads_at
  refine congrArg₂ max (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (Finset.sum_congr rfl fun c _ => ?_) (Finset.sum_congr rfl fun c _ => ?_)) (Finset.sum_congr rfl fun c _ => ?_)) (Finset.sum_congr rfl fun c _ => ?_)) (Finset.sum_congr rfl fun c _ => ?_)) (Finset.sum_congr rfl fun c _ => ?_)) (Finset.sum_congr rfl fun c _ => ?_)) (Finset.sum_congr rfl fun c _ => ?_)) (Finset.sum_congr rfl fun c _ => ?_)) rfl) rfl <;>
  · refine (mul_comm _ _).trans (congrArg₂ (· * ·) ?_ rfl)
    have hy := y.isLt
    have hx := x.isLt
    simp only [padAt, zero_word]
    split_ifs <;> first
      | rfl
      | (exfalso; omega)
      | (refine congrArg _ (same_at _ _ _ _ _ ?_ ?_) <;> simp only [] <;> omega)

/-- A head at a position: the hidden map's channels weighted, and the head's bias. -/
def headAt (h w : Fin 256 → EReal) (b : EReal) : EReal := ∑ k : Fin 256, h k * w k + b

/-- The reference's three score maps. -/
theorem ref_logits (a : Fin 3) (y x : Fin 64) : (after hostOps0_4 V (Proc.devRef .tc main_v59) : Vec Ideal S1x3x64x64 .f32) (ix4 0 a y x)
    = headAt (fun k => (V (Proc.devRef .tc main_v52) : Vec Ideal S1x256x64x64 .f32) (ix4 0 k y x))
        (fun k => (V (Proc.devRef .tc main_arg4) : Vec Ideal S3x256x1x1 .f32) (ix4 a k 0 0))
        ((V (Proc.devRef .tc main_arg5) : Vec Ideal S3 .f32) (ix1 a)) := by
  after_reads_at
  exact congrArg₂ (· + ·) (Finset.sum_congr rfl fun k _ => mul_comm _ _) rfl

/-- The reference's twelve box maps. -/
theorem ref_deltas (a : Fin 12) (y x : Fin 64) : (after hostOps0_4 V (Proc.devRef .tc main_v66) : Vec Ideal S1x12x64x64 .f32) (ix4 0 a y x)
    = headAt (fun k => (V (Proc.devRef .tc main_v52) : Vec Ideal S1x256x64x64 .f32) (ix4 0 k y x))
        (fun k => (V (Proc.devRef .tc main_arg6) : Vec Ideal S12x256x1x1 .f32) (ix4 a k 0 0))
        ((V (Proc.devRef .tc main_arg7) : Vec Ideal S12 .f32) (ix1 a)) := by
  after_reads_at
  exact congrArg₂ (· + ·) (Finset.sum_congr rfl fun k _ => mul_comm _ _) rfl

/-- The scores in the order of the anchors. -/
theorem ref_scores (i : Fin 12288) : (after hostOps0_4 V (Proc.devRef .tc main_v69) : Vec Ideal S12288 .f32) (ix1 i)
    = (after hostOps0_4 V (Proc.devRef .tc main_v59) : Vec Ideal S1x3x64x64 .f32)
        (ix4 0 ⟨i.val % 3, by omega⟩ ⟨i.val / 3 / 64, by omega⟩ ⟨i.val / 3 % 64, by omega⟩) := by
  after_reads_at
  have e : i.val / 192 = i.val / 3 / 64 := by omega
  simp only [e]

/-- The box maps in the order of the anchors. -/
theorem ref_rows (i : Fin 12288) (k : Fin 4) : (after hostOps0_4 V (Proc.devRef .tc main_v73) : Vec Ideal S12288x4 .f32) (ix2 i k)
    = (after hostOps0_4 V (Proc.devRef .tc main_v66) : Vec Ideal S1x12x64x64 .f32)
        (ix4 0 ⟨4 * (i.val % 3) + k.val, by omega⟩ ⟨i.val / 3 / 64, by omega⟩ ⟨i.val / 3 % 64, by omega⟩) := by
  after_reads_at
  have e : i.val / 192 = i.val / 3 / 64 := by omega
  have e' : i.val % 3 * 4 + k.val = 4 * (i.val % 3) + k.val := by omega
  simp only [e, e']

end Cert.Proof.Val
-- ==== Proof.Val.Boxes.lean ====
/- The kernel's program and the reference take the best thousand anchors and decode their boxes by the same operations. -/
module

public import proofs.«01_k».proof.Proof.Main.Run
public import proofs.«01_k».proof.Proof.Gen.ReferenceIdeal.Run
public import Idealize.ShloMosaic.Lib.Pointwise
public import Idealize.ShloMosaic.Lib.StableHlo.ReadAt

@[expose] public section

set_option maxRecDepth 8192

noncomputable section

namespace Cert.Proof.Val

open Idealize.ShloMosaic Idealize.ShloMosaic.TcCoe
open Cert.Proof.Main
open Cert.ReferenceIdeal.Gen (hostOps0_4 hostOps0_5 hostOps0_6 hostOps0_7 hostOps0_8 hostOps0_9)
open Idealize.ShloMosaic.StableHlo (after)

variable (V : Valuation Cert.KernelIdeal.τ Cert.KernelIdeal.sig (Elt Ideal)) (V' : Valuation Cert.ReferenceIdeal.τ Cert.ReferenceIdeal.sig (Elt Ideal))

/-- The buffers after the kernel program's second host stretch. -/
abbrev kB : Valuation Cert.KernelIdeal.τ Cert.KernelIdeal.sig (Elt Ideal) := after opsB3 (after opsB2 (after opsB1 V))
/-- The reference's buffers once its boxes are decoded. -/
abbrev rB : Valuation Cert.ReferenceIdeal.τ Cert.ReferenceIdeal.sig (Elt Ideal) :=
  after hostOps0_9 (after hostOps0_8 (after hostOps0_7 (after hostOps0_6 (after hostOps0_5 (after hostOps0_4 V')))))

theorem same_values :
    (after opsB1 V (Proc.devRef .tc Cert.KernelIdeal.main_v32) : FVec Ideal Cert.KernelIdeal.S12288 .f32) = after hostOps0_4 V' (Proc.devRef .tc Cert.ReferenceIdeal.main_v69) →
    (kB V (Proc.devRef .tc Cert.KernelIdeal.main_values) : FVec Ideal Cert.KernelIdeal.S1000 .f32)
      = rB V' (Proc.devRef .tc Cert.ReferenceIdeal.main_values) := by
  after_reads_simp
  intro h
  rw [h]

theorem same_col0 :
    (V (Proc.devRef .tc Cert.KernelIdeal.main_arg1) : FVec Ideal Cert.KernelIdeal.S12288x4 .f32) = V' (Proc.devRef .tc Cert.ReferenceIdeal.main_arg1) →
    (after opsB1 V (Proc.devRef .tc Cert.KernelIdeal.main_v32) : FVec Ideal Cert.KernelIdeal.S12288 .f32) = after hostOps0_4 V' (Proc.devRef .tc Cert.ReferenceIdeal.main_v69) →
    (after opsB1 V (Proc.devRef .tc Cert.KernelIdeal.main_v34) : FVec Ideal Cert.KernelIdeal.S12288x4 .f32) = after hostOps0_4 V' (Proc.devRef .tc Cert.ReferenceIdeal.main_v73) →
    (kB V (Proc.devRef .tc Cert.KernelIdeal.main_v89) : FVec Ideal Cert.KernelIdeal.S1000 .f32)
      = rB V' (Proc.devRef .tc Cert.ReferenceIdeal.main_v128) := by
  after_reads_simp
  intro ha hs hr
  rw [ha, hs, hr]
  rfl

theorem same_col1 :
    (V (Proc.devRef .tc Cert.KernelIdeal.main_arg1) : FVec Ideal Cert.KernelIdeal.S12288x4 .f32) = V' (Proc.devRef .tc Cert.ReferenceIdeal.main_arg1) →
    (after opsB1 V (Proc.devRef .tc Cert.KernelIdeal.main_v32) : FVec Ideal Cert.KernelIdeal.S12288 .f32) = after hostOps0_4 V' (Proc.devRef .tc Cert.ReferenceIdeal.main_v69) →
    (after opsB1 V (Proc.devRef .tc Cert.KernelIdeal.main_v34) : FVec Ideal Cert.KernelIdeal.S12288x4 .f32) = after hostOps0_4 V' (Proc.devRef .tc Cert.ReferenceIdeal.main_v73) →
    (kB V (Proc.devRef .tc Cert.KernelIdeal.main_v92) : FVec Ideal Cert.KernelIdeal.S1000 .f32)
      = rB V' (Proc.devRef .tc Cert.ReferenceIdeal.main_v131) := by
  after_reads_simp
  intro ha hs hr
  rw [ha, hs, hr]
  rfl

theorem same_col2 :
    (V (Proc.devRef .tc Cert.KernelIdeal.main_arg1) : FVec Ideal Cert.KernelIdeal.S12288x4 .f32) = V' (Proc.devRef .tc Cert.ReferenceIdeal.main_arg1) →
    (after opsB1 V (Proc.devRef .tc Cert.KernelIdeal.main_v32) : FVec Ideal Cert.KernelIdeal.S12288 .f32) = after hostOps0_4 V' (Proc.devRef .tc Cert.ReferenceIdeal.main_v69) →
    (after opsB1 V (Proc.devRef .tc Cert.KernelIdeal.main_v34) : FVec Ideal Cert.KernelIdeal.S12288x4 .f32) = after hostOps0_4 V' (Proc.devRef .tc Cert.ReferenceIdeal.main_v73) →
    (kB V (Proc.devRef .tc Cert.KernelIdeal.main_v95) : FVec Ideal Cert.KernelIdeal.S1000 .f32)
      = rB V' (Proc.devRef .tc Cert.ReferenceIdeal.main_v134) := by
  after_reads_simp
  intro ha hs hr
  rw [ha, hs, hr]
  rfl

theorem same_col3 :
    (V (Proc.devRef .tc Cert.KernelIdeal.main_arg1) : FVec Ideal Cert.KernelIdeal.S12288x4 .f32) = V' (Proc.devRef .tc Cert.ReferenceIdeal.main_arg1) →
    (after opsB1 V (Proc.devRef .tc Cert.KernelIdeal.main_v32) : FVec Ideal Cert.KernelIdeal.S12288 .f32) = after hostOps0_4 V' (Proc.devRef .tc Cert.ReferenceIdeal.main_v69) →
    (after opsB1 V (Proc.devRef .tc Cert.KernelIdeal.main_v34) : FVec Ideal Cert.KernelIdeal.S12288x4 .f32) = after hostOps0_4 V' (Proc.devRef .tc Cert.ReferenceIdeal.main_v73) →
    (kB V (Proc.devRef .tc Cert.KernelIdeal.main_v98) : FVec Ideal Cert.KernelIdeal.S1000 .f32)
      = rB V' (Proc.devRef .tc Cert.ReferenceIdeal.main_v137) := by
  after_reads_simp
  intro ha hs hr
  rw [ha, hs, hr]
  rfl

/-- A coordinate cut to the picture. -/
def clipAt (x : EReal) : EReal :=
  FloatOps.minimumf (F := Ideal) (φ := .f32) (FloatOps.ofBits .f32 0x44000000#32) (FloatOps.maximumf (F := Ideal) (φ := .f32) (FloatOps.ofBits .f32 0x00000000#32) x)

variable (W : Valuation Cert.KernelIdeal.τ Cert.KernelIdeal.sig (Elt Ideal)) (W' : Valuation Cert.ReferenceIdeal.τ Cert.ReferenceIdeal.sig (Elt Ideal))

theorem kcol0 (i : Fin 1000) : (after opsB3 W (Proc.devRef .tc Cert.KernelIdeal.main_v104) : FVec Ideal Cert.KernelIdeal.S1000x4 .f32) (ix2 i 0)
    = clipAt ((after opsB3 W (Proc.devRef .tc Cert.KernelIdeal.main_v89) : FVec Ideal Cert.KernelIdeal.S1000 .f32) (ix1 i)) := by
  after_reads_at
  after_reads_at
  rfl

theorem rcol0 (i : Fin 1000) : (after hostOps0_9 (after hostOps0_8 W') (Proc.devRef .tc Cert.ReferenceIdeal.main_v143) : FVec Ideal Cert.KernelIdeal.S1000x4 .f32) (ix2 i 0)
    = clipAt ((after hostOps0_9 (after hostOps0_8 W') (Proc.devRef .tc Cert.ReferenceIdeal.main_v128) : FVec Ideal Cert.KernelIdeal.S1000 .f32) (ix1 i)) := by
  after_reads_at
  after_reads_at
  rfl

theorem kcol1 (i : Fin 1000) : (after opsB3 W (Proc.devRef .tc Cert.KernelIdeal.main_v104) : FVec Ideal Cert.KernelIdeal.S1000x4 .f32) (ix2 i 1)
    = clipAt ((after opsB3 W (Proc.devRef .tc Cert.KernelIdeal.main_v92) : FVec Ideal Cert.KernelIdeal.S1000 .f32) (ix1 i)) := by
  after_reads_at
  after_reads_at
  rfl

theorem rcol1 (i : Fin 1000) : (after hostOps0_9 (after hostOps0_8 W') (Proc.devRef .tc Cert.ReferenceIdeal.main_v143) : FVec Ideal Cert.KernelIdeal.S1000x4 .f32) (ix2 i 1)
    = clipAt ((after hostOps0_9 (after hostOps0_8 W') (Proc.devRef .tc Cert.ReferenceIdeal.main_v131) : FVec Ideal Cert.KernelIdeal.S1000 .f32) (ix1 i)) := by
  after_reads_at
  after_reads_at
  rfl

theorem kcol2 (i : Fin 1000) : (after opsB3 W (Proc.devRef .tc Cert.KernelIdeal.main_v104) : FVec Ideal Cert.KernelIdeal.S1000x4 .f32) (ix2 i 2)
    = clipAt ((after opsB3 W (Proc.devRef .tc Cert.KernelIdeal.main_v95) : FVec Ideal Cert.KernelIdeal.S1000 .f32) (ix1 i)) := by
  after_reads_at
  after_reads_at
  rfl

theorem rcol2 (i : Fin 1000) : (after hostOps0_9 (after hostOps0_8 W') (Proc.devRef .tc Cert.ReferenceIdeal.main_v143) : FVec Ideal Cert.KernelIdeal.S1000x4 .f32) (ix2 i 2)
    = clipAt ((after hostOps0_9 (after hostOps0_8 W') (Proc.devRef .tc Cert.ReferenceIdeal.main_v134) : FVec Ideal Cert.KernelIdeal.S1000 .f32) (ix1 i)) := by
  after_reads_at
  after_reads_at
  rfl

theorem kcol3 (i : Fin 1000) : (after opsB3 W (Proc.devRef .tc Cert.KernelIdeal.main_v104) : FVec Ideal Cert.KernelIdeal.S1000x4 .f32) (ix2 i 3)
    = clipAt ((after opsB3 W (Proc.devRef .tc Cert.KernelIdeal.main_v98) : FVec Ideal Cert.KernelIdeal.S1000 .f32) (ix1 i)) := by
  after_reads_at
  after_reads_at
  rfl

theorem rcol3 (i : Fin 1000) : (after hostOps0_9 (after hostOps0_8 W') (Proc.devRef .tc Cert.ReferenceIdeal.main_v143) : FVec Ideal Cert.KernelIdeal.S1000x4 .f32) (ix2 i 3)
    = clipAt ((after hostOps0_9 (after hostOps0_8 W') (Proc.devRef .tc Cert.ReferenceIdeal.main_v137) : FVec Ideal Cert.KernelIdeal.S1000 .f32) (ix1 i)) := by
  after_reads_at
  after_reads_at
  rfl

theorem same_boxes
    (ha : (V (Proc.devRef .tc Cert.KernelIdeal.main_arg1) : FVec Ideal Cert.KernelIdeal.S12288x4 .f32) = V' (Proc.devRef .tc Cert.ReferenceIdeal.main_arg1))
    (hs : (after opsB1 V (Proc.devRef .tc Cert.KernelIdeal.main_v32) : FVec Ideal Cert.KernelIdeal.S12288 .f32) = after hostOps0_4 V' (Proc.devRef .tc Cert.ReferenceIdeal.main_v69))
    (hr : (after opsB1 V (Proc.devRef .tc Cert.KernelIdeal.main_v34) : FVec Ideal Cert.KernelIdeal.S12288x4 .f32) = after hostOps0_4 V' (Proc.devRef .tc Cert.ReferenceIdeal.main_v73)) :
    (kB V (Proc.devRef .tc Cert.KernelIdeal.main_v104) : FVec Ideal Cert.KernelIdeal.S1000x4 .f32)
      = rB V' (Proc.devRef .tc Cert.ReferenceIdeal.main_v143) := by
  funext j
  rw [eq_ix2 j]
  obtain ⟨k, hk⟩ : ∃ k : Fin 4, j 1 = k := ⟨_, rfl⟩
  rw [hk]
  fin_cases k
  · exact (kcol0 _ _).trans ((congrArg clipAt (congrFun (same_col0 V V' ha hs hr) _)).trans (rcol0 _ _).symm)
  · exact (kcol1 _ _).trans ((congrArg clipAt (congrFun (same_col1 V V' ha hs hr) _)).trans (rcol1 _ _).symm)
  · exact (kcol2 _ _).trans ((congrArg clipAt (congrFun (same_col2 V V' ha hs hr) _)).trans (rcol2 _ _).symm)
  · exact (kcol3 _ _).trans ((congrArg clipAt (congrFun (same_col3 V V' ha hs hr) _)).trans (rcol3 _ _).symm)

/-! ### What the mask kernel and the suppression are given -/

theorem rows_at (p : Fin 1024) (k : Fin 4) : (after opsB3 W (Proc.devRef .tc Cert.KernelIdeal.main_v106) : FVec Ideal Cert.KernelIdeal.S1024x4 .f32) (ix2 p k)
    = if h : p.val < 1000 then (after opsB3 W (Proc.devRef .tc Cert.KernelIdeal.main_v104) : FVec Ideal Cert.KernelIdeal.S1000x4 .f32) (ix2 ⟨p.val, h⟩ k) else (0 : EReal) := by
  after_reads_at

theorem cols_at (k : Fin 4) (p : Fin 1024) : (after opsB3 W (Proc.devRef .tc Cert.KernelIdeal.main_v109) : FVec Ideal Cert.KernelIdeal.S4x1024 .f32) (ix2 k p)
    = if h : p.val < 1000 then (after opsB3 W (Proc.devRef .tc Cert.KernelIdeal.main_v104) : FVec Ideal Cert.KernelIdeal.S1000x4 .f32) (ix2 ⟨p.val, h⟩ k) else (0 : EReal) := by
  after_reads_at
  after_reads_at
  after_reads_at

theorem scores_at (p : Fin 1024) : (after opsB3 W (Proc.devRef .tc Cert.KernelIdeal.main_v108) : FVec Ideal Cert.KernelIdeal.S1024 .f32) (ix1 p)
    = if h : p.val < 1000 then (W (Proc.devRef .tc Cert.KernelIdeal.main_values) : FVec Ideal Cert.KernelIdeal.S1000 .f32) (ix1 ⟨p.val, h⟩) else (0 : EReal) := by
  after_reads_at

theorem words_at (n : Fin 32768) : (after opsC W (Proc.devRef .tc Cert.KernelIdeal.main_v111) : IVec Cert.KernelIdeal.S32768 32) (ix1 n)
    = (W (Proc.devRef .tc Cert.KernelIdeal.main_v110) : IVec Cert.KernelIdeal.S1024x32 32) (ix2 ⟨n.val / 32, by omega⟩ ⟨n.val % 32, by omega⟩) := by
  after_reads_at

theorem coords_at (n : Fin 4096) : (after opsC W (Proc.devRef .tc Cert.KernelIdeal.main_v112) : FVec Ideal Cert.KernelIdeal.S4096 .f32) (ix1 n)
    = (W (Proc.devRef .tc Cert.KernelIdeal.main_v109) : FVec Ideal Cert.KernelIdeal.S4x1024 .f32) (ix2 ⟨n.val / 1024, by omega⟩ ⟨n.val % 1024, by omega⟩) := by
  after_reads_at

theorem out_boxes (i : Fin 1000) (k : Fin 4) : (after opsD W (Proc.devRef .tc Cert.KernelIdeal.main_v114) : FVec Ideal Cert.KernelIdeal.S1000x4 .f32) (ix2 i k)
    = (W (Proc.devRef .tc Cert.KernelIdeal.main_v113_0) : FVec Ideal Cert.KernelIdeal.S4000 .f32) (ix1 ⟨4 * i.val + k.val, by omega⟩) := by
  after_reads_at
  exact congrArg _ (congrArg ix1 (Fin.ext (by simp only []; omega)))

end Cert.Proof.Val
-- ==== Proof.Val.Logits.lean ====
/- From equal arguments the two programs compute equal score maps, box maps, selected scores and boxes. -/
module

public import proofs.«01_k».proof.Proof.Val.Heads
public import proofs.«01_k».proof.Proof.Val.RefHeads
public import proofs.«01_k».proof.Proof.Val.Boxes

@[expose] public section

set_option maxRecDepth 8192

noncomputable section

namespace Cert.Proof.Val

open Idealize.ShloMosaic Idealize.ShloMosaic.TcCoe
open Cert.Proof.Main Cert.Proof.Tc
open Cert.ReferenceIdeal.Gen (hostOps0 hostOps0_1 hostOps0_2 hostOps0_3 hostOps0_4)
open Idealize.ShloMosaic.StableHlo (after)

variable (V : Valuation Cert.KernelIdeal.τ Cert.KernelIdeal.sig (Elt Ideal)) (V' : Valuation Cert.ReferenceIdeal.τ Cert.ReferenceIdeal.sig (Elt Ideal))

/-- The two programs are given the same arguments. -/
structure Given : Prop where
  map : (V (Proc.devRef .tc Cert.KernelIdeal.main_arg0) : Vec Ideal Cert.KernelIdeal.S1x256x64x64 .f32) = V' (Proc.devRef .tc Cert.ReferenceIdeal.main_arg0)
  anchors : (V (Proc.devRef .tc Cert.KernelIdeal.main_arg1) : Vec Ideal Cert.KernelIdeal.S12288x4 .f32) = V' (Proc.devRef .tc Cert.ReferenceIdeal.main_arg1)
  taps : (V (Proc.devRef .tc Cert.KernelIdeal.main_arg2) : Vec Ideal Cert.KernelIdeal.S256x256x3x3 .f32) = V' (Proc.devRef .tc Cert.ReferenceIdeal.main_arg2)
  bias : (V (Proc.devRef .tc Cert.KernelIdeal.main_arg3) : Vec Ideal Cert.KernelIdeal.S256 .f32) = V' (Proc.devRef .tc Cert.ReferenceIdeal.main_arg3)
  objW : (V (Proc.devRef .tc Cert.KernelIdeal.main_arg4) : Vec Ideal Cert.KernelIdeal.S3x256x1x1 .f32) = V' (Proc.devRef .tc Cert.ReferenceIdeal.main_arg4)
  objB : (V (Proc.devRef .tc Cert.KernelIdeal.main_arg5) : Vec Ideal Cert.KernelIdeal.S3 .f32) = V' (Proc.devRef .tc Cert.ReferenceIdeal.main_arg5)
  boxW : (V (Proc.devRef .tc Cert.KernelIdeal.main_arg6) : Vec Ideal Cert.KernelIdeal.S12x256x1x1 .f32) = V' (Proc.devRef .tc Cert.ReferenceIdeal.main_arg6)
  boxB : (V (Proc.devRef .tc Cert.KernelIdeal.main_arg7) : Vec Ideal Cert.KernelIdeal.S12 .f32) = V' (Proc.devRef .tc Cert.ReferenceIdeal.main_arg7)

/-- The kernel program's buffers after its convolution. -/
abbrev kA : Valuation Cert.KernelIdeal.τ Cert.KernelIdeal.sig (Elt Ideal) := afterConv (after opsA V)
/-- The reference's buffers after its convolution. -/
abbrev rA : Valuation Cert.ReferenceIdeal.τ Cert.ReferenceIdeal.sig (Elt Ideal) := after hostOps0_3 (after hostOps0_2 (after hostOps0_1 (after hostOps0 V')))

theorem rA_objW : (rA V' (Proc.devRef .tc Cert.ReferenceIdeal.main_arg4) : Vec Ideal Cert.ReferenceIdeal.S3x256x1x1 .f32) = V' (Proc.devRef .tc Cert.ReferenceIdeal.main_arg4) := by after_reads_simp
theorem rA_objB : (rA V' (Proc.devRef .tc Cert.ReferenceIdeal.main_arg5) : Vec Ideal Cert.ReferenceIdeal.S3 .f32) = V' (Proc.devRef .tc Cert.ReferenceIdeal.main_arg5) := by after_reads_simp
theorem rA_boxW : (rA V' (Proc.devRef .tc Cert.ReferenceIdeal.main_arg6) : Vec Ideal Cert.ReferenceIdeal.S12x256x1x1 .f32) = V' (Proc.devRef .tc Cert.ReferenceIdeal.main_arg6) := by after_reads_simp
theorem rA_boxB : (rA V' (Proc.devRef .tc Cert.ReferenceIdeal.main_arg7) : Vec Ideal Cert.ReferenceIdeal.S12 .f32) = V' (Proc.devRef .tc Cert.ReferenceIdeal.main_arg7) := by after_reads_simp
theorem rA_anchors : (rA V' (Proc.devRef .tc Cert.ReferenceIdeal.main_arg1) : Vec Ideal Cert.ReferenceIdeal.S12288x4 .f32) = V' (Proc.devRef .tc Cert.ReferenceIdeal.main_arg1) := by after_reads_simp
theorem kA_anchors : (kA V (Proc.devRef .tc Cert.KernelIdeal.main_arg1) : Vec Ideal Cert.KernelIdeal.S12288x4 .f32) = V (Proc.devRef .tc Cert.KernelIdeal.main_arg1) := by
  refine (afterConv_ne (after opsA V) Cert.KernelIdeal.main_arg1 (by decide)).trans ?_
  after_reads_simp

theorem kA_out : (kA V (Proc.devRef .tc Cert.KernelIdeal.main_v24) : Vec Ideal Cert.KernelIdeal.S4096x16 .f32)
    = conv (after opsA V (Proc.devRef .tc Cert.KernelIdeal.main_v2)) (after opsA V (Proc.devRef .tc Cert.KernelIdeal.main_v4)) (after opsA V (Proc.devRef .tc Cert.KernelIdeal.main_v23))
        (after opsA V (Proc.devRef .tc Cert.KernelIdeal.main_v13)) (after opsA V (Proc.devRef .tc Cert.KernelIdeal.main_v22)) := Function.update_self ..

section
variable {V V'} (h : Given V V')
include h

/-- The hidden map the kernel computes at a position is the reference's. -/
theorem hidden_same (y x : Fin 64) (k : Fin 256) :
    hidden (fun p c => (after opsA V (Proc.devRef .tc Cert.KernelIdeal.main_v2) : Vec Ideal Cert.KernelIdeal.S4096x256 .f32) (ix2 p c))
        (fun t c o => (after opsA V (Proc.devRef .tc Cert.KernelIdeal.main_v4) : Vec Ideal Cert.KernelIdeal.S2304x256 .f32) (ix2 ⟨256 * t.val + c.val, by omega⟩ o))
        (fun o => (after opsA V (Proc.devRef .tc Cert.KernelIdeal.main_v23) : Vec Ideal Cert.KernelIdeal.S1x256 .f32) (ix2 0 o)) y.val x.val k
      = (rA V' (Proc.devRef .tc Cert.ReferenceIdeal.main_v52) : Vec Ideal Cert.ReferenceIdeal.S1x256x64x64 .f32) (ix4 0 k y x) := by
  refine Eq.trans ?_ (ref_hidden V' k y x).symm
  have e0 : (fun (p : Fin 4096) (c : Fin 256) => (after opsA V (Proc.devRef .tc Cert.KernelIdeal.main_v2) : Vec Ideal Cert.KernelIdeal.S4096x256 .f32) (ix2 p c))
      = fun p c => (V' (Proc.devRef .tc Cert.ReferenceIdeal.main_arg0) : Vec Ideal Cert.ReferenceIdeal.S1x256x64x64 .f32) (ix4 0 c ⟨p.val / 64, by omega⟩ ⟨p.val % 64, by omega⟩) := by
    funext p c; rw [in_map]; exact congrFun h.map _
  have e1 : (fun (t : Fin 9) (c o : Fin 256) => (after opsA V (Proc.devRef .tc Cert.KernelIdeal.main_v4) : Vec Ideal Cert.KernelIdeal.S2304x256 .f32) (ix2 ⟨256 * t.val + c.val, by omega⟩ o))
      = fun t c o => (V' (Proc.devRef .tc Cert.ReferenceIdeal.main_arg2) : Vec Ideal Cert.ReferenceIdeal.S256x256x3x3 .f32) (ix4 o c ⟨t.val / 3, by omega⟩ ⟨t.val % 3, by omega⟩) := by
    funext t c o; rw [in_taps]; exact congrFun h.taps _
  have e2 : (fun (o : Fin 256) => (after opsA V (Proc.devRef .tc Cert.KernelIdeal.main_v23) : Vec Ideal Cert.KernelIdeal.S1x256 .f32) (ix2 0 o))
      = fun o => (V' (Proc.devRef .tc Cert.ReferenceIdeal.main_arg3) : Vec Ideal Cert.ReferenceIdeal.S256 .f32) (ix1 o) := by
    funext o; rw [in_bias]; exact congrFun h.bias _
  exact congrArg (fun q => q y.val x.val k) (congr (congrArg₂ hidden e0 e1) e2)

/-- A head of the kernel at a position. -/
theorem head_same (y x : Fin 64) (a : Fin 16) :
    (kA V (Proc.devRef .tc Cert.KernelIdeal.main_v24) : Vec Ideal Cert.KernelIdeal.S4096x16 .f32) (ix2 ⟨64 * y.val + x.val, by omega⟩ a)
      = headAt (fun k => (rA V' (Proc.devRef .tc Cert.ReferenceIdeal.main_v52) : Vec Ideal Cert.ReferenceIdeal.S1x256x64x64 .f32) (ix4 0 k y x))
          (fun k => (after opsA V (Proc.devRef .tc Cert.KernelIdeal.main_v13) : Vec Ideal Cert.KernelIdeal.S256x16 .f32) (ix2 k a))
          ((after opsA V (Proc.devRef .tc Cert.KernelIdeal.main_v22) : Vec Ideal Cert.KernelIdeal.S1x16 .f32) (ix2 0 a)) := by
  rw [kA_out, conv_apply]
  have ey : (64 * y.val + x.val) / 64 = y.val := by omega
  have ex : (64 * y.val + x.val) % 64 = x.val := by omega
  unfold headAt
  simp only [ey, ex]
  exact congrArg₂ (· + ·) (Finset.sum_congr rfl fun k _ => congrArg₂ (· * ·) (hidden_same h y x k) rfl) rfl

theorem logit_same (a : Fin 3) (y x : Fin 64) :
    (kA V (Proc.devRef .tc Cert.KernelIdeal.main_v24) : Vec Ideal Cert.KernelIdeal.S4096x16 .f32) (ix2 ⟨64 * y.val + x.val, by omega⟩ ⟨a.val, by omega⟩)
      = (after hostOps0_4 (rA V') (Proc.devRef .tc Cert.ReferenceIdeal.main_v59) : Vec Ideal Cert.ReferenceIdeal.S1x3x64x64 .f32) (ix4 0 a y x) := by
  rw [head_same h, ref_logits, in_head_bias, dif_neg (by simp only []; omega), dif_pos a.isLt]
  unfold headAt
  refine congrArg₂ (· + ·) (Finset.sum_congr rfl fun k _ => congrArg₂ (· * ·) rfl ?_) ?_
  · show (after opsA V (Proc.devRef .tc Cert.KernelIdeal.main_v13) : Vec Ideal Cert.KernelIdeal.S256x16 .f32) (ix2 k _) = _
    rw [in_heads, dif_neg (by simp only []; omega), dif_pos a.isLt]
    exact (congrFun h.objW _).trans (congrFun (rA_objW V') _).symm
  · exact (congrFun h.objB _).trans (congrFun (rA_objB V') _).symm

theorem delta_same (a : Fin 12) (y x : Fin 64) :
    (kA V (Proc.devRef .tc Cert.KernelIdeal.main_v24) : Vec Ideal Cert.KernelIdeal.S4096x16 .f32) (ix2 ⟨64 * y.val + x.val, by omega⟩ ⟨3 + a.val, by omega⟩)
      = (after hostOps0_4 (rA V') (Proc.devRef .tc Cert.ReferenceIdeal.main_v66) : Vec Ideal Cert.ReferenceIdeal.S1x12x64x64 .f32) (ix4 0 a y x) := by
  have ha : (⟨3 + a.val - 3, by omega⟩ : Fin 12) = a := Fin.ext (by simp only []; omega)
  rw [head_same h, ref_deltas, in_head_bias, dif_pos ⟨by simp only []; omega, by simp only []; omega⟩]
  unfold headAt
  refine congrArg₂ (· + ·) (Finset.sum_congr rfl fun k _ => congrArg₂ (· * ·) rfl ?_) ?_
  · show (after opsA V (Proc.devRef .tc Cert.KernelIdeal.main_v13) : Vec Ideal Cert.KernelIdeal.S256x16 .f32) (ix2 k _) = _
    rw [in_heads, dif_pos ⟨by simp only []; omega, by simp only []; omega⟩]
    simp only [ha]
    exact (congrFun h.boxW _).trans (congrFun (rA_boxW V') _).symm
  · simp only [ha]
    exact (congrFun h.boxB _).trans (congrFun (rA_boxB V') _).symm

theorem logits_same :
    (after opsB1 (kA V) (Proc.devRef .tc Cert.KernelIdeal.main_v27) : Vec Ideal Cert.KernelIdeal.S1x3x64x64 .f32)
      = after hostOps0_4 (rA V') (Proc.devRef .tc Cert.ReferenceIdeal.main_v59) := by
  funext j
  obtain ⟨a, y, x, rfl⟩ : ∃ (a : Fin 3) (y x : Fin 64), j = ix4 (0 : Fin 1) a y x :=
    ⟨j 1, j 2, j 3, (eq_ix4 j).trans (congrArg (fun z => ix4 z _ _ _) (Subsingleton.elim (α := Fin 1) _ _))⟩
  exact (out_logits _ _ _ _).trans (logit_same h _ _ _)

theorem deltas_same :
    (after opsB1 (kA V) (Proc.devRef .tc Cert.KernelIdeal.main_v30) : Vec Ideal Cert.KernelIdeal.S1x12x64x64 .f32)
      = after hostOps0_4 (rA V') (Proc.devRef .tc Cert.ReferenceIdeal.main_v66) := by
  funext j
  obtain ⟨a, y, x, rfl⟩ : ∃ (a : Fin 12) (y x : Fin 64), j = ix4 (0 : Fin 1) a y x :=
    ⟨j 1, j 2, j 3, (eq_ix4 j).trans (congrArg (fun z => ix4 z _ _ _) (Subsingleton.elim (α := Fin 1) _ _))⟩
  exact (out_deltas _ _ _ _).trans (delta_same h _ _ _)

theorem scores_same :
    (after opsB1 (kA V) (Proc.devRef .tc Cert.KernelIdeal.main_v32) : FVec Ideal Cert.KernelIdeal.S12288 .f32)
      = after hostOps0_4 (rA V') (Proc.devRef .tc Cert.ReferenceIdeal.main_v69) := by
  funext j
  obtain ⟨i, rfl⟩ : ∃ i : Fin 12288, j = ix1 i := ⟨j 0, eq_ix1 j⟩
  refine (out_scores _ i).trans (Eq.trans ?_ (ref_scores _ i).symm)
  refine Eq.trans (congrArg _ (congrArg₂ ix2 (Fin.ext ?_) rfl)) (logit_same h ⟨i.val % 3, by omega⟩ ⟨i.val / 3 / 64, by omega⟩ ⟨i.val / 3 % 64, by omega⟩)
  simp only []; omega

theorem rows_same :
    (after opsB1 (kA V) (Proc.devRef .tc Cert.KernelIdeal.main_v34) : FVec Ideal Cert.KernelIdeal.S12288x4 .f32)
      = after hostOps0_4 (rA V') (Proc.devRef .tc Cert.ReferenceIdeal.main_v73) := by
  funext j
  obtain ⟨i, k, rfl⟩ : ∃ (i : Fin 12288) (k : Fin 4), j = ix2 i k := ⟨j 0, j 1, eq_ix2 j⟩
  refine (out_rows _ i k).trans (Eq.trans ?_ (ref_rows _ i k).symm)
  refine Eq.trans (congrArg _ (congrArg₂ ix2 (Fin.ext ?_) (Fin.ext ?_))) (delta_same h ⟨4 * (i.val % 3) + k.val, by omega⟩ ⟨i.val / 3 / 64, by omega⟩ ⟨i.val / 3 % 64, by omega⟩)
  · simp only []; omega
  · simp only []; omega

/-- The selected scores. -/
theorem picks_same : (kB (kA V) (Proc.devRef .tc Cert.KernelIdeal.main_values) : FVec Ideal Cert.KernelIdeal.S1000 .f32)
    = rB (rA V') (Proc.devRef .tc Cert.ReferenceIdeal.main_values) := same_values _ _ (scores_same h)

/-- The decoded boxes. -/
theorem boxes_same : (kB (kA V) (Proc.devRef .tc Cert.KernelIdeal.main_v104) : FVec Ideal Cert.KernelIdeal.S1000x4 .f32)
    = rB (rA V') (Proc.devRef .tc Cert.ReferenceIdeal.main_v143) :=
  same_boxes _ _ ((kA_anchors V).trans (h.anchors.trans (rA_anchors V').symm)) (scores_same h) (rows_same h)

end

end Cert.Proof.Val
-- ==== Proof.Val.Mask.lean ====
module

public import proofs.«01_k».proof.Proof.Val.Conv
public import Idealize.ShloMosaic.Lib.BitWord

@[expose] public section

set_option maxRecDepth 8192

noncomputable section

namespace Cert.Proof.Val
open Idealize.ShloMosaic Cert.KernelIdeal Cert.KernelIdeal.Gen Cert.Proof.Tc

/-! # The overlap kernel's words, bit by bit -/

/-- A sum of shifted flags is the word of those flags. -/
theorem sum_flags (act : ℕ → Bool) : ∀ n ≤ 32, (∑ k ∈ Finset.range n, (if act k then BitVec.ofNat 32 (2 ^ k) else 0#32)) = Bits.bitWord act n
  | 0, _ => rfl
  | n + 1, h => by
    rw [Finset.sum_range_succ, sum_flags act n (by omega)]
    show _ = if act n = true then Bits.bitWord act n ||| BitVec.ofNat 32 (2 ^ n) else Bits.bitWord act n
    by_cases ha : act n = true
    · rw [if_pos ha, if_pos ha]
      refine BitVec.add_eq_or_of_and_eq_zero _ _ (BitVec.eq_of_getLsbD_eq fun i hi => ?_)
      rw [BitVec.getLsbD_and, Bits.getLsbD_bitWord act n (by omega), BitVec.getLsbD_ofNat, BitVec.getLsbD_zero]
      by_cases hin : i = n
      · subst hin; simp
      · rw [Nat.testBit_two_pow_of_ne (Ne.symm hin)]; simp
    · rw [if_neg ha, if_neg ha]; exact BitVec.add_zero _

/-- The word a column of the kernel's output holds: the sum, over its 32 lanes, of the lane's flag shifted to the lane's bit. -/
def packed (v : IVec S1024x1024 32) (p : Fin 1024) (q : Fin 32) : BitVec 32 :=
  Finset.univ.fold IntOp.addi 0 fun k : Fin 32 => IntOp.shli .vector (v (ix2 p ⟨32 * q.val + k.val, by omega⟩)) (BitVec.ofNat 32 k.val)

theorem mask_packed (r : Vec Ideal S1024x4 .f32) (c : Vec Ideal S4x1024 .f32) (p : Fin 1024) (q : Fin 32) :
    mask r c (ix2 p q) = packed (over r c) p q := by
  have e : over r c = k1_pay7 (iota .tc S1024x1024 32 [0] iota_S1024x1024_d0_w32) (iota .tc S1024x1024 32 [1] iota_S1024x1024_d1_w32) (k1_pay5 r c) k1_pay6 := rfl
  unfold mask packed
  simp only [k1_pay4]
  fin_cases q <;> (pointwise []; simp only [k1_pay1, k1_pay2, k1_pay3, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38]; pointwise []; try simp only [← e]
                   all_goals rfl)

/-- The area two boxes share. -/
def meet (a b : Fin 4 → EReal) : EReal := max 0 (min (a 2) (b 2) - max (a 0) (b 0)) * max 0 (min (a 3) (b 3) - max (a 1) (b 1))
/-- The area of a box. -/
def area (a : Fin 4 → EReal) : EReal := (a 2 - a 0) * (a 3 - a 1)
/-- The shared area over the area of the union. -/
def iou (a b : Fin 4 → EReal) : EReal := Ideal.div (meet a b) (max (area a + area b - meet a b) (Ideal.ofBits FTy.f32 814313567#32))
/-- Whether two boxes overlap too much. -/
def clash (a b : Fin 4 → EReal) : Bool := decide (Ideal.ofBits FTy.f32 1060320051#32 < iou a b)

/-- A number below 1024 as a signed word. -/
theorem small_toInt (n : ℕ) (h : n < 1024) : (BitVec.ofNat 32 n).toInt = n := by
  rw [BitVec.toInt_eq_toNat_of_lt (by rw [BitVec.toNat_ofNat]; omega), BitVec.toNat_ofNat]; omega

theorem slt_small (m n : ℕ) (hm : m < 1024) (hn : n < 1024) : IntOp.cmpi CmpIPredicate.slt (BitVec.ofNat 32 m) (BitVec.ofNat 32 n) = BitVec.ofBool (decide (m < n)) := by
  show BitVec.ofBool (BitVec.slt _ _) = _
  rw [BitVec.slt, small_toInt m hm, small_toInt n hn]
  simp

theorem sgt_small (m n : ℕ) (hm : m < 1024) (hn : n < 1024) : IntOp.cmpi CmpIPredicate.sgt (BitVec.ofNat 32 m) (BitVec.ofNat 32 n) = BitVec.ofBool (decide (n < m)) := by
  show BitVec.ofBool (BitVec.slt _ _) = _
  rw [BitVec.slt, small_toInt m hm, small_toInt n hn]
  simp

theorem and_bool (a b : Bool) : IntOp.andi (BitVec.ofBool a) (BitVec.ofBool b) = BitVec.ofBool (a && b) := by cases a <;> cases b <;> rfl

theorem over_apply (r : Vec Ideal S1024x4 .f32) (c : Vec Ideal S4x1024 .f32) (p q : Fin 1024) :
    over r c (ix2 p q) = if (clash (fun k => r (ix2 p k)) (fun k => c (ix2 k q)) && decide (p.val < q.val) && decide (p.val < 1000) && decide (q.val < 1000)) then 1#32 else 0#32 := by
  unfold over
  simp only [k1_pay5, k1_pay6, k1_pay7]
  pointwise []
  rw [slt_small _ 1000 p.isLt (by omega), slt_small _ 1000 q.isLt (by omega), sgt_small _ _ q.isLt p.isLt, and_bool]
  change BitVec.setWidth 32 (IntOp.andi (IntOp.andi (BitVec.ofBool (clash (fun k => r (ix2 p k)) (fun k => c (ix2 k q)) && _)) _) _) = _
  rw [and_bool, and_bool]
  generalize (clash (fun k => r (ix2 p k)) (fun k => c (ix2 k q)) && decide (p.val < q.val) && decide (p.val < 1000) && decide (q.val < 1000)) = t
  cases t <;> rfl

/-- Bit `k` of a packed word, where the flags are zeros and ones. -/
theorem packed_bit (v : IVec S1024x1024 32) (p : Fin 1024) (q : Fin 32) (act : ℕ → Bool)
    (h : ∀ k : Fin 32, v (ix2 p ⟨32 * q.val + k.val, by omega⟩) = if act k.val then 1#32 else 0#32) (k : ℕ) (hk : k < 32) :
    (packed v p q).getLsbD k = act k := by
  have e : packed v p q = Bits.bitWord act 32 := by
    rw [← sum_flags act 32 le_rfl, Finset.sum_range]
    refine Finset.fold_congr fun k _ => ?_
    rw [h k]
    unfold IntOp.shli
    obtain ⟨k, hk⟩ := k
    by_cases ha : act k = true
    · rw [if_pos ha, if_pos ha, if_pos (by simp only [BitVec.toNat_ofNat]; omega)]
      apply BitVec.eq_of_toNat_eq
      simp only [BitVec.shiftLeft_eq', BitVec.toNat_shiftLeft, BitVec.toNat_ofNat, Nat.shiftLeft_eq]
      rw [Nat.mod_eq_of_lt (show k < 2 ^ 32 by omega)]; simp
    · rw [if_neg ha, if_neg ha, if_pos (by simp only [BitVec.toNat_ofNat]; omega)]
      simp
  rw [e, Bits.getLsbD_bitWord act 32 le_rfl, decide_eq_true hk, Bool.true_and]

/-- A bit of the overlap kernel's words: whether the later candidate overlaps the earlier one too much. -/
theorem mask_bit (r : Vec Ideal S1024x4 .f32) (c : Vec Ideal S4x1024 .f32) (p q : Fin 1024) :
    (mask r c (ix2 p ⟨q.val / 32, by omega⟩)).getLsbD (q.val % 32)
      = (clash (fun k => r (ix2 p k)) (fun k => c (ix2 k q)) && decide (p.val < q.val) && decide (p.val < 1000) && decide (q.val < 1000)) := by
  rw [mask_packed]
  have e : ∀ k (hk : k < 32), 32 * (q.val / 32) + k < 1024 := fun k hk => by omega
  rw [packed_bit (over r c) p ⟨q.val / 32, by omega⟩ (fun k => if hk : 32 * (q.val / 32) + k < 1024 then
    (clash (fun a => r (ix2 p a)) (fun a => c (ix2 a ⟨32 * (q.val / 32) + k, hk⟩)) && decide (p.val < 32 * (q.val / 32) + k) && decide (p.val < 1000)
      && decide (32 * (q.val / 32) + k < 1000)) else false) (fun k => by rw [over_apply, dif_pos (e _ k.isLt)]) _ (by omega)]
  rw [dif_pos (e _ (by omega))]
  have eq : (⟨32 * (q.val / 32) + q.val % 32, e _ (by omega)⟩ : Fin 1024) = q := Fin.ext (by simp only []; omega)
  have eq' : 32 * (q.val / 32) + q.val % 32 = q.val := by omega
  simp only [eq, eq']

end Cert.Proof.Val
-- ==== Proof.Val.RefLoop.lean ====
module

public import proofs.«01_k».proof.Proof.Val.Mask
public import proofs.«01_k».proof.Proof.Main.Frames
public import proofs.«01_k».proof.Proof.Gen.ReferenceIdeal.Run
public import Idealize.ShloMosaic.Lib.Pointwise
public import Idealize.ShloMosaic.Lib.DynamicIndex
public import Idealize.ShloMosaic.Lib.StableHlo.ReadAt

@[expose] public section

set_option maxRecDepth 8192

noncomputable section

namespace Cert.Proof.Val
open Idealize.ShloMosaic Cert.ReferenceIdeal Cert.ReferenceIdeal.Gen
open Idealize.ShloMosaic.StableHlo Cert.ReferenceIdeal.Value
open Cert.Proof.Nms (sup mbit)

variable (V : Valuation Cert.ReferenceIdeal.τ Cert.ReferenceIdeal.sig (Elt Ideal))

theorem ref_iou (i j : Fin 1000) :
    (after hostOps0_12 (after hostOps0_11 (after hostOps0_10 V)) (Proc.devRef .tc main_v198_0) : FVec Ideal S1000x1000 .f32) (ix2 i j)
      = iou (fun k => (V (Proc.devRef .tc main_v143) : FVec Ideal S1000x4 .f32) (ix2 i k)) (fun k => (V (Proc.devRef .tc main_v143) : FVec Ideal S1000x4 .f32) (ix2 j k)) := by
  after_reads_at
  dsimp only [id]
  pointwise []
  rfl

theorem ref_iota (j : Fin 1000) :
    (after hostOps0_12 (after hostOps0_11 (after hostOps0_10 V)) (Proc.devRef .tc main_v198_1) : IVec S1000 32) (ix1 j) = BitVec.ofNat 32 j.val := by
  after_reads_at
  dsimp only [id]
  rfl

theorem ref_none (j : Fin 1000) :
    (after hostOps0_12 (after hostOps0_11 (after hostOps0_10 V)) (Proc.devRef .tc main_v198_4) : IVec S1000 1) (ix1 j) = 0#1 := by
  after_reads_at
  rfl

theorem ref_first :
    (after hostOps0_12 (after hostOps0_11 (after hostOps0_10 V)) (Proc.devRef .tc main_v198_3) : IVec S_ 32) = constantI S_ 32 (BitVec.ofNat 32 0) := by
  after_reads_at
  rfl

theorem fits_row (i : ℕ) (hi : i < 1000) : S1000x1000.Slices ![i, 0] S1x1000 := by
  refine ⟨rfl, fun a => ?_⟩
  fin_cases a
  · show i + 1 ≤ 1000; omega
  · show 0 + 1000 ≤ 1000; omega

theorem fits_one (i : ℕ) (hi : i < 1000) : S1000.Slices ![i] S1 := by
  refine ⟨rfl, fun a => ?_⟩
  fin_cases a
  show i + 1 ≤ 1000; omega

theorem step_at (i : ℕ) (hi : i < 1000) (h3 : (V (Proc.devRef .tc main_v198_3) : IVec S_ 32) = constantI S_ 32 (BitVec.ofNat 32 i)) (j : Fin 1000) :
    (step_main_v198_4 V : IVec S1000 1) (ix1 j)
      = IntOp.ori ((V (Proc.devRef .tc main_v198_4) : IVec S1000 1) (ix1 j)) (IntOp.andi (IntOp.andi
          (BitVec.ofBool (decide (Ideal.ofBits FTy.f32 1060320051#32 < ((V (Proc.devRef .tc main_v198_0) : FVec Ideal S1000x1000 .f32) (ix2 ⟨i, hi⟩ j) : EReal))))
          (IntOp.cmpi .sgt ((V (Proc.devRef .tc main_v198_1) : IVec S1000 32) (ix1 j)) (BitVec.ofNat 32 i)))
        (~~~((V (Proc.devRef .tc main_v198_4) : IVec S1000 1) (ix1 ⟨i, hi⟩)))) := by
  unfold step_main_v198_4 res_main_while0b_v215
  rw [h3]
  simp only [id]
  rw [Host.dynamicSlice_eq_extractStridedSlice S1x1000 _ _ ![i, 0] _ (fits_row i hi) (by
      intro a; fin_cases a
      · simp only [Matrix.cons_val_zero, Fin.zero_eta]; apply toInt_wrap_ofNat i; omega
      · simp only [Matrix.cons_val_one, Matrix.head_cons, Fin.mk_one, Matrix.cons_val_fin_one]; apply toInt_wrap_ofNat 0; omega)]
  rw [Host.dynamicSlice_eq_extractStridedSlice S1 _ _ ![i] _ (fits_one i hi) (by
      intro a; fin_cases a
      simp only [Matrix.cons_val_zero, Fin.zero_eta]; apply toInt_wrap_ofNat i; omega)]
  pointwise []

theorem or_bool (a b : Bool) : IntOp.ori (BitVec.ofBool a) (BitVec.ofBool b) = BitVec.ofBool (a || b) := by cases a <;> cases b <;> rfl
theorem not_bool (a : Bool) : ~~~(BitVec.ofBool a) = BitVec.ofBool (!a) := by cases a <;> rfl

/-- The suppression loop of the reference, trip by trip. -/
theorem steps (M : ℕ → BitVec 32)
    (hM : ∀ i j : Fin 1000, mbit M i j = (decide (Ideal.ofBits FTy.f32 1060320051#32 < ((V (Proc.devRef .tc main_v198_0) : FVec Ideal S1000x1000 .f32) (ix2 i j) : EReal)) && decide (i.val < j.val)))
    (h1 : ∀ j : Fin 1000, (V (Proc.devRef .tc main_v198_1) : IVec S1000 32) (ix1 j) = BitVec.ofNat 32 j.val)
    (h3 : (V (Proc.devRef .tc main_v198_3) : IVec S_ 32) = constantI S_ 32 (BitVec.ofNat 32 0))
    (h4 : ∀ j : Fin 1000, (V (Proc.devRef .tc main_v198_4) : IVec S1000 1) (ix1 j) = 0#1) :
    ∀ k ≤ 1000, (STEP^[k] V) (Proc.devRef .tc main_v198_0) = V (Proc.devRef .tc main_v198_0)
      ∧ (STEP^[k] V) (Proc.devRef .tc main_v198_1) = V (Proc.devRef .tc main_v198_1)
      ∧ ((STEP^[k] V) (Proc.devRef .tc main_v198_3) : IVec S_ 32) = constantI S_ 32 (BitVec.ofNat 32 k)
      ∧ ∀ j : Fin 1000, ((STEP^[k] V) (Proc.devRef .tc main_v198_4) : IVec S1000 1) (ix1 j) = BitVec.ofBool (sup M k j.val)
  | 0, _ => ⟨rfl, rfl, h3, fun j => h4 j⟩
  | k + 1, hk => by
    obtain ⟨i0, i1, i3, i4⟩ := steps M hM h1 h3 h4 k (by omega)
    rw [Function.iterate_succ_apply']
    refine ⟨(STEP_main_v198_0 _).trans i0, (STEP_main_v198_1 _).trans i1, ?_, fun j => ?_⟩
    · rw [STEP_main_v198_3]
      unfold step_main_v198_3
      rw [i3]
      funext t
      exact (BitVec.ofNat_add k 1).symm
    · rw [STEP_main_v198_4]
      refine (step_at _ k (by omega) i3 j).trans ?_
      rw [i4 j, i4 ⟨k, by omega⟩, i0, i1, h1 j, sgt_small _ _ (by omega) (by omega), not_bool, and_bool, and_bool, or_bool, ← hM ⟨k, by omega⟩ j]
      show _ = BitVec.ofBool (sup M k j.val || (!sup M k k && mbit M k j.val))
      rw [Bool.and_comm]

end Cert.Proof.Val
-- ==== Proof.Val.Sort.lean ====
module

public import Idealize.ShloMosaic.Lib.SortFacts
public import Idealize.ShloMosaic.Lib.SortPrefix
public import Idealize.ShloMosaic.Lib.Pointwise

@[expose] public section

noncomputable section

namespace Cert.Proof.Val
open Idealize.ShloMosaic

/-! # What a top-k holds -/

/-- Whether the `a`-th entry of a list is strictly greater than the `b`-th. -/
def above {n : ℕ} (x : Fin n → EReal) (a b : Fin n) : Bool := decide (x b < x a)

/-- The same, an earlier entry going before an equal later one. -/
def ahead {n : ℕ} (x : Fin n → EReal) (a b : Fin n) : Bool := above x a b || (decide (x a = x b) && decide (a < b))

theorem ahead_total {n : ℕ} (x : Fin n → EReal) : StrictTotalBefore (ahead x) := by
  refine StrictTotalBefore.of_key_then_position (fun a b : EReal => decide (b < a)) x (fun a => ?_) (fun a b c h h' => ?_) (fun a b => ?_)
  · simp
  · simp only [decide_eq_true_eq] at *; exact lt_trans h' h
  · simp only [decide_eq_true_eq]; rcases lt_trichotomy a b with h | h | h <;> simp [h]

theorem stable_refined {n : ℕ} (x : Fin n → EReal) : ∀ l : List (Fin n), l.Pairwise (· < ·) → stableSort (above x) l = stableSort (ahead x) l
  | [], _ => rfl
  | a :: l, h => by
    have h' := List.pairwise_cons.mp h
    show insertBefore _ a (stableSort _ l) = insertBefore _ a (stableSort _ l)
    rw [stable_refined x l h'.2]
    refine insertBefore_congr _ _ a _ fun b hb => ?_
    have hab := h'.1 b ((perm_stableSort _ l).mem_iff.mp hb)
    simp [ahead, not_lt.mpr hab.le]

theorem sorted_refined {n : ℕ} (x : Fin n → EReal) : sortedFrom (above x) = sortedFrom (ahead x) := by
  have e : sortPositions n (above x) = sortPositions n (ahead x) := stable_refined x _ (List.pairwise_lt_finRange n)
  funext k
  unfold sortedFrom
  rw [List.get_eq_getElem, List.get_eq_getElem]
  exact List.getElem_of_eq e _

/-- The entries in sorted order never increase. -/
theorem sorted_le {n : ℕ} (x : Fin n → EReal) (i j : Fin n) (h : i < j) : x (sortedFrom (above x) j) ≤ x (sortedFrom (above x) i) := by
  have := sortedFrom_noInversion (above x) (above x) (fun a b h => by simp only [above, decide_eq_true_eq, decide_eq_false_iff_not] at *; exact not_lt.mpr h.le)
    (fun a b h => h) (fun a b c h h' => by simp only [above, decide_eq_false_iff_not, not_lt] at *; exact le_trans h h') i j h
  simpa [above] using this

/-- The order of a list whose places are listed by `σ`. -/
theorem sorted_eq {n : ℕ} (x : Fin n → EReal) (σ : Fin n → Fin n) (hinj : Function.Injective σ)
    (hord : ∀ i j, i < j → ahead x (σ j) (σ i) = false) (i : Fin n) : sortedFrom (above x) i = σ i := by
  rw [sorted_refined]
  exact (ahead_total x).sortedFrom_eq_of_prefix le_rfl σ hinj hord
    (fun i p hp => absurd (Finite.injective_iff_surjective.mp hinj p) (fun ⟨j, hj⟩ => hp j hj)) i

variable {n k : ℕ} (hk : k ≤ n) (x : FVec Ideal ⟨1, ![n]⟩ .f32) (h : (⟨1, ![n]⟩ : Shape).Slices (fun _ => 0) ⟨1, ![k]⟩)

omit hk x h in
theorem along_one {n : ℕ} (j : (⟨1, ![n]⟩ : Shape).Idx) (a : Fin n) : Shape.Idx.along j (0 : Fin 1) a = ix1 a := by
  rw [Shape.Idx.along_rank1]
  funext c; fin_cases c; rfl

omit hk h in
theorem above_cmp : (fun a b : Fin n => FloatOps.cmpfTotal (F := Ideal) (φ := .f32) .gt (x (ix1 a)) (x (ix1 b)) == 1#1) = above fun a : Fin n => x (ix1 a) := by
  funext a b
  show (BitVec.ofBool (decide ((x (ix1 b) : EReal) < x (ix1 a))) == 1#1) = decide ((x (ix1 b) : EReal) < x (ix1 a))
  cases decide ((x (ix1 b) : EReal) < x (ix1 a)) <;> rfl

/-- Where the `r`-th greatest entry sits. -/
def pick (r : Fin k) : Fin n := sortedFrom (above fun a : Fin n => x (ix1 a)) (r.castLE hk)

omit h in
theorem pick_eq (J : (⟨1, ![n]⟩ : Shape).Idx) (r : Fin k) (hJ : (J 0).val = r.val) :
    sortedFrom (fun a b : Fin n => FloatOps.cmpfTotal (F := Ideal) (φ := .f32) .gt (x (J.along (0 : Fin 1) a)) (x (J.along (0 : Fin 1) b)) == 1#1) (J 0)
      = pick hk x r := by
  simp only [along_one]
  rw [above_cmp]
  exact congrArg (sortedFrom _) (Fin.ext hJ)

theorem topk_value (r : Fin k) : ((Host.topK ⟨1, ![k]⟩ 0 (FloatOps.cmpfTotal .gt) x h).1 : FVec Ideal ⟨1, ![k]⟩ .f32) (ix1 r) = x (ix1 (pick hk x r)) := by
  unfold Host.topK Host.sort2
  exact congrArg x ((along_one _ _).trans (congrArg ix1 (pick_eq hk x _ r (Nat.zero_add _))))

theorem topk_index (r : Fin k) : (Host.topK ⟨1, ![k]⟩ 0 (FloatOps.cmpfTotal .gt) x h).2 (ix1 r) = BitVec.ofNat 32 (pick hk x r).val := by
  unfold Host.topK Host.sort2
  exact congrArg (fun q : Fin n => BitVec.ofNat 32 q.val) (pick_eq hk x _ r (Nat.zero_add _))

include hk in
theorem topk_sorted (i j : Fin k) (hij : i < j) :
    ((Host.topK ⟨1, ![k]⟩ 0 (FloatOps.cmpfTotal .gt) x h).1 (ix1 j) : EReal) ≤ (Host.topK ⟨1, ![k]⟩ 0 (FloatOps.cmpfTotal .gt) x h).1 (ix1 i) := by
  rw [topk_value hk, topk_value hk]
  exact sorted_le (fun a : Fin n => x (ix1 a)) _ _ hij

end Cert.Proof.Val
-- ==== Proof.Val.Partition.lean ====
module

public import proofs.«01_k».proof.Proof.Val.Sort
public import proofs.«01_k».proof.Proof.Nms.Scatter

@[expose] public section

noncomputable section

namespace Cert.Proof.Val
open Idealize.ShloMosaic Cert.Proof.Nms

/-! # Sorting scores of which some are struck out -/

theorem rank_alive_lt (B : ℕ → Bool) {i j : ℕ} (hi : i < 1000) (hj : j < 1000) (h : rank B i < rank B j) :
    (B i = false ∧ B j = false ∧ i < j) ∨ (B i = false ∧ B j = true) ∨ (B i = true ∧ B j = true ∧ i < j) := by
  have hA : ∀ {p}, p < 1000 → B p = false → rank B p = cntA B p ∧ cntA B p < cntA B 1000 := fun {p} hp h0 => by
    have ha : Alive B p := ⟨hp, h0⟩
    refine ⟨by unfold rank; rw [if_pos ha], ?_⟩
    have := cntA_mono B (show p + 1 ≤ 1000 by omega)
    rw [cntA_succ, if_pos ha] at this; omega
  have hD : ∀ {p}, p < 1000 → B p = true → rank B p = cntA B 1000 + cntD B p := fun {p} hp h1 => by
    unfold rank; rw [if_neg (fun h : Alive B p => by rw [h.2] at h1; exact Bool.noConfusion h1)]
  cases hbi : B i <;> cases hbj : B j
  · refine Or.inl ⟨rfl, rfl, ?_⟩
    rw [(hA hi hbi).1, (hA hj hbj).1] at h
    by_contra hn
    have := cntA_mono B (show j ≤ i by omega); omega
  · exact Or.inr (Or.inl ⟨rfl, rfl⟩)
  · rw [hD hi hbi, (hA hj hbj).1] at h
    have := (hA hj hbj).2; omega
  · refine Or.inr (Or.inr ⟨rfl, rfl, ?_⟩)
    rw [hD hi hbi, hD hj hbj] at h
    by_contra hn
    have := cntD_mono B (show j ≤ i by omega); omega

/-- Of falling scores, none of them the least value, with some replaced by the least value, the order by score is: the untouched
    ones in their order, then the replaced ones in theirs. -/
theorem struck_order (B : ℕ → Bool) (v x : Fin 1000 → EReal) (hx : ∀ i : Fin 1000, x i = if B i.val then ⊥ else v i)
    (hmono : ∀ i j, i < j → v j ≤ v i) (hv : ∀ i, ⊥ < v i) (r : Fin 1000) : sortedFrom (above x) r = (rankE B).symm r := by
  refine sorted_eq x (rankE B).symm (rankE B).symm.injective (fun i j hij => ?_) r
  have hr : rank B ((rankE B).symm i).val < rank B ((rankE B).symm j).val := by
    rw [← rankE_val, ← rankE_val, Equiv.apply_symm_apply, Equiv.apply_symm_apply]; exact hij
  revert hr
  generalize (rankE B).symm i = p
  generalize (rankE B).symm j = q
  intro hr
  unfold ahead above
  rcases rank_alive_lt B p.isLt q.isLt hr with ⟨hp, hq, hpq⟩ | ⟨hp, hq⟩ | ⟨hp, hq, hpq⟩
  · rw [hx p, hx q, hp, hq]
    have h1 := hmono p q hpq
    have h2 : ¬ q < p := not_lt.mpr (le_of_lt hpq)
    simp [h1, h2]
  · rw [hx p, hx q, hp, hq]
    have h1 := hv p
    simp [h1.ne]
  · rw [hx p, hx q, hp, hq]
    have h2 : ¬ q < p := not_lt.mpr (le_of_lt hpq)
    simp [h2]

end Cert.Proof.Val
-- ==== Proof.Val.RefOut.lean ====
module

public import proofs.«01_k».proof.Proof.Val.RefLoop
public import proofs.«01_k».proof.Proof.Val.Partition
public import Idealize.ShloMosaic.Lib.Routing.Ops
public import Idealize.ShloMosaic.Lib.Routing.OpsPair

@[expose] public section

set_option maxRecDepth 8192

noncomputable section

namespace Cert.Proof.Val
open Idealize.ShloMosaic Cert.ReferenceIdeal Cert.ReferenceIdeal.Gen
open Idealize.ShloMosaic.StableHlo
open Cert.Proof.Nms (rankE)

/-! # The reference's last selection -/

theorem neg_inf : Ideal.ofBits FTy.f32 4286578688#32 = (⊥ : EReal) := by simp [Ideal.ofBits, Ideal.ieee]

variable (V : Valuation Cert.ReferenceIdeal.τ Cert.ReferenceIdeal.sig (Elt Ideal)) (B : ℕ → Bool)

/-- The selected scores, as extended reals. -/
def scoreAt (i : Fin 1000) : EReal := (V (Proc.devRef .tc main_values) : FVec Ideal S1000 .f32) (ix1 i)

/-- The scores the last selection ranks. -/
def struck : FVec Ideal S1000 .f32 :=
  select (V (Proc.devRef .tc main_v198_4) : IVec S1000 1)
    (broadcastInDim S1000 ![] bcast_S_S1000 (id (constant S_ FTy.f32 4286578688#32))) (V (Proc.devRef .tc main_values) : FVec Ideal S1000 .f32)

section
variable (h4 : ∀ j : Fin 1000, (V (Proc.devRef .tc main_v198_4) : IVec S1000 1) (ix1 j) = BitVec.ofBool (B j.val))
  (hmono : ∀ i j : Fin 1000, i < j → scoreAt V j ≤ scoreAt V i)
  (hv : ∀ i : Fin 1000, ⊥ < scoreAt V i)
include h4

theorem struck_at (j : Fin 1000) : (struck V (ix1 j) : EReal) = if B j.val then ⊥ else scoreAt V j := by
  unfold struck
  pointwise []
  rw [h4 j]
  cases B j.val
  · rfl
  · exact neg_inf

include hmono hv

theorem struck_pick (r : Fin 1000) : pick (n := 1000) (k := 1000) le_rfl (struck V) r = (rankE B).symm r :=
  struck_order B _ _ (struck_at V B h4) hmono hv r

theorem ref_out_scores (r : Fin 1000) :
    ((after hostOps0_15 (after hostOps0_14 (after hostOps0_13 V)) (Proc.devRef .tc main_values_20) : FVec Ideal S1000 .f32) (ix1 r) : EReal)
      = if B ((rankE B).symm r).val then ⊥ else scoreAt V ((rankE B).symm r) := by
  rw [← struck_at V B h4, ← struck_pick V B h4 hmono hv r]
  after_reads_at
  exact topk_value (n := 1000) (k := 1000) le_rfl (struck V) _ r

theorem ref_out_boxes (r : Fin 1000) (c : Fin 4) :
    ((after hostOps0_15 (after hostOps0_14 (after hostOps0_13 V)) (Proc.devRef .tc main_v206) : FVec Ideal S1000x4 .f32) (ix2 r c) : EReal)
      = (V (Proc.devRef .tc main_v143) : FVec Ideal S1000x4 .f32) (ix2 ((rankE B).symm r) c) := by
  rw [← struck_pick V B h4 hmono hv r]
  after_reads_at
  refine Routing.gather_row gather_S1000x4_S1000x1_S1000x4_1_0_n_n_0_1_14 rfl rfl rfl rfl rfl _ _ r c _ ?_ (by norm_num)
  pointwise []
  have e := topk_index (n := 1000) (k := 1000) le_rfl (struck V) sliceFits_S1000_S1000 r
  change Scalar.select (IntOp.cmpi .slt ((Host.topK S1000 0 (FloatOps.cmpfTotal CmpDirection.gt) (struck V) sliceFits_S1000_S1000).2 (ix1 r)) 0#32) _
    ((Host.topK S1000 0 (FloatOps.cmpfTotal CmpDirection.gt) (struck V) sliceFits_S1000_S1000).2 (ix1 r)) = _
  rw [Routing.wrap_of_lt]
  · exact e
  · refine lt_of_eq_of_lt (congrArg BitVec.toNat e) ?_
    rw [BitVec.toNat_ofNat]
    have := (pick (n := 1000) (k := 1000) le_rfl (struck V) r).isLt
    omega

end

/-- The selected scores come in falling order. -/
theorem values_fall (i j : Fin 1000) (h : i < j) :
    scoreAt (after hostOps0_4 V) j ≤ scoreAt (after hostOps0_4 V) i := by
  unfold scoreAt
  after_reads_at
  exact topk_sorted (n := 12288) (k := 1000) (by norm_num) _ _ i j h

end Cert.Proof.Val
-- ==== Proof.Val.Finite.lean ====
/- Finite inputs give finite scores. -/
module

public import proofs.«01_k».proof.Proof.Val.Logits
public import proofs.«01_k».proof.Proof.Val.RefOut
public import proofs.«01_k».proof.Proof.Gen.Pre_finite
public import Idealize.ShloMosaic.Lib.ReduceAll

@[expose] public section

set_option maxRecDepth 8192

noncomputable section

namespace Cert.Proof.Val

open Cert.ReferenceIdeal Cert.ReferenceIdeal.Gen Idealize.ShloMosaic Idealize.ShloMosaic.TcCoe
open Idealize.ShloMosaic.StableHlo (after)

/-- An extended real that is a real number. -/
def IsReal (x : EReal) : Prop := ∃ r : ℝ, (r : EReal) = x

theorem IsReal.add {a b : EReal} : IsReal a → IsReal b → IsReal (a + b)
  | ⟨r, hr⟩, ⟨s, hs⟩ => ⟨r + s, by rw [← hr, ← hs]; exact EReal.coe_add r s⟩
theorem IsReal.mul {a b : EReal} : IsReal a → IsReal b → IsReal (a * b)
  | ⟨r, hr⟩, ⟨s, hs⟩ => ⟨r * s, by rw [← hr, ← hs]; exact EReal.coe_mul r s⟩
theorem IsReal.zero : IsReal 0 := ⟨0, rfl⟩
theorem IsReal.max {a b : EReal} (ha : IsReal a) (hb : IsReal b) : IsReal (max a b) := by
  rcases max_choice a b with h | h <;> rw [h] <;> assumption
theorem IsReal.sum {n : ℕ} (f : Fin n → EReal) (h : ∀ i, IsReal (f i)) : IsReal (∑ i, f i) :=
  Finset.sum_induction f IsReal (fun _ _ => IsReal.add) IsReal.zero fun i _ => h i
theorem IsReal.of_eq {a b : EReal} (e : a = b) (h : IsReal b) : IsReal a := e ▸ h
theorem IsReal.bot_lt {a : EReal} : IsReal a → ⊥ < a
  | ⟨r, hr⟩ => hr ▸ EReal.bot_lt_coe r

theorem fin_hidden (f : Fin 4096 → Fin 256 → EReal) (g : Fin 9 → Fin 256 → Fin 256 → EReal) (b : Fin 256 → EReal)
    (hf : ∀ p c, IsReal (f p c)) (hg : ∀ t c o, IsReal (g t c o)) (hb : ∀ o, IsReal (b o)) (y x : ℕ) (o : Fin 256) : IsReal (hidden f g b y x o) := by
  have hp : ∀ Y X c, IsReal (padAt f Y X c) := fun Y X c => by
    unfold padAt
    split_ifs
    exacts [hf _ _, IsReal.zero]
  have ht : ∀ t Y X, IsReal (tapSum f (g t) Y X o) := fun t Y X => IsReal.sum _ fun c => (hp Y X c).mul (hg t c o)
  unfold hidden
  exact IsReal.max ((((((((((ht _ _ _).add (ht _ _ _)).add (ht _ _ _)).add (ht _ _ _)).add (ht _ _ _)).add (ht _ _ _)).add (ht _ _ _)).add (ht _ _ _)).add (ht _ _ _)).add (hb o)) IsReal.zero

variable (V : Valuation τ sig (Elt Ideal))

/-- The inputs the scores are computed from are real numbers. -/
structure Tame : Prop where
  map : ∀ i, IsReal ((V (Proc.devRef .tc main_arg0) : Vec Ideal S1x256x64x64 .f32) i)
  taps : ∀ i, IsReal ((V (Proc.devRef .tc main_arg2) : Vec Ideal S256x256x3x3 .f32) i)
  bias : ∀ i, IsReal ((V (Proc.devRef .tc main_arg3) : Vec Ideal S256 .f32) i)
  objW : ∀ i, IsReal ((V (Proc.devRef .tc main_arg4) : Vec Ideal S3x256x1x1 .f32) i)
  objB : ∀ i, IsReal ((V (Proc.devRef .tc main_arg5) : Vec Ideal S3 .f32) i)

section
variable {V} (h : Tame V)
include h

theorem fin_logit (a : Fin 3) (y x : Fin 64) :
    IsReal ((after hostOps0_4 (rA V) (Proc.devRef .tc main_v59) : Vec Ideal S1x3x64x64 .f32) (ix4 0 a y x)) := by
  rw [ref_logits]
  unfold headAt
  refine IsReal.add (IsReal.sum _ fun k => IsReal.mul ?_ ?_) ?_
  · exact IsReal.of_eq (ref_hidden V k y x) <| fin_hidden _ _ _ (fun _ _ => h.map _) (fun _ _ _ => h.taps _) (fun _ => h.bias _) _ _ _
  · exact IsReal.of_eq (congrFun (rA_objW V) _) (h.objW _)
  · exact IsReal.of_eq (congrFun (rA_objB V) _) (h.objB _)

theorem fin_score (i : Fin 12288) : IsReal ((after hostOps0_4 (rA V) (Proc.devRef .tc main_v69) : Vec Ideal S12288 .f32) (ix1 i)) := by
  rw [ref_scores]
  exact fin_logit h _ _ _

end

theorem picks_from (i : Fin 1000) : ∃ j : Fin 12288, scoreAt (after hostOps0_4 V) i = (after hostOps0_4 V (Proc.devRef .tc main_v69) : Vec Ideal S12288 .f32) (ix1 j) := by
  unfold scoreAt
  refine ⟨pick (n := 12288) (k := 1000) (by norm_num) (after hostOps0_4 V (Proc.devRef .tc main_v69) : FVec Ideal S12288 .f32) i, ?_⟩
  refine Eq.trans ?_ (topk_value (n := 12288) (k := 1000) (by norm_num) (after hostOps0_4 V (Proc.devRef .tc main_v69) : FVec Ideal S12288 .f32) sliceFits_S12288_S1000 i)
  refine congrFun ?_ _
  after_reads_simp

theorem picks_above {V : Valuation τ sig (Elt Ideal)} (h : Tame V) (i : Fin 1000) : ⊥ < scoreAt (after hostOps0_4 (rA V)) i := by
  obtain ⟨j, e⟩ := picks_from (rA V) i
  rw [e]
  exact (fin_score h j).bot_lt

/-! ## What the precondition says -/

theorem pos_inf : Ideal.ofBits FTy.f32 2139095040#32 = (⊤ : EReal) := by simp [Ideal.ofBits, Ideal.ieee]

theorem fin_of_abs (x : EReal) (h : (FloatOps.cmpf (F := Ideal) (φ := .f32) .olt (FloatOps.absf (F := Ideal) (φ := .f32) x) (Ideal.ofBits FTy.f32 2139095040#32)) = 1#1) : IsReal x := by
  rw [Ideal.cmpf_def, Ideal.absf_def, pos_inf] at h
  have h' : max x (-x) < ⊤ := by
    by_contra hn
    simp [Ideal.cmp, hn] at h
  induction x using EReal.rec with
  | bot => simp at h'
  | coe r => exact ⟨r, rfl⟩
  | top => simp at h'

theorem both (a b : BitVec 1) (h : a &&& b = 1#1) : a = 1#1 ∧ b = 1#1 := by
  revert a b; decide

instance : Subsingleton Cert.Pre_finite.S_.Idx := ⟨fun a b => funext fun i => i.elim0⟩

theorem pre_says (a0 : Vec Ideal S1x256x64x64 .f32) (a1 : Vec Ideal S12288x4 .f32) (a2 : Vec Ideal S256x256x3x3 .f32) (a3 : Vec Ideal S256 .f32)
    (a4 : Vec Ideal S3x256x1x1 .f32) (a5 : Vec Ideal S3 .f32) (a6 : Vec Ideal S12x256x1x1 .f32) (a7 : Vec Ideal S12 .f32)
    (h : Cert.Pre_finite.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i)) := by
  have e := congrFun h (fun i => i.elim0)
  dsimp only [Cert.Pre_finite.fn, Cert.Pre_finite.fn_part1] at e
  obtain ⟨e, e5⟩ := both _ _ e
  obtain ⟨e, e4⟩ := both _ _ e
  obtain ⟨e, e3⟩ := both _ _ e
  obtain ⟨e0, e2⟩ := both _ _ e
  exact ⟨fun i => fin_of_abs _ (Host.reduce_andi_all _ _ _ _ _ e0 i), fun i => fin_of_abs _ (Host.reduce_andi_all _ _ _ _ _ e2 i),
    fun i => fin_of_abs _ (Host.reduce_andi_all _ _ _ _ _ e3 i), fun i => fin_of_abs _ (Host.reduce_andi_all _ _ _ _ _ e4 i),
    fun i => fin_of_abs _ (Host.reduce_andi_all _ _ _ _ _ e5 i)⟩

end Cert.Proof.Val
-- ==== Proof.Val.Select.lean ====
/- The boxes and the scores the kernel program selects are the ones the reference selects. -/
module

public import proofs.«01_k».proof.Proof.Val.Finite
public import proofs.«01_k».proof.Proof.Val.Mask
public import proofs.«01_k».proof.Proof.Val.RefLoop
public import proofs.«01_k».proof.Proof.Main.Frames

@[expose] public section

set_option maxRecDepth 8192

noncomputable section

namespace Cert.Proof.Val

open Idealize.ShloMosaic Idealize.ShloMosaic.TcCoe
open Cert.Proof.Main Cert.Proof.Tc
open Cert.Proof.Nms (sup mbit wordsAt dead scoreOf coordOf outS outB Alive rankE)
open Cert.ReferenceIdeal.Gen
open Cert.ReferenceIdeal.Value
open Idealize.ShloMosaic.StableHlo (after after_of_writes_sub)

variable (V : Valuation Cert.KernelIdeal.τ Cert.KernelIdeal.sig (Elt Ideal)) (V' : Valuation Cert.ReferenceIdeal.τ Cert.ReferenceIdeal.sig (Elt Ideal))

/-- The kernel program's buffers when the SparseCore kernel starts. -/
abbrev kE : Valuation Cert.KernelIdeal.τ Cert.KernelIdeal.sig (Elt Ideal) := after opsC (afterMask (kB (kA V)))
/-- The reference's buffers when its suppression loop starts. -/
abbrev rU : Valuation Cert.ReferenceIdeal.τ Cert.ReferenceIdeal.sig (Elt Ideal) := after hostOps0_12 (after hostOps0_11 (after hostOps0_10 (rB (rA V'))))

/-- The words of the mask as the SparseCore kernel gets them. -/
abbrev kWords : Vec Ideal Cert.KernelIdeal.S32768 .i32 := kE V (Proc.devRef .tc Cert.KernelIdeal.main_v111)

/-- A decoded box of the reference. -/
def boxAt (i : Fin 1000) (k : Fin 4) : EReal := (rB (rA V') (Proc.devRef .tc Cert.ReferenceIdeal.main_v143) : FVec Ideal Cert.ReferenceIdeal.S1000x4 .f32) (ix2 i k)

theorem kB_mask : (afterMask (kB (kA V)) (Proc.devRef .tc Cert.KernelIdeal.main_v110) : IVec Cert.KernelIdeal.S1024x32 32)
    = mask (kB (kA V) (Proc.devRef .tc Cert.KernelIdeal.main_v106)) (kB (kA V) (Proc.devRef .tc Cert.KernelIdeal.main_v109)) := Function.update_self ..

theorem values_keep : (kB (kA V) (Proc.devRef .tc Cert.KernelIdeal.main_values) : FVec Ideal Cert.KernelIdeal.S1000 .f32)
    = after opsB2 (after opsB1 (kA V)) (Proc.devRef .tc Cert.KernelIdeal.main_values) :=
  after_of_writes_sub opsB3 _ opsB3_writes (by decide)

section
variable {V V'} (h : Given V V')
include h

theorem row_same (i : Fin 1000) : (fun k : Fin 4 => (kB (kA V) (Proc.devRef .tc Cert.KernelIdeal.main_v106) : FVec Ideal Cert.KernelIdeal.S1024x4 .f32) (ix2 ⟨i.val, by omega⟩ k))
    = boxAt V' i := by
  funext k
  refine (rows_at _ ⟨i.val, by omega⟩ k).trans ?_
  rw [dif_pos i.isLt]
  exact congrFun (boxes_same h) _

theorem col_same (i : Fin 1000) : (fun k : Fin 4 => (kB (kA V) (Proc.devRef .tc Cert.KernelIdeal.main_v109) : FVec Ideal Cert.KernelIdeal.S4x1024 .f32) (ix2 k ⟨i.val, by omega⟩))
    = boxAt V' i := by
  funext k
  refine (cols_at _ k ⟨i.val, by omega⟩).trans ?_
  rw [dif_pos i.isLt]
  exact congrFun (boxes_same h) _

/-- A bit of the mask: the two boxes overlap too much, and the first comes first. -/
theorem bit_same (i j : Fin 1000) : mbit (wordsAt (kWords V)) i.val j.val = (clash (boxAt V' i) (boxAt V' j) && decide (i.val < j.val)) := by
  have hj := j.isLt
  have hi := i.isLt
  have hn : 32 * i.val + j.val / 32 < 32768 := by omega
  have e1 : (32 * i.val + j.val / 32) / 32 = i.val := by omega
  have e2 : (32 * i.val + j.val / 32) % 32 = j.val / 32 := by omega
  unfold mbit wordsAt
  rw [dif_pos hn]
  have ew : kWords V (ix1 ⟨32 * i.val + j.val / 32, hn⟩)
      = mask (kB (kA V) (Proc.devRef .tc Cert.KernelIdeal.main_v106)) (kB (kA V) (Proc.devRef .tc Cert.KernelIdeal.main_v109)) (ix2 ⟨i.val, by omega⟩ ⟨j.val / 32, by omega⟩) := by
    refine (words_at _ _).trans ((congrFun (kB_mask V) _).trans (congrArg _ (congrArg₂ ix2 (Fin.ext e1) (Fin.ext e2))))
  refine (congrArg (fun w : BitVec 32 => w.getLsbD (j.val % 32)) ew).trans ?_
  refine (mask_bit _ _ ⟨i.val, by omega⟩ ⟨j.val, by omega⟩).trans ?_
  rw [row_same h i, col_same h j]
  simp only [hi, hj, decide_true, Bool.and_true]

theorem bit_ref (i j : Fin 1000) : mbit (wordsAt (kWords V)) i.val j.val
    = (decide (Ideal.ofBits FTy.f32 1060320051#32 < ((rU V' (Proc.devRef .tc Cert.ReferenceIdeal.main_v198_0) : FVec Ideal Cert.ReferenceIdeal.S1000x1000 .f32) (ix2 i j) : EReal)) && decide (i.val < j.val)) := by
  rw [bit_same h]
  exact congrArg (fun x : EReal => decide (Ideal.ofBits FTy.f32 1060320051#32 < x) && decide (i.val < j.val)) (ref_iou (rB (rA V')) i j).symm

/-- After the loop the reference has marked the candidates the mask suppresses. -/
theorem marks (j : Fin 1000) : ((STEP^[1000] (rU V')) (Proc.devRef .tc Cert.ReferenceIdeal.main_v198_4) : IVec Cert.ReferenceIdeal.S1000 1) (ix1 j)
    = BitVec.ofBool (dead (kWords V) j.val) :=
  (steps (rU V') (wordsAt (kWords V)) (bit_ref h) (ref_iota _) (ref_first _) (ref_none _) 1000 le_rfl).2.2.2 j

/-- The scores the SparseCore kernel gets. -/
theorem score_in (j : Fin 1000) : (kE V (Proc.devRef .tc Cert.KernelIdeal.main_v108) : FVec Ideal Cert.KernelIdeal.S1024 .f32) (ix1 ⟨j.val, by omega⟩)
    = (rB (rA V') (Proc.devRef .tc Cert.ReferenceIdeal.main_values) : FVec Ideal Cert.ReferenceIdeal.S1000 .f32) (ix1 j) := by
  have e : (kE V (Proc.devRef .tc Cert.KernelIdeal.main_v108) : FVec Ideal Cert.KernelIdeal.S1024 .f32) = kB (kA V) (Proc.devRef .tc Cert.KernelIdeal.main_v108) :=
    (after_of_writes_sub opsC _ opsC_writes (by decide)).trans (afterMask_ne _ _ (by decide))
  refine (congrFun e _).trans ((scores_at _ _).trans ?_)
  rw [dif_pos j.isLt]
  exact (congrFun (values_keep V) _).symm.trans (congrFun (picks_same h) _)

/-- The coordinates the SparseCore kernel gets. -/
theorem coord_in (j : Fin 1000) (k : Fin 4) : (kE V (Proc.devRef .tc Cert.KernelIdeal.main_v112) : FVec Ideal Cert.KernelIdeal.S4096 .f32) (ix1 ⟨1024 * k.val + j.val, by omega⟩)
    = boxAt V' j k := by
  have e1 : (1024 * k.val + j.val) / 1024 = k.val := by omega
  have e2 : (1024 * k.val + j.val) % 1024 = j.val := by omega
  refine (coords_at _ _).trans ((congrFun (afterMask_ne _ Cert.KernelIdeal.main_v109 (by decide)) _).trans ?_)
  refine Eq.trans (congrArg _ (congrArg₂ ix2 (Fin.ext e1) (Fin.ext e2))) (congrFun (col_same h j) k)

end

/-! ## The reference's buffers from the selection on -/

theorem rU_values : (rU V' (Proc.devRef .tc Cert.ReferenceIdeal.main_values) : FVec Ideal Cert.ReferenceIdeal.S1000 .f32)
    = rB (rA V') (Proc.devRef .tc Cert.ReferenceIdeal.main_values) := by
  unfold rU
  rw [after_of_writes_sub _ _ hostOps0_12_writes (by decide), after_of_writes_sub _ _ hostOps0_11_writes (by decide), after_of_writes_sub _ _ hostOps0_10_writes (by decide)]

theorem rU_boxes : (rU V' (Proc.devRef .tc Cert.ReferenceIdeal.main_v143) : FVec Ideal Cert.ReferenceIdeal.S1000x4 .f32)
    = rB (rA V') (Proc.devRef .tc Cert.ReferenceIdeal.main_v143) := by
  unfold rU
  rw [after_of_writes_sub _ _ hostOps0_12_writes (by decide), after_of_writes_sub _ _ hostOps0_11_writes (by decide), after_of_writes_sub _ _ hostOps0_10_writes (by decide)]

theorem rB_values : (rB (rA V') (Proc.devRef .tc Cert.ReferenceIdeal.main_values) : FVec Ideal Cert.ReferenceIdeal.S1000 .f32)
    = after hostOps0_4 (rA V') (Proc.devRef .tc Cert.ReferenceIdeal.main_values) := by
  unfold rB
  rw [after_of_writes_sub _ _ hostOps0_9_writes (by decide), after_of_writes_sub _ _ hostOps0_8_writes (by decide), after_of_writes_sub _ _ hostOps0_7_writes (by decide),
    after_of_writes_sub _ _ hostOps0_6_writes (by decide), after_of_writes_sub _ _ hostOps0_5_writes (by decide)]

section
variable {V V'} (h : Given V V') (t : Tame V') (Z : Valuation Cert.ReferenceIdeal.τ Cert.ReferenceIdeal.sig (Elt Ideal))
  (z4 : (Z (Proc.devRef .tc Cert.ReferenceIdeal.main_v198_4) : IVec Cert.ReferenceIdeal.S1000 1) = (STEP^[1000] (rU V')) (Proc.devRef .tc Cert.ReferenceIdeal.main_v198_4))
  (zv : (Z (Proc.devRef .tc Cert.ReferenceIdeal.main_values) : FVec Ideal Cert.ReferenceIdeal.S1000 .f32) = rU V' (Proc.devRef .tc Cert.ReferenceIdeal.main_values))
  (zb : (Z (Proc.devRef .tc Cert.ReferenceIdeal.main_v143) : FVec Ideal Cert.ReferenceIdeal.S1000x4 .f32) = rU V' (Proc.devRef .tc Cert.ReferenceIdeal.main_v143))
include h t z4 zv zb

theorem Z_score (i : Fin 1000) : scoreAt Z i = scoreAt (after hostOps0_4 (rA V')) i := by
  exact congrFun (zv.trans ((rU_values V').trans (rB_values V'))) (ix1 i)

theorem Z_marks (j : Fin 1000) : (Z (Proc.devRef .tc Cert.ReferenceIdeal.main_v198_4) : IVec Cert.ReferenceIdeal.S1000 1) (ix1 j) = BitVec.ofBool (dead (kWords V) j.val) :=
  (congrFun z4 _).trans (marks h j)

theorem Z_fall (i j : Fin 1000) (hij : i < j) : scoreAt Z j ≤ scoreAt Z i := by
  rw [Z_score h t Z z4 zv zb, Z_score h t Z z4 zv zb]
  exact values_fall _ i j hij

theorem Z_above (i : Fin 1000) : ⊥ < scoreAt Z i := by
  rw [Z_score h t Z z4 zv zb]
  exact picks_above t i

/-- The scores the two programs end with. -/
theorem scores_out : (outS (dead (kWords V)) (kE V (Proc.devRef .tc Cert.KernelIdeal.main_v108)) : FVec Ideal Cert.KernelIdeal.S1000 .f32)
    = after hostOps0_15 (after hostOps0_14 (after hostOps0_13 Z)) (Proc.devRef .tc Cert.ReferenceIdeal.main_values_20) := by
  funext j
  obtain ⟨r, rfl⟩ : ∃ r : Fin 1000, j = ix1 r := ⟨j 0, eq_ix1 j⟩
  refine Eq.trans ?_ (ref_out_scores Z (dead (kWords V)) (Z_marks h t Z z4 zv zb) (Z_fall h t Z z4 zv zb) (Z_above h t Z z4 zv zb) r).symm
  show scoreOf _ _ ((rankE (dead (kWords V))).symm r) = _
  generalize (rankE (dead (kWords V))).symm r = q
  unfold scoreOf
  by_cases hd : dead (kWords V) q.val = true
  · rw [if_neg (fun a => by rw [a.2] at hd; exact Bool.noConfusion hd), if_pos hd]
    exact neg_inf
  · rw [if_pos ⟨q.isLt, Bool.eq_false_of_not_eq_true hd⟩, if_neg hd]
    refine (score_in h q).trans ?_
    exact (congrFun (zv.trans (rU_values V')) _).symm

/-- The boxes the two programs end with. -/
theorem boxes_out (W : Valuation Cert.KernelIdeal.τ Cert.KernelIdeal.sig (Elt Ideal))
    (hW : (W (Proc.devRef .tc Cert.KernelIdeal.main_v113_0) : FVec Ideal Cert.KernelIdeal.S4000 .f32) = outB (dead (kWords V)) (kE V (Proc.devRef .tc Cert.KernelIdeal.main_v112))) :
    (after opsD W (Proc.devRef .tc Cert.KernelIdeal.main_v114) : FVec Ideal Cert.KernelIdeal.S1000x4 .f32)
      = after hostOps0_15 (after hostOps0_14 (after hostOps0_13 Z)) (Proc.devRef .tc Cert.ReferenceIdeal.main_v206) := by
  funext j
  obtain ⟨r, k, rfl⟩ : ∃ (r : Fin 1000) (k : Fin 4), j = ix2 r k := ⟨j 0, j 1, eq_ix2 j⟩
  refine Eq.trans ?_ (ref_out_boxes Z (dead (kWords V)) (Z_marks h t Z z4 zv zb) (Z_fall h t Z z4 zv zb) (Z_above h t Z z4 zv zb) r k).symm
  refine (out_boxes W r k).trans ((congrFun hW _).trans ?_)
  have e1 : (4 * r.val + k.val) / 4 = r.val := by omega
  have e2 : (4 * r.val + k.val) % 4 = k.val := by omega
  refine Eq.trans (congrArg₂ (fun a b => coordOf (kE V (Proc.devRef .tc Cert.KernelIdeal.main_v112) : FVec Ideal Cert.KernelIdeal.S4096 .f32) ((rankE (dead (kWords V))).symm a) b)
    (Fin.ext e1 : (⟨(4 * r.val + k.val) / 4, by omega⟩ : Fin 1000) = r) (Fin.ext e2 : (⟨(4 * r.val + k.val) % 4, by omega⟩ : Fin 4) = k)) ?_
  refine (coord_in h ((rankE (dead (kWords V))).symm r) k).trans ?_
  exact (congrFun (zb.trans (rU_boxes V')) _).symm

end

end Cert.Proof.Val
-- ==== Proof.Main.Equal.lean ====
/- The two programs end with equal results. -/
module

public import proofs.«01_k».proof.Proof.Val.Select

@[expose] public section

set_option maxRecDepth 8192

noncomputable section

namespace Cert.Proof.Main

open Idealize.ShloMosaic Idealize.ShloMosaic.TcCoe
open Cert.Proof.Tc Cert.Proof.Val
open Cert.Proof.Nms (dead outS outB)
open Cert.ReferenceIdeal.Gen Cert.ReferenceIdeal.Value
open Idealize.ShloMosaic.StableHlo (after after_of_writes_sub finalContents entryContents launchContents afterL_cons afterL_nil atTrip)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- A buffer of the first part of the kernel program's second stretch that nothing later writes. -/
theorem kept_to_end (b : Ref Cert.KernelIdeal.sig .tc)
    (hB2 : b ∉ opsB2_W) (hB3 : b ∉ opsB3_W) (hC : b ∉ opsC_W) (hD : b ∉ opsD_W) (h110 : b ≠ Cert.KernelIdeal.main_v110)
    (h0 : b ≠ Cert.KernelIdeal.main_v113_0) (h1 : b ≠ Cert.KernelIdeal.main_v113_1) :
    WG m c (at' b) = after opsB1 (kA (W0 m c)) (at' b) := by
  unfold WG
  rw [after_of_writes_sub opsD _ opsD_writes hD, WF_ne m c _ (StableHlo.devRef_ne_of_ne h0) (StableHlo.devRef_ne_of_ne h1)]
  unfold WE
  rw [after_of_writes_sub opsC _ opsC_writes hC]
  unfold WD
  rw [afterMask_ne _ b h110]
  unfold WC
  rw [after_of_writes_sub opsB3 _ opsB3_writes hB3, after_of_writes_sub opsB2 _ opsB2_writes hB2]
  rfl

theorem end_scores : WG m c (at' Cert.KernelIdeal.main_v113_1)
    = (outS (dead (kWords (W0 m c))) (kE (W0 m c) (at' Cert.KernelIdeal.main_v108)) : Vec Ideal Cert.KernelIdeal.S1000 .f32) := by
  unfold WG
  rw [after_of_writes_sub opsD _ opsD_writes (by decide)]
  exact WF_scores m c

/-- The reference's entry of the loop. -/
theorem entry_eq : entryContents preI m' c = rU (launchContents m' c) := rfl

/-- The reference's buffers after the loop. -/
abbrev endLoop : Valuation Cert.ReferenceIdeal.τ Cert.ReferenceIdeal.sig (Elt Ideal) := after condOps (atTrip condOps bodyI (entryContents preI m') 1000 c)

theorem final_eq : finalContents condOps preI bodyI postI 1000 m' c = after hostOps0_15 (after hostOps0_14 (after hostOps0_13 (endLoop m' c))) := rfl

theorem loop_marks : endLoop m' c (Proc.devRef .tc Cert.ReferenceIdeal.main_v198_4) = (STEP^[1000] (rU (launchContents m' c))) (Proc.devRef .tc Cert.ReferenceIdeal.main_v198_4) :=
  (cond_keeps _ _ (by decide)).trans (atK_agree m' c 1000 _ (by decide))

theorem loop_keep (b : Ref Cert.ReferenceIdeal.sig .tc) (h : b ∉ condOps_W ++ while0Ops0_W) :
    endLoop m' c (Proc.devRef .tc b) = rU (launchContents m' c) (Proc.devRef .tc b) :=
  (after_of_writes_sub _ _ condOps_writes (fun e => h (List.mem_append_left _ e))).trans (trip_keep _ 1000 c b h)

/-- A buffer of the reference's heads that nothing later writes. -/
theorem heads_keep (b : Ref Cert.ReferenceIdeal.sig .tc) (h : b ∉ postW ++ (condOps_W ++ while0Ops0_W))
    (h' : b ∉ hostOps0_5_W ++ hostOps0_6_W ++ hostOps0_7_W ++ hostOps0_8_W ++ hostOps0_9_W ++ hostOps0_10_W ++ hostOps0_11_W ++ hostOps0_12_W) :
    finalContents condOps preI bodyI postI 1000 m' c (Proc.devRef .tc b) = after hostOps0_4 (rA (launchContents m' c)) (Proc.devRef .tc b) := by
  simp only [List.mem_append, not_or] at h'
  obtain ⟨⟨⟨⟨⟨⟨⟨h5, h6⟩, h7⟩, h8⟩, h9⟩, h10⟩, h11⟩, h12⟩ := h'
  rw [final_entry m' c b h, entry_eq]
  unfold rU rB
  rw [after_of_writes_sub _ _ hostOps0_12_writes h12, after_of_writes_sub _ _ hostOps0_11_writes h11, after_of_writes_sub _ _ hostOps0_10_writes h10,
    after_of_writes_sub _ _ hostOps0_9_writes h9, after_of_writes_sub _ _ hostOps0_8_writes h8, after_of_writes_sub _ _ hostOps0_7_writes h7,
    after_of_writes_sub _ _ hostOps0_6_writes h6, after_of_writes_sub _ _ hostOps0_5_writes h5]

section
variable (h : Given (W0 m c) (launchContents m' c))
include h

theorem result0 : (finalContents condOps preI bodyI postI 1000 m' c (Proc.devRef .tc Cert.ReferenceIdeal.main_v59) : Vec Ideal Cert.ReferenceIdeal.S1x3x64x64 .f32)
    = WG m c (at' Cert.KernelIdeal.main_v27) :=
  (heads_keep m' c _ (by decide) (by decide)).trans ((logits_same h).symm.trans (kept_to_end m c _ (by decide) (by decide) (by decide) (by decide) (by decide) (by decide) (by decide)).symm)

theorem result1 : (finalContents condOps preI bodyI postI 1000 m' c (Proc.devRef .tc Cert.ReferenceIdeal.main_v66) : Vec Ideal Cert.ReferenceIdeal.S1x12x64x64 .f32)
    = WG m c (at' Cert.KernelIdeal.main_v30) :=
  (heads_keep m' c _ (by decide) (by decide)).trans ((deltas_same h).symm.trans (kept_to_end m c _ (by decide) (by decide) (by decide) (by decide) (by decide) (by decide) (by decide)).symm)

variable (t : Tame (launchContents m' c))
include t

theorem result2 : (finalContents condOps preI bodyI postI 1000 m' c (Proc.devRef .tc Cert.ReferenceIdeal.main_v206) : Vec Ideal Cert.ReferenceIdeal.S1000x4 .f32)
    = WG m c (at' Cert.KernelIdeal.main_v114) :=
  (congrFun (final_eq m' c) _).trans (boxes_out h t (endLoop m' c) (loop_marks m' c) (loop_keep m' c _ (by decide)) (loop_keep m' c _ (by decide)) (WF m c) (WF_boxes m c)).symm

theorem result3 : (finalContents condOps preI bodyI postI 1000 m' c (Proc.devRef .tc Cert.ReferenceIdeal.main_values_20) : Vec Ideal Cert.ReferenceIdeal.S1000 .f32)
    = WG m c (at' Cert.KernelIdeal.main_v113_1) :=
  (congrFun (final_eq m' c) _).trans ((scores_out h t (endLoop m' c) (loop_marks m' c) (loop_keep m' c _ (by decide)) (loop_keep m' c _ (by decide))).symm.trans (end_scores m c).symm)

end

theorem equal_results : Cert.algebraic_KernelIdeal_ReferenceIdeal_pre_finite := by
  intro m g m' g' hp hg
  have h : ∀ c, Given (W0 m c) (launchContents m' c) := fun c =>
    ⟨(hg c).1.symm, (hg c).2.1.symm, (hg c).2.2.1.symm, (hg c).2.2.2.1.symm, (hg c).2.2.2.2.1.symm, (hg c).2.2.2.2.2.1.symm, (hg c).2.2.2.2.2.2.1.symm, (hg c).2.2.2.2.2.2.2.symm⟩
  have t : ∀ c, Tame (launchContents m' c) := fun c => by
    obtain ⟨p0, p2, p3, p4, p5⟩ := pre_says _ _ _ _ _ _ _ _ (hp c)
    exact ⟨fun i => IsReal.of_eq (congrFun (h c).map i).symm (p0 i), fun i => IsReal.of_eq (congrFun (h c).taps i).symm (p2 i),
      fun i => IsReal.of_eq (congrFun (h c).bias i).symm (p3 i), fun i => IsReal.of_eq (congrFun (h c).objW i).symm (p4 i),
      fun i => IsReal.of_eq (congrFun (h c).objB i).symm (p5 i)⟩
  refine ⟨fun c => WG m c (at' Cert.KernelIdeal.main_v27), fun c => WG m c (at' Cert.KernelIdeal.main_v30), fun c => WG m c (at' Cert.KernelIdeal.main_v114),
    fun c => WG m c (at' Cert.KernelIdeal.main_v113_1), ?_, ?_⟩
  · refine (θ_run Cert.KernelIdeal.defs _ _).mono (fun r hr c => ?_) (run_args (F := Ideal) m g)
    obtain ⟨ha, h0, h1, h2, h3⟩ := hr.1 c
    exact ⟨h0, h1, h2, h3, ha⟩
  · refine (θ_run Cert.ReferenceIdeal.defs _ _).mono (fun r hr c => ?_) (ref_args (F := Ideal) m' g')
    obtain ⟨ha, h0, h1, h2, h3⟩ := hr c
    exact ⟨h0.trans (result0 m m' c (h c)), h1.trans (result1 m m' c (h c)), h2.trans (result2 m m' c (h c) (t c)), h3.trans (result3 m m' c (h c) (t c)), ha⟩

end Cert.Proof.Main
-- ==== Proof.lean ====
/-
  The claims of the statement, put together: the frame of each program, what the idealization preserves, and the
  equality of the results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Main.Frames
public import proofs.«01_k».proof.Proof.Main.Equal

@[expose] public section

noncomputable section

namespace Cert.Proof

theorem claim : Cert.Claim := ⟨Cert.Kernel.Gen.facts, Cert.KernelIdeal.Gen.facts, Cert.ReferenceIdeal.Gen.facts, Cert.Pre_finite.Gen.facts,
  Main.frame_kernel, Main.frame_kernelIdeal, Main.frame_kernelIdeal_finite, Main.frame_reference, Main.frame_reference_finite, trivial,
  Main.equal_results⟩

end Cert.Proof

end
